-- ==== Defs.lean ====
def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_scores_finite [hPre_scores_finite : Cert.Pre_scores_finite.Facts] (m : (ℓ : Loc Cert.GqaIdeal.nD Cert.GqaIdeal.τ Cert.GqaIdeal.sig) → Buf (Elt Ideal) ℓ) : Prop :=
  ∀ c : Dev Cert.GqaIdeal.nD,
    (Cert.Pre_scores_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3))).1 = (fun _ => 1#1)
    ∧ (Cert.Pre_scores_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3))).2.1 = (fun _ => 1#1)
    ∧ (Cert.Pre_scores_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3))).2.2 = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_scores_finite [hPre_scores_finite : Cert.Pre_scores_finite.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_scores_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3))).1 = (fun _ => 1#1)
    ∧ (Cert.Pre_scores_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3))).2.1 = (fun _ => 1#1)
    ∧ (Cert.Pre_scores_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3))).2.2 = (fun _ => 1#1)

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_all_finite [hPre_all_finite : Cert.Pre_all_finite.Facts] (m : (ℓ : Loc Cert.DiffIdeal.nD Cert.DiffIdeal.τ Cert.DiffIdeal.sig) → Buf (Elt Ideal) ℓ) : Prop :=
  ∀ c : Dev Cert.DiffIdeal.nD,
    (Cert.Pre_all_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7)) (m ((c.tc : Thread Cert.DiffIdeal.nD Cert.DiffIdeal.τ).loc Cert.DiffIdeal.main_arg8))).1 = (fun _ => 1#1)
    ∧ (Cert.Pre_all_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7)) (m ((c.tc : Thread Cert.DiffIdeal.nD Cert.DiffIdeal.τ).loc Cert.DiffIdeal.main_arg8))).2.1 = (fun _ => 1#1)
    ∧ (Cert.Pre_all_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7)) (m ((c.tc : Thread Cert.DiffIdeal.nD Cert.DiffIdeal.τ).loc Cert.DiffIdeal.main_arg8))).2.2.1 = (fun _ => 1#1)
    ∧ (Cert.Pre_all_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7)) (m ((c.tc : Thread Cert.DiffIdeal.nD Cert.DiffIdeal.τ).loc Cert.DiffIdeal.main_arg8))).2.2.2.1 = (fun _ => 1#1)
    ∧ (Cert.Pre_all_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7)) (m ((c.tc : Thread Cert.DiffIdeal.nD Cert.DiffIdeal.τ).loc Cert.DiffIdeal.main_arg8))).2.2.2.2.1 = (fun _ => 1#1)
    ∧ (Cert.Pre_all_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7)) (m ((c.tc : Thread Cert.DiffIdeal.nD Cert.DiffIdeal.τ).loc Cert.DiffIdeal.main_arg8))).2.2.2.2.2.1 = (fun _ => 1#1)
    ∧ (Cert.Pre_all_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7)) (m ((c.tc : Thread Cert.DiffIdeal.nD Cert.DiffIdeal.τ).loc Cert.DiffIdeal.main_arg8))).2.2.2.2.2.2.1 = (fun _ => 1#1)
    ∧ (Cert.Pre_all_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7)) (m ((c.tc : Thread Cert.DiffIdeal.nD Cert.DiffIdeal.τ).loc Cert.DiffIdeal.main_arg8))).2.2.2.2.2.2.2 = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_all_finite [hPre_all_finite : Cert.Pre_all_finite.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_all_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7)) (m ((c.tc : Thread Cert.DiffRefIdeal.nD Cert.DiffRefIdeal.τ).loc Cert.DiffRefIdeal.main_arg8))).1 = (fun _ => 1#1)
    ∧ (Cert.Pre_all_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7)) (m ((c.tc : Thread Cert.DiffRefIdeal.nD Cert.DiffRefIdeal.τ).loc Cert.DiffRefIdeal.main_arg8))).2.1 = (fun _ => 1#1)
    ∧ (Cert.Pre_all_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7)) (m ((c.tc : Thread Cert.DiffRefIdeal.nD Cert.DiffRefIdeal.τ).loc Cert.DiffRefIdeal.main_arg8))).2.2.1 = (fun _ => 1#1)
    ∧ (Cert.Pre_all_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7)) (m ((c.tc : Thread Cert.DiffRefIdeal.nD Cert.DiffRefIdeal.τ).loc Cert.DiffRefIdeal.main_arg8))).2.2.2.1 = (fun _ => 1#1)
    ∧ (Cert.Pre_all_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7)) (m ((c.tc : Thread Cert.DiffRefIdeal.nD Cert.DiffRefIdeal.τ).loc Cert.DiffRefIdeal.main_arg8))).2.2.2.2.1 = (fun _ => 1#1)
    ∧ (Cert.Pre_all_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7)) (m ((c.tc : Thread Cert.DiffRefIdeal.nD Cert.DiffRefIdeal.τ).loc Cert.DiffRefIdeal.main_arg8))).2.2.2.2.2.1 = (fun _ => 1#1)
    ∧ (Cert.Pre_all_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7)) (m ((c.tc : Thread Cert.DiffRefIdeal.nD Cert.DiffRefIdeal.τ).loc Cert.DiffRefIdeal.main_arg8))).2.2.2.2.2.2.1 = (fun _ => 1#1)
    ∧ (Cert.Pre_all_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7)) (m ((c.tc : Thread Cert.DiffRefIdeal.nD Cert.DiffRefIdeal.τ).loc Cert.DiffRefIdeal.main_arg8))).2.2.2.2.2.2.2 = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2)
      ∧ r.2.mem ((c.tc : Thread Cert.Gqa.nD Cert.Gqa.τ).loc Cert.Gqa.main_arg3) = m ((c.tc : Thread Cert.Gqa.nD Cert.Gqa.τ).loc Cert.Gqa.main_arg3))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3))
      ∧ r.2.sem = fun _ => 0)

def quiescent_GqaIdeal_pre_scores_finite [hGqaIdeal : Cert.GqaIdeal.Facts] [hPre_scores_finite : Cert.Pre_scores_finite.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_scores_finite m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3))
      ∧ r.2.sem = fun _ => 0)

def quiescent_GqaRefIdeal_pre_scores_finite [hGqaRefIdeal : Cert.GqaRefIdeal.Facts] [hPre_scores_finite : Cert.Pre_scores_finite.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_scores_finite m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5)
      ∧ r.2.mem ((c.tc : Thread Cert.Diff.nD Cert.Diff.τ).loc Cert.Diff.main_arg6) = m ((c.tc : Thread Cert.Diff.nD Cert.Diff.τ).loc Cert.Diff.main_arg6)
      ∧ r.2.mem ((c.tc : Thread Cert.Diff.nD Cert.Diff.τ).loc Cert.Diff.main_arg7) = m ((c.tc : Thread Cert.Diff.nD Cert.Diff.τ).loc Cert.Diff.main_arg7)
      ∧ r.2.mem ((c.tc : Thread Cert.Diff.nD Cert.Diff.τ).loc Cert.Diff.main_arg8) = m ((c.tc : Thread Cert.Diff.nD Cert.Diff.τ).loc Cert.Diff.main_arg8))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
      ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7)
      ∧ r.2.mem ((c.tc : Thread Cert.DiffIdeal.nD Cert.DiffIdeal.τ).loc Cert.DiffIdeal.main_arg8) = m ((c.tc : Thread Cert.DiffIdeal.nD Cert.DiffIdeal.τ).loc Cert.DiffIdeal.main_arg8))
      ∧ r.2.sem = fun _ => 0)

def quiescent_DiffIdeal_pre_all_finite [hDiffIdeal : Cert.DiffIdeal.Facts] [hPre_all_finite : Cert.Pre_all_finite.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_all_finite m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
      ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7)
      ∧ r.2.mem ((c.tc : Thread Cert.DiffIdeal.nD Cert.DiffIdeal.τ).loc Cert.DiffIdeal.main_arg8) = m ((c.tc : Thread Cert.DiffIdeal.nD Cert.DiffIdeal.τ).loc Cert.DiffIdeal.main_arg8))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6)
      ∧ r.2.mem ((c.tc : Thread Cert.DiffRefIdeal.nD Cert.DiffRefIdeal.τ).loc Cert.DiffRefIdeal.main_arg7) = m ((c.tc : Thread Cert.DiffRefIdeal.nD Cert.DiffRefIdeal.τ).loc Cert.DiffRefIdeal.main_arg7)
      ∧ r.2.mem ((c.tc : Thread Cert.DiffRefIdeal.nD Cert.DiffRefIdeal.τ).loc Cert.DiffRefIdeal.main_arg8) = m ((c.tc : Thread Cert.DiffRefIdeal.nD Cert.DiffRefIdeal.τ).loc Cert.DiffRefIdeal.main_arg8))
      ∧ r.2.sem = fun _ => 0)

def quiescent_DiffRefIdeal_pre_all_finite [hDiffRefIdeal : Cert.DiffRefIdeal.Facts] [hPre_all_finite : Cert.Pre_all_finite.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_all_finite m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6)
      ∧ r.2.mem ((c.tc : Thread Cert.DiffRefIdeal.nD Cert.DiffRefIdeal.τ).loc Cert.DiffRefIdeal.main_arg7) = m ((c.tc : Thread Cert.DiffRefIdeal.nD Cert.DiffRefIdeal.τ).loc Cert.DiffRefIdeal.main_arg7)
      ∧ r.2.mem ((c.tc : Thread Cert.DiffRefIdeal.nD Cert.DiffRefIdeal.τ).loc Cert.DiffRefIdeal.main_arg8) = m ((c.tc : Thread Cert.DiffRefIdeal.nD Cert.DiffRefIdeal.τ).loc Cert.DiffRefIdeal.main_arg8))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9)
      ∧ r.2.mem ((c.tc : Thread Cert.Out.nD Cert.Out.τ).loc Cert.Out.main_arg10) = m ((c.tc : Thread Cert.Out.nD Cert.Out.τ).loc Cert.Out.main_arg10))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9)
      ∧ r.2.mem ((c.tc : Thread Cert.OutRefIdeal.nD Cert.OutRefIdeal.τ).loc Cert.OutRefIdeal.main_arg10) = m ((c.tc : Thread Cert.OutRefIdeal.nD Cert.OutRefIdeal.τ).loc Cert.OutRefIdeal.main_arg10))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6)
      ∧ r.2.mem ((c.tc : Thread Cert.In.nD Cert.In.τ).loc Cert.In.main_arg7) = m ((c.tc : Thread Cert.In.nD Cert.In.τ).loc Cert.In.main_arg7)
      ∧ r.2.mem ((c.tc : Thread Cert.In.nD Cert.In.τ).loc Cert.In.main_arg8) = m ((c.tc : Thread Cert.In.nD Cert.In.τ).loc Cert.In.main_arg8)
      ∧ r.2.mem ((c.tc : Thread Cert.In.nD Cert.In.τ).loc Cert.In.main_arg9) = m ((c.tc : Thread Cert.In.nD Cert.In.τ).loc Cert.In.main_arg9)
      ∧ r.2.mem ((c.tc : Thread Cert.In.nD Cert.In.τ).loc Cert.In.main_arg10) = m ((c.tc : Thread Cert.In.nD Cert.In.τ).loc Cert.In.main_arg10)
      ∧ r.2.mem ((c.tc : Thread Cert.In.nD Cert.In.τ).loc Cert.In.main_arg11) = m ((c.tc : Thread Cert.In.nD Cert.In.τ).loc Cert.In.main_arg11)
      ∧ r.2.mem ((c.tc : Thread Cert.In.nD Cert.In.τ).loc Cert.In.main_arg12) = m ((c.tc : Thread Cert.In.nD Cert.In.τ).loc Cert.In.main_arg12)
      ∧ r.2.mem ((c.tc : Thread Cert.In.nD Cert.In.τ).loc Cert.In.main_arg13) = m ((c.tc : Thread Cert.In.nD Cert.In.τ).loc Cert.In.main_arg13)
      ∧ r.2.mem ((c.tc : Thread Cert.In.nD Cert.In.τ).loc Cert.In.main_arg14) = m ((c.tc : Thread Cert.In.nD Cert.In.τ).loc Cert.In.main_arg14))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7)
      ∧ r.2.mem ((c.tc : Thread Cert.InIdeal.nD Cert.InIdeal.τ).loc Cert.InIdeal.main_arg8) = m ((c.tc : Thread Cert.InIdeal.nD Cert.InIdeal.τ).loc Cert.InIdeal.main_arg8)
      ∧ r.2.mem ((c.tc : Thread Cert.InIdeal.nD Cert.InIdeal.τ).loc Cert.InIdeal.main_arg9) = m ((c.tc : Thread Cert.InIdeal.nD Cert.InIdeal.τ).loc Cert.InIdeal.main_arg9)
      ∧ r.2.mem ((c.tc : Thread Cert.InIdeal.nD Cert.InIdeal.τ).loc Cert.InIdeal.main_arg10) = m ((c.tc : Thread Cert.InIdeal.nD Cert.InIdeal.τ).loc Cert.InIdeal.main_arg10)
      ∧ r.2.mem ((c.tc : Thread Cert.InIdeal.nD Cert.InIdeal.τ).loc Cert.InIdeal.main_arg11) = m ((c.tc : Thread Cert.InIdeal.nD Cert.InIdeal.τ).loc Cert.InIdeal.main_arg11)
      ∧ r.2.mem ((c.tc : Thread Cert.InIdeal.nD Cert.InIdeal.τ).loc Cert.InIdeal.main_arg12) = m ((c.tc : Thread Cert.InIdeal.nD Cert.InIdeal.τ).loc Cert.InIdeal.main_arg12)
      ∧ r.2.mem ((c.tc : Thread Cert.InIdeal.nD Cert.InIdeal.τ).loc Cert.InIdeal.main_arg13) = m ((c.tc : Thread Cert.InIdeal.nD Cert.InIdeal.τ).loc Cert.InIdeal.main_arg13)
      ∧ r.2.mem ((c.tc : Thread Cert.InIdeal.nD Cert.InIdeal.τ).loc Cert.InIdeal.main_arg14) = m ((c.tc : Thread Cert.InIdeal.nD Cert.InIdeal.τ).loc Cert.InIdeal.main_arg14))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8)
      ∧ r.2.mem ((c.tc : Thread Cert.InRefIdeal.nD Cert.InRefIdeal.τ).loc Cert.InRefIdeal.main_arg9) = m ((c.tc : Thread Cert.InRefIdeal.nD Cert.InRefIdeal.τ).loc Cert.InRefIdeal.main_arg9)
      ∧ r.2.mem ((c.tc : Thread Cert.InRefIdeal.nD Cert.InRefIdeal.τ).loc Cert.InRefIdeal.main_arg10) = m ((c.tc : Thread Cert.InRefIdeal.nD Cert.InRefIdeal.τ).loc Cert.InRefIdeal.main_arg10)
      ∧ r.2.mem ((c.tc : Thread Cert.InRefIdeal.nD Cert.InRefIdeal.τ).loc Cert.InRefIdeal.main_arg11) = m ((c.tc : Thread Cert.InRefIdeal.nD Cert.InRefIdeal.τ).loc Cert.InRefIdeal.main_arg11)
      ∧ r.2.mem ((c.tc : Thread Cert.InRefIdeal.nD Cert.InRefIdeal.τ).loc Cert.InRefIdeal.main_arg12) = m ((c.tc : Thread Cert.InRefIdeal.nD Cert.InRefIdeal.τ).loc Cert.InRefIdeal.main_arg12)
      ∧ r.2.mem ((c.tc : Thread Cert.InRefIdeal.nD Cert.InRefIdeal.τ).loc Cert.InRefIdeal.main_arg13) = m ((c.tc : Thread Cert.InRefIdeal.nD Cert.InRefIdeal.τ).loc Cert.InRefIdeal.main_arg13)
      ∧ r.2.mem ((c.tc : Thread Cert.InRefIdeal.nD Cert.InRefIdeal.τ).loc Cert.InRefIdeal.main_arg14) = m ((c.tc : Thread Cert.InRefIdeal.nD Cert.InRefIdeal.τ).loc Cert.InRefIdeal.main_arg14))
      ∧ r.2.sem = fun _ => 0)

def preserves_Gqa_GqaIdeal : Prop :=
  True

def algebraic_GqaIdeal_GqaRefIdeal_pre_scores_finite [hGqaIdeal : Cert.GqaIdeal.Facts] [hGqaRefIdeal : Cert.GqaRefIdeal.Facts] [hPre_scores_finite : Cert.Pre_scores_finite.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_scores_finite m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)
      ∧ m' ((c.tc : Thread Cert.GqaRefIdeal.nD Cert.GqaRefIdeal.τ).loc Cert.GqaRefIdeal.main_arg3) = m ((c.tc : Thread Cert.GqaIdeal.nD Cert.GqaIdeal.τ).loc Cert.GqaIdeal.main_arg3)) →
    ∃ (v0 : (c : Dev Cert.GqaIdeal.nD) → Buf (Elt Ideal) ((c.tc : Thread Cert.GqaIdeal.nD Cert.GqaIdeal.τ).loc Cert.GqaIdeal.main_v12)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v12) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
          ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v47) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2)
          ∧ r.2.mem ((c.tc : Thread Cert.GqaRefIdeal.nD Cert.GqaRefIdeal.τ).loc Cert.GqaRefIdeal.main_arg3) = m' ((c.tc : Thread Cert.GqaRefIdeal.nD Cert.GqaRefIdeal.τ).loc Cert.GqaRefIdeal.main_arg3))

def preserves_Diff_DiffIdeal : Prop :=
  True

def algebraic_DiffIdeal_DiffRefIdeal_pre_all_finite [hDiffIdeal : Cert.DiffIdeal.Facts] [hDiffRefIdeal : Cert.DiffRefIdeal.Facts] [hPre_all_finite : Cert.Pre_all_finite.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_all_finite m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)
      ∧ m' ((c.tc : Thread Cert.DiffRefIdeal.nD Cert.DiffRefIdeal.τ).loc Cert.DiffRefIdeal.main_arg5) = m ((c.tc : Thread Cert.DiffIdeal.nD Cert.DiffIdeal.τ).loc Cert.DiffIdeal.main_arg5)
      ∧ m' ((c.tc : Thread Cert.DiffRefIdeal.nD Cert.DiffRefIdeal.τ).loc Cert.DiffRefIdeal.main_arg6) = m ((c.tc : Thread Cert.DiffIdeal.nD Cert.DiffIdeal.τ).loc Cert.DiffIdeal.main_arg6)
      ∧ m' ((c.tc : Thread Cert.DiffRefIdeal.nD Cert.DiffRefIdeal.τ).loc Cert.DiffRefIdeal.main_arg7) = m ((c.tc : Thread Cert.DiffIdeal.nD Cert.DiffIdeal.τ).loc Cert.DiffIdeal.main_arg7)
      ∧ m' ((c.tc : Thread Cert.DiffRefIdeal.nD Cert.DiffRefIdeal.τ).loc Cert.DiffRefIdeal.main_arg8) = m ((c.tc : Thread Cert.DiffIdeal.nD Cert.DiffIdeal.τ).loc Cert.DiffIdeal.main_arg8)) →
    ∃ (v0 : (c : Dev Cert.DiffIdeal.nD) → Buf (Elt Ideal) ((c.tc : Thread Cert.DiffIdeal.nD Cert.DiffIdeal.τ).loc Cert.DiffIdeal.main_v27)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v27) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
          ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
          ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
          ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7)
          ∧ r.2.mem ((c.tc : Thread Cert.DiffIdeal.nD Cert.DiffIdeal.τ).loc Cert.DiffIdeal.main_arg8) = m ((c.tc : Thread Cert.DiffIdeal.nD Cert.DiffIdeal.τ).loc Cert.DiffIdeal.main_arg8))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v97) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4)
          ∧ r.2.mem ((c.tc : Thread Cert.DiffRefIdeal.nD Cert.DiffRefIdeal.τ).loc Cert.DiffRefIdeal.main_arg5) = m' ((c.tc : Thread Cert.DiffRefIdeal.nD Cert.DiffRefIdeal.τ).loc Cert.DiffRefIdeal.main_arg5)
          ∧ r.2.mem ((c.tc : Thread Cert.DiffRefIdeal.nD Cert.DiffRefIdeal.τ).loc Cert.DiffRefIdeal.main_arg6) = m' ((c.tc : Thread Cert.DiffRefIdeal.nD Cert.DiffRefIdeal.τ).loc Cert.DiffRefIdeal.main_arg6)
          ∧ r.2.mem ((c.tc : Thread Cert.DiffRefIdeal.nD Cert.DiffRefIdeal.τ).loc Cert.DiffRefIdeal.main_arg7) = m' ((c.tc : Thread Cert.DiffRefIdeal.nD Cert.DiffRefIdeal.τ).loc Cert.DiffRefIdeal.main_arg7)
          ∧ r.2.mem ((c.tc : Thread Cert.DiffRefIdeal.nD Cert.DiffRefIdeal.τ).loc Cert.DiffRefIdeal.main_arg8) = m' ((c.tc : Thread Cert.DiffRefIdeal.nD Cert.DiffRefIdeal.τ).loc Cert.DiffRefIdeal.main_arg8))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)
      ∧ m' ((c.tc : Thread Cert.OutRefIdeal.nD Cert.OutRefIdeal.τ).loc Cert.OutRefIdeal.main_arg10) = m ((c.tc : Thread Cert.OutIdeal.nD Cert.OutIdeal.τ).loc Cert.OutIdeal.main_arg10)) →
    ∃ (v0 : (c : Dev Cert.OutIdeal.nD) → Buf (Elt Ideal) ((c.tc : Thread Cert.OutIdeal.nD Cert.OutIdeal.τ).loc Cert.OutIdeal.main_v12_0)) (v1 : (c : Dev Cert.OutIdeal.nD) → Buf (Elt Ideal) ((c.tc : Thread Cert.OutIdeal.nD Cert.OutIdeal.τ).loc Cert.OutIdeal.main_v12_1)) (v2 : (c : Dev Cert.OutIdeal.nD) → Buf (Elt Ideal) ((c.tc : Thread Cert.OutIdeal.nD Cert.OutIdeal.τ).loc Cert.OutIdeal.main_v12_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v12_0) = v0 c
          ∧ r.2.mem ((c.tc : Thread Cert.OutIdeal.nD Cert.OutIdeal.τ).loc Cert.OutIdeal.main_v12_1) = v1 c
          ∧ r.2.mem ((c.tc : Thread Cert.OutIdeal.nD Cert.OutIdeal.τ).loc Cert.OutIdeal.main_v12_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
          ∧ r.2.mem ((c.tc : Thread Cert.OutIdeal.nD Cert.OutIdeal.τ).loc Cert.OutIdeal.main_arg10) = m ((c.tc : Thread Cert.OutIdeal.nD Cert.OutIdeal.τ).loc Cert.OutIdeal.main_arg10))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v124) = v0 c
          ∧ r.2.mem ((c.tc : Thread Cert.OutRefIdeal.nD Cert.OutRefIdeal.τ).loc Cert.OutRefIdeal.main_v126) = v1 c
          ∧ r.2.mem ((c.tc : Thread Cert.OutRefIdeal.nD Cert.OutRefIdeal.τ).loc Cert.OutRefIdeal.main_v127) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9)
          ∧ r.2.mem ((c.tc : Thread Cert.OutRefIdeal.nD Cert.OutRefIdeal.τ).loc Cert.OutRefIdeal.main_arg10) = m' ((c.tc : Thread Cert.OutRefIdeal.nD Cert.OutRefIdeal.τ).loc Cert.OutRefIdeal.main_arg10))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)
      ∧ m' ((c.tc : Thread Cert.InRefIdeal.nD Cert.InRefIdeal.τ).loc Cert.InRefIdeal.main_arg6) = m ((c.tc : Thread Cert.InIdeal.nD Cert.InIdeal.τ).loc Cert.InIdeal.main_arg6)
      ∧ m' ((c.tc : Thread Cert.InRefIdeal.nD Cert.InRefIdeal.τ).loc Cert.InRefIdeal.main_arg7) = m ((c.tc : Thread Cert.InIdeal.nD Cert.InIdeal.τ).loc Cert.InIdeal.main_arg7)
      ∧ m' ((c.tc : Thread Cert.InRefIdeal.nD Cert.InRefIdeal.τ).loc Cert.InRefIdeal.main_arg8) = m ((c.tc : Thread Cert.InIdeal.nD Cert.InIdeal.τ).loc Cert.InIdeal.main_arg8)
      ∧ m' ((c.tc : Thread Cert.InRefIdeal.nD Cert.InRefIdeal.τ).loc Cert.InRefIdeal.main_arg9) = m ((c.tc : Thread Cert.InIdeal.nD Cert.InIdeal.τ).loc Cert.InIdeal.main_arg9)
      ∧ m' ((c.tc : Thread Cert.InRefIdeal.nD Cert.InRefIdeal.τ).loc Cert.InRefIdeal.main_arg10) = m ((c.tc : Thread Cert.InIdeal.nD Cert.InIdeal.τ).loc Cert.InIdeal.main_arg10)
      ∧ m' ((c.tc : Thread Cert.InRefIdeal.nD Cert.InRefIdeal.τ).loc Cert.InRefIdeal.main_arg11) = m ((c.tc : Thread Cert.InIdeal.nD Cert.InIdeal.τ).loc Cert.InIdeal.main_arg11)
      ∧ m' ((c.tc : Thread Cert.InRefIdeal.nD Cert.InRefIdeal.τ).loc Cert.InRefIdeal.main_arg12) = m ((c.tc : Thread Cert.InIdeal.nD Cert.InIdeal.τ).loc Cert.InIdeal.main_arg12)
      ∧ m' ((c.tc : Thread Cert.InRefIdeal.nD Cert.InRefIdeal.τ).loc Cert.InRefIdeal.main_arg13) = m ((c.tc : Thread Cert.InIdeal.nD Cert.InIdeal.τ).loc Cert.InIdeal.main_arg13)
      ∧ m' ((c.tc : Thread Cert.InRefIdeal.nD Cert.InRefIdeal.τ).loc Cert.InRefIdeal.main_arg14) = m ((c.tc : Thread Cert.InIdeal.nD Cert.InIdeal.τ).loc Cert.InIdeal.main_arg14)) →
    ∃ (v0 : (c : Dev Cert.InIdeal.nD) → Buf (Elt Ideal) ((c.tc : Thread Cert.InIdeal.nD Cert.InIdeal.τ).loc Cert.InIdeal.main_v55_6)) (v1 : (c : Dev Cert.InIdeal.nD) → Buf (Elt Ideal) ((c.tc : Thread Cert.InIdeal.nD Cert.InIdeal.τ).loc Cert.InIdeal.main_v55_9)) (v2 : (c : Dev Cert.InIdeal.nD) → Buf (Elt Ideal) ((c.tc : Thread Cert.InIdeal.nD Cert.InIdeal.τ).loc Cert.InIdeal.main_v55_10)) (v3 : (c : Dev Cert.InIdeal.nD) → Buf (Elt Ideal) ((c.tc : Thread Cert.InIdeal.nD Cert.InIdeal.τ).loc Cert.InIdeal.main_v55_2)) (v4 : (c : Dev Cert.InIdeal.nD) → Buf (Elt Ideal) ((c.tc : Thread Cert.InIdeal.nD Cert.InIdeal.τ).loc Cert.InIdeal.main_v55_5)) (v5 : (c : Dev Cert.InIdeal.nD) → Buf (Elt Ideal) ((c.tc : Thread Cert.InIdeal.nD Cert.InIdeal.τ).loc Cert.InIdeal.main_v55_7)) (v6 : (c : Dev Cert.InIdeal.nD) → Buf (Elt Ideal) ((c.tc : Thread Cert.InIdeal.nD Cert.InIdeal.τ).loc Cert.InIdeal.main_v55_8)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v55_6) = v0 c
          ∧ r.2.mem ((c.tc : Thread Cert.InIdeal.nD Cert.InIdeal.τ).loc Cert.InIdeal.main_v55_9) = v1 c
          ∧ r.2.mem ((c.tc : Thread Cert.InIdeal.nD Cert.InIdeal.τ).loc Cert.InIdeal.main_v55_10) = v2 c
          ∧ r.2.mem ((c.tc : Thread Cert.InIdeal.nD Cert.InIdeal.τ).loc Cert.InIdeal.main_v55_2) = v3 c
          ∧ r.2.mem ((c.tc : Thread Cert.InIdeal.nD Cert.InIdeal.τ).loc Cert.InIdeal.main_v55_5) = v4 c
          ∧ r.2.mem ((c.tc : Thread Cert.InIdeal.nD Cert.InIdeal.τ).loc Cert.InIdeal.main_v55_7) = v5 c
          ∧ r.2.mem ((c.tc : Thread Cert.InIdeal.nD Cert.InIdeal.τ).loc Cert.InIdeal.main_v55_8) = v6 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6)
          ∧ r.2.mem ((c.tc : Thread Cert.InIdeal.nD Cert.InIdeal.τ).loc Cert.InIdeal.main_arg7) = m ((c.tc : Thread Cert.InIdeal.nD Cert.InIdeal.τ).loc Cert.InIdeal.main_arg7)
          ∧ r.2.mem ((c.tc : Thread Cert.InIdeal.nD Cert.InIdeal.τ).loc Cert.InIdeal.main_arg8) = m ((c.tc : Thread Cert.InIdeal.nD Cert.InIdeal.τ).loc Cert.InIdeal.main_arg8)
          ∧ r.2.mem ((c.tc : Thread Cert.InIdeal.nD Cert.InIdeal.τ).loc Cert.InIdeal.main_arg9) = m ((c.tc : Thread Cert.InIdeal.nD Cert.InIdeal.τ).loc Cert.InIdeal.main_arg9)
          ∧ r.2.mem ((c.tc : Thread Cert.InIdeal.nD Cert.InIdeal.τ).loc Cert.InIdeal.main_arg10) = m ((c.tc : Thread Cert.InIdeal.nD Cert.InIdeal.τ).loc Cert.InIdeal.main_arg10)
          ∧ r.2.mem ((c.tc : Thread Cert.InIdeal.nD Cert.InIdeal.τ).loc Cert.InIdeal.main_arg11) = m ((c.tc : Thread Cert.InIdeal.nD Cert.InIdeal.τ).loc Cert.InIdeal.main_arg11)
          ∧ r.2.mem ((c.tc : Thread Cert.InIdeal.nD Cert.InIdeal.τ).loc Cert.InIdeal.main_arg12) = m ((c.tc : Thread Cert.InIdeal.nD Cert.InIdeal.τ).loc Cert.InIdeal.main_arg12)
          ∧ r.2.mem ((c.tc : Thread Cert.InIdeal.nD Cert.InIdeal.τ).loc Cert.InIdeal.main_arg13) = m ((c.tc : Thread Cert.InIdeal.nD Cert.InIdeal.τ).loc Cert.InIdeal.main_arg13)
          ∧ r.2.mem ((c.tc : Thread Cert.InIdeal.nD Cert.InIdeal.τ).loc Cert.InIdeal.main_arg14) = m ((c.tc : Thread Cert.InIdeal.nD Cert.InIdeal.τ).loc Cert.InIdeal.main_arg14))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v64) = v0 c
          ∧ r.2.mem ((c.tc : Thread Cert.InRefIdeal.nD Cert.InRefIdeal.τ).loc Cert.InRefIdeal.main_v65) = v1 c
          ∧ r.2.mem ((c.tc : Thread Cert.InRefIdeal.nD Cert.InRefIdeal.τ).loc Cert.InRefIdeal.main_v67) = v2 c
          ∧ r.2.mem ((c.tc : Thread Cert.InRefIdeal.nD Cert.InRefIdeal.τ).loc Cert.InRefIdeal.main_v74) = v3 c
          ∧ r.2.mem ((c.tc : Thread Cert.InRefIdeal.nD Cert.InRefIdeal.τ).loc Cert.InRefIdeal.main_v79) = v4 c
          ∧ r.2.mem ((c.tc : Thread Cert.InRefIdeal.nD Cert.InRefIdeal.τ).loc Cert.InRefIdeal.main_v137) = v5 c
          ∧ r.2.mem ((c.tc : Thread Cert.InRefIdeal.nD Cert.InRefIdeal.τ).loc Cert.InRefIdeal.main_v140) = v6 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6)
          ∧ r.2.mem ((c.tc : Thread Cert.InRefIdeal.nD Cert.InRefIdeal.τ).loc Cert.InRefIdeal.main_arg7) = m' ((c.tc : Thread Cert.InRefIdeal.nD Cert.InRefIdeal.τ).loc Cert.InRefIdeal.main_arg7)
          ∧ r.2.mem ((c.tc : Thread Cert.InRefIdeal.nD Cert.InRefIdeal.τ).loc Cert.InRefIdeal.main_arg8) = m' ((c.tc : Thread Cert.InRefIdeal.nD Cert.InRefIdeal.τ).loc Cert.InRefIdeal.main_arg8)
          ∧ r.2.mem ((c.tc : Thread Cert.InRefIdeal.nD Cert.InRefIdeal.τ).loc Cert.InRefIdeal.main_arg9) = m' ((c.tc : Thread Cert.InRefIdeal.nD Cert.InRefIdeal.τ).loc Cert.InRefIdeal.main_arg9)
          ∧ r.2.mem ((c.tc : Thread Cert.InRefIdeal.nD Cert.InRefIdeal.τ).loc Cert.InRefIdeal.main_arg10) = m' ((c.tc : Thread Cert.InRefIdeal.nD Cert.InRefIdeal.τ).loc Cert.InRefIdeal.main_arg10)
          ∧ r.2.mem ((c.tc : Thread Cert.InRefIdeal.nD Cert.InRefIdeal.τ).loc Cert.InRefIdeal.main_arg11) = m' ((c.tc : Thread Cert.InRefIdeal.nD Cert.InRefIdeal.τ).loc Cert.InRefIdeal.main_arg11)
          ∧ r.2.mem ((c.tc : Thread Cert.InRefIdeal.nD Cert.InRefIdeal.τ).loc Cert.InRefIdeal.main_arg12) = m' ((c.tc : Thread Cert.InRefIdeal.nD Cert.InRefIdeal.τ).loc Cert.InRefIdeal.main_arg12)
          ∧ r.2.mem ((c.tc : Thread Cert.InRefIdeal.nD Cert.InRefIdeal.τ).loc Cert.InRefIdeal.main_arg13) = m' ((c.tc : Thread Cert.InRefIdeal.nD Cert.InRefIdeal.τ).loc Cert.InRefIdeal.main_arg13)
          ∧ r.2.mem ((c.tc : Thread Cert.InRefIdeal.nD Cert.InRefIdeal.τ).loc Cert.InRefIdeal.main_arg14) = m' ((c.tc : Thread Cert.InRefIdeal.nD Cert.InRefIdeal.τ).loc Cert.InRefIdeal.main_arg14))

def Claim : Prop :=
  ∃ (hGqa : Cert.Gqa.Facts) (hGqaIdeal : Cert.GqaIdeal.Facts) (hGqaRefIdeal : Cert.GqaRefIdeal.Facts) (hDiff : Cert.Diff.Facts) (hDiffIdeal : Cert.DiffIdeal.Facts) (hDiffRefIdeal : Cert.DiffRefIdeal.Facts) (hOut : Cert.Out.Facts) (hOutIdeal : Cert.OutIdeal.Facts) (hOutRefIdeal : Cert.OutRefIdeal.Facts) (hIn : Cert.In.Facts) (hInIdeal : Cert.InIdeal.Facts) (hInRefIdeal : Cert.InRefIdeal.Facts) (hPre_scores_finite : Cert.Pre_scores_finite.Facts) (hPre_all_finite : Cert.Pre_all_finite.Facts),
    quiescent_Gqa (hGqa := hGqa)
    ∧ quiescent_GqaIdeal (hGqaIdeal := hGqaIdeal)
    ∧ quiescent_GqaIdeal_pre_scores_finite (hGqaIdeal := hGqaIdeal) (hPre_scores_finite := hPre_scores_finite)
    ∧ quiescent_GqaRefIdeal (hGqaRefIdeal := hGqaRefIdeal)
    ∧ quiescent_GqaRefIdeal_pre_scores_finite (hGqaRefIdeal := hGqaRefIdeal) (hPre_scores_finite := hPre_scores_finite)
    ∧ quiescent_Diff (hDiff := hDiff)
    ∧ quiescent_DiffIdeal (hDiffIdeal := hDiffIdeal)
    ∧ quiescent_DiffIdeal_pre_all_finite (hDiffIdeal := hDiffIdeal) (hPre_all_finite := hPre_all_finite)
    ∧ quiescent_DiffRefIdeal (hDiffRefIdeal := hDiffRefIdeal)
    ∧ quiescent_DiffRefIdeal_pre_all_finite (hDiffRefIdeal := hDiffRefIdeal) (hPre_all_finite := hPre_all_finite)
    ∧ quiescent_Out (hOut := hOut)
    ∧ quiescent_OutIdeal (hOutIdeal := hOutIdeal)
    ∧ quiescent_OutRefIdeal (hOutRefIdeal := hOutRefIdeal)
    ∧ quiescent_In (hIn := hIn)
    ∧ quiescent_InIdeal (hInIdeal := hInIdeal)
    ∧ quiescent_InRefIdeal (hInRefIdeal := hInRefIdeal)
    ∧ preserves_Gqa_GqaIdeal
    ∧ algebraic_GqaIdeal_GqaRefIdeal_pre_scores_finite (hGqaIdeal := hGqaIdeal) (hGqaRefIdeal := hGqaRefIdeal) (hPre_scores_finite := hPre_scores_finite)
    ∧ preserves_Diff_DiffIdeal
    ∧ algebraic_DiffIdeal_DiffRefIdeal_pre_all_finite (hDiffIdeal := hDiffIdeal) (hDiffRefIdeal := hDiffRefIdeal) (hPre_all_finite := hPre_all_finite)
    ∧ preserves_Out_OutIdeal
    ∧ algebraic_OutIdeal_OutRefIdeal (hOutIdeal := hOutIdeal) (hOutRefIdeal := hOutRefIdeal)
    ∧ preserves_In_InIdeal
    ∧ algebraic_InIdeal_InRefIdeal (hInIdeal := hInIdeal) (hInRefIdeal := hInRefIdeal)
-- ==== Pre_all_finite.lean ====
abbrev S1 : Shape := ⟨1, ![1]⟩
abbrev S64 : Shape := ⟨1, ![64]⟩
abbrev S2x4x16640x128 : Shape := ⟨4, ![2, 4, 16640, 128]⟩
abbrev S2x16640x512 : Shape := ⟨3, ![2, 16640, 512]⟩
abbrev S128 : Shape := ⟨1, ![128]⟩
abbrev S_ : Shape := ⟨0, ![]⟩

class Facts : Prop where
  bcast_S_S1 : S_.BroadcastsInDim S1 (![] : Fin 0 → Fin S1.rank)
  bcast_S_S64 : S_.BroadcastsInDim S64 (![] : Fin 0 → Fin S64.rank)
  bcast_S_S2x4x16640x128 : S_.BroadcastsInDim S2x4x16640x128 (![] : Fin 0 → Fin S2x4x16640x128.rank)
  bcast_S_S2x16640x512 : S_.BroadcastsInDim S2x16640x512 (![] : Fin 0 → Fin S2x16640x512.rank)

variable [Facts]

def fn_part2 {F : FTy → Type} [FloatOps F] (main_arg7 : FVec F S2x16640x512 .f32) (main_v4 : IVec S1 1) (main_v9 : IVec S64 1) (main_v14 : IVec S64 1) (main_v19 : IVec S64 1) (main_v24 : IVec S64 1) (main_v29 : IVec S2x4x16640x128 1) (main_v31 : IVec S2x16640x512 1) (main_v33 : IVec S2x16640x512 1) : IVec S1 1 × IVec S64 1 × IVec S64 1 × IVec S64 1 × IVec S64 1 × IVec S2x4x16640x128 1 × IVec S2x16640x512 1 × IVec S2x16640x512 1 :=
  let main_v34 : IVec S2x16640x512 1 := andi main_v31 main_v33
  let main_cst_13 : FVec F S_ .f32 := constant S_ .f32 0x7F800000#32
  let main_v35 : FVec F S2x16640x512 .f32 := broadcastInDim S2x16640x512 ![] bcast_S_S2x16640x512 main_cst_13
  let main_v36 : IVec S2x16640x512 1 := cmpf .olt main_arg7 main_v35
  let main_cst_14 : FVec F S_ .f32 := constant S_ .f32 0xFF800000#32
  let main_v37 : FVec F S2x16640x512 .f32 := broadcastInDim S2x16640x512 ![] bcast_S_S2x16640x512 main_cst_14
  let main_v38 : IVec S2x16640x512 1 := cmpf .ogt main_arg7 main_v37
  let main_v39 : IVec S2x16640x512 1 := andi main_v36 main_v38
  (main_v4, main_v9, main_v14, main_v19, main_v24, main_v29, main_v34, main_v39)

def fn_part1 {F : FTy → Type} [FloatOps F] (main_arg3 : FVec F S64 .f32) (main_arg4 : FVec F S64 .f32) (main_arg5 : FVec F S2x4x16640x128 .f32) (main_arg6 : FVec F S2x16640x512 .f32) (main_arg7 : FVec F S2x16640x512 .f32) (main_v4 : IVec S1 1) (main_v9 : IVec S64 1) (main_v14 : IVec S64 1) (main_v16 : IVec S64 1) : IVec S1 1 × IVec S64 1 × IVec S64 1 × IVec S64 1 × IVec S64 1 × IVec S2x4x16640x128 1 × IVec S2x16640x512 1 × IVec S2x16640x512 1 :=
  let main_cst_6 : FVec F S_ .f32 := constant S_ .f32 0xFF800000#32
  let main_v17 : FVec F S64 .f32 := broadcastInDim S64 ![] bcast_S_S64 main_cst_6
  let main_v18 : IVec S64 1 := cmpf .ogt main_arg3 main_v17
  let main_v19 : IVec S64 1 := andi main_v16 main_v18
  let main_cst_7 : FVec F S_ .f32 := constant S_ .f32 0x7F800000#32
  let main_v20 : FVec F S64 .f32 := broadcastInDim S64 ![] bcast_S_S64 main_cst_7
  let main_v21 : IVec S64 1 := cmpf .olt main_arg4 main_v20
  let main_cst_8 : FVec F S_ .f32 := constant S_ .f32 0xFF800000#32
  let main_v22 : FVec F S64 .f32 := broadcastInDim S64 ![] bcast_S_S64 main_cst_8
  let main_v23 : IVec S64 1 := cmpf .ogt main_arg4 main_v22
  let main_v24 : IVec S64 1 := andi main_v21 main_v23
  let main_cst_9 : FVec F S_ .f32 := constant S_ .f32 0x7F800000#32
  let main_v25 : FVec F S2x4x16640x128 .f32 := broadcastInDim S2x4x16640x128 ![] bcast_S_S2x4x16640x128 main_cst_9
  let main_v26 : IVec S2x4x16640x128 1 := cmpf .olt main_arg5 main_v25
  let main_cst_10 : FVec F S_ .f32 := constant S_ .f32 0xFF800000#32
  let main_v27 : FVec F S2x4x16640x128 .f32 := broadcastInDim S2x4x16640x128 ![] bcast_S_S2x4x16640x128 main_cst_10
  let main_v28 : IVec S2x4x16640x128 1 := cmpf .ogt main_arg5 main_v27
  let main_v29 : IVec S2x4x16640x128 1 := andi main_v26 main_v28
  let main_cst_11 : FVec F S_ .f32 := constant S_ .f32 0x7F800000#32
  let main_v30 : FVec F S2x16640x512 .f32 := broadcastInDim S2x16640x512 ![] bcast_S_S2x16640x512 main_cst_11
  let main_v31 : IVec S2x16640x512 1 := cmpf .olt main_arg6 main_v30
  let main_cst_12 : FVec F S_ .f32 := constant S_ .f32 0xFF800000#32
  let main_v32 : FVec F S2x16640x512 .f32 := broadcastInDim S2x16640x512 ![] bcast_S_S2x16640x512 main_cst_12
  let main_v33 : IVec S2x16640x512 1 := cmpf .ogt main_arg6 main_v32
  fn_part2 (F := F) main_arg7 main_v4 main_v9 main_v14 main_v19 main_v24 main_v29 main_v31 main_v33

def fn {F : FTy → Type} [FloatOps F] (main_arg0 : FVec F S1 .f32) (main_arg1 : FVec F S64 .f32) (main_arg2 : FVec F S64 .f32) (main_arg3 : FVec F S64 .f32) (main_arg4 : FVec F S64 .f32) (main_arg5 : FVec F S2x4x16640x128 .f32) (main_arg6 : FVec F S2x16640x512 .f32) (main_arg7 : FVec F S2x16640x512 .f32) (main_arg8 : FVec F S128 .f32) : IVec S1 1 × IVec S64 1 × IVec S64 1 × IVec S64 1 × IVec S64 1 × IVec S2x4x16640x128 1 × IVec S2x16640x512 1 × IVec S2x16640x512 1 :=
  let main_cst : FVec F S_ .f32 := constant S_ .f32 0x7F800000#32
  let main_v0 : FVec F S1 .f32 := broadcastInDim S1 ![] bcast_S_S1 main_cst
  let main_v1 : IVec S1 1 := cmpf .olt main_arg0 main_v0
  let main_cst_0 : FVec F S_ .f32 := constant S_ .f32 0xFF800000#32
  let main_v2 : FVec F S1 .f32 := broadcastInDim S1 ![] bcast_S_S1 main_cst_0
  let main_v3 : IVec S1 1 := cmpf .ogt main_arg0 main_v2
  let main_v4 : IVec S1 1 := andi main_v1 main_v3
  let main_cst_1 : FVec F S_ .f32 := constant S_ .f32 0x7F800000#32
  let main_v5 : FVec F S64 .f32 := broadcastInDim S64 ![] bcast_S_S64 main_cst_1
  let main_v6 : IVec S64 1 := cmpf .olt main_arg1 main_v5
  let main_cst_2 : FVec F S_ .f32 := constant S_ .f32 0xFF800000#32
  let main_v7 : FVec F S64 .f32 := broadcastInDim S64 ![] bcast_S_S64 main_cst_2
  let main_v8 : IVec S64 1 := cmpf .ogt main_arg1 main_v7
  let main_v9 : IVec S64 1 := andi main_v6 main_v8
  let main_cst_3 : FVec F S_ .f32 := constant S_ .f32 0x7F800000#32
  let main_v10 : FVec F S64 .f32 := broadcastInDim S64 ![] bcast_S_S64 main_cst_3
  let main_v11 : IVec S64 1 := cmpf .olt main_arg2 main_v10
  let main_cst_4 : FVec F S_ .f32 := constant S_ .f32 0xFF800000#32
  let main_v12 : FVec F S64 .f32 := broadcastInDim S64 ![] bcast_S_S64 main_cst_4
  let main_v13 : IVec S64 1 := cmpf .ogt main_arg2 main_v12
  let main_v14 : IVec S64 1 := andi main_v11 main_v13
  let main_cst_5 : FVec F S_ .f32 := constant S_ .f32 0x7F800000#32
  let main_v15 : FVec F S64 .f32 := broadcastInDim S64 ![] bcast_S_S64 main_cst_5
  let main_v16 : IVec S64 1 := cmpf .olt main_arg3 main_v15
  fn_part1 (F := F) main_arg3 main_arg4 main_arg5 main_arg6 main_arg7 main_v4 main_v9 main_v14 main_v16
-- ==== Pre_scores_finite.lean ====
abbrev S1 : Shape := ⟨1, ![1]⟩
abbrev S2x8x16640x128 : Shape := ⟨4, ![2, 8, 16640, 128]⟩
abbrev S2x16640x256 : Shape := ⟨3, ![2, 16640, 256]⟩
abbrev S_ : Shape := ⟨0, ![]⟩

class Facts : Prop where
  bcast_S_S1 : S_.BroadcastsInDim S1 (![] : Fin 0 → Fin S1.rank)
  bcast_S_S2x8x16640x128 : S_.BroadcastsInDim S2x8x16640x128 (![] : Fin 0 → Fin S2x8x16640x128.rank)
  bcast_S_S2x16640x256 : S_.BroadcastsInDim S2x16640x256 (![] : Fin 0 → Fin S2x16640x256.rank)

variable [Facts]

def fn {F : FTy → Type} [FloatOps F] (main_arg0 : FVec F S1 .f32) (main_arg1 : FVec F S2x8x16640x128 .f32) (main_arg2 : FVec F S2x16640x256 .f32) (main_arg3 : FVec F S2x16640x256 .f32) : IVec S1 1 × IVec S2x8x16640x128 1 × IVec S2x16640x256 1 :=
  let main_cst : FVec F S_ .f32 := constant S_ .f32 0x7F800000#32
  let main_v0 : FVec F S1 .f32 := broadcastInDim S1 ![] bcast_S_S1 main_cst
  let main_v1 : IVec S1 1 := cmpf .olt main_arg0 main_v0
  let main_cst_0 : FVec F S_ .f32 := constant S_ .f32 0xFF800000#32
  let main_v2 : FVec F S1 .f32 := broadcastInDim S1 ![] bcast_S_S1 main_cst_0
  let main_v3 : IVec S1 1 := cmpf .ogt main_arg0 main_v2
  let main_v4 : IVec S1 1 := andi main_v1 main_v3
  let main_cst_1 : FVec F S_ .f32 := constant S_ .f32 0x7F800000#32
  let main_v5 : FVec F S2x8x16640x128 .f32 := broadcastInDim S2x8x16640x128 ![] bcast_S_S2x8x16640x128 main_cst_1
  let main_v6 : IVec S2x8x16640x128 1 := cmpf .olt main_arg1 main_v5
  let main_cst_2 : FVec F S_ .f32 := constant S_ .f32 0xFF800000#32
  let main_v7 : FVec F S2x8x16640x128 .f32 := broadcastInDim S2x8x16640x128 ![] bcast_S_S2x8x16640x128 main_cst_2
  let main_v8 : IVec S2x8x16640x128 1 := cmpf .ogt main_arg1 main_v7
  let main_v9 : IVec S2x8x16640x128 1 := andi main_v6 main_v8
  let main_cst_3 : FVec F S_ .f32 := constant S_ .f32 0x7F800000#32
  let main_v10 : FVec F S2x16640x256 .f32 := broadcastInDim S2x16640x256 ![] bcast_S_S2x16640x256 main_cst_3
  let main_v11 : IVec S2x16640x256 1 := cmpf .olt main_arg2 main_v10
  let main_cst_4 : FVec F S_ .f32 := constant S_ .f32 0xFF800000#32
  let main_v12 : FVec F S2x16640x256 .f32 := broadcastInDim S2x16640x256 ![] bcast_S_S2x16640x256 main_cst_4
  let main_v13 : IVec S2x16640x256 1 := cmpf .ogt main_arg2 main_v12
  let main_v14 : IVec S2x16640x256 1 := andi main_v11 main_v13
  (main_v4, main_v9, main_v14)
-- ==== Gqa.lean ====
abbrev S1 : Shape := ⟨1, ![1]⟩
abbrev S2x8x16640x128 : Shape := ⟨4, ![2, 8, 16640, 128]⟩
abbrev S2x16640x256 : Shape := ⟨3, ![2, 16640, 256]⟩
abbrev S_ : Shape := ⟨0, ![]⟩
abbrev S2x16640x128 : Shape := ⟨3, ![2, 16640, 128]⟩
abbrev S2x16640x512 : Shape := ⟨3, ![2, 16640, 512]⟩
abbrev S2x16640x1024 : Shape := ⟨3, ![2, 16640, 1024]⟩
abbrev S1x4x256x128 : Shape := ⟨4, ![1, 4, 256, 128]⟩
abbrev S1x16640x128 : Shape := ⟨3, ![1, 16640, 128]⟩
abbrev S1x16640x256 : Shape := ⟨3, ![1, 16640, 256]⟩
abbrev S1x256x512 : Shape := ⟨3, ![1, 256, 512]⟩
abbrev S1024x256 : Shape := ⟨2, ![1024, 256]⟩
abbrev S1024x1 : Shape := ⟨2, ![1024, 1]⟩
abbrev S4x256x128 : Shape := ⟨3, ![4, 256, 128]⟩
abbrev S1024x128 : Shape := ⟨2, ![1024, 128]⟩
abbrev S1x256x128 : Shape := ⟨3, ![1, 256, 128]⟩
abbrev S256x128 : Shape := ⟨2, ![256, 128]⟩
abbrev S1x256x256 : Shape := ⟨3, ![1, 256, 256]⟩
abbrev S256x256 : Shape := ⟨2, ![256, 256]⟩
abbrev S1x1280x128 : Shape := ⟨3, ![1, 1280, 128]⟩
abbrev S1280x128 : Shape := ⟨2, ![1280, 128]⟩
abbrev S1024x1280 : Shape := ⟨2, ![1024, 1280]⟩
abbrev S1x1280x256 : Shape := ⟨3, ![1, 1280, 256]⟩
abbrev S1280x256 : Shape := ⟨2, ![1280, 256]⟩

abbrev nBuf : Space → Nat
  | .hbm => 21
  | .vmem => 10
  | .smem => 1
  | _ => 0

abbrev bufTy : (tb : Table) → Fin (tcTables nBuf tb) → BufTy
  | .hbm, ⟨0, _⟩ => ⟨S1, .f32⟩
  | .hbm, ⟨1, _⟩ => ⟨S2x8x16640x128, .f32⟩
  | .hbm, ⟨2, _⟩ => ⟨S2x16640x256, .f32⟩
  | .hbm, ⟨3, _⟩ => ⟨S2x16640x256, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2x8x16640x128, .f32⟩
  | .hbm, ⟨11, _⟩ => ⟨S2x8x16640x128, .f32⟩
  | .hbm, ⟨12, _⟩ => ⟨S2x8x16640x128, .bf16⟩
  | .hbm, ⟨13, _⟩ => ⟨S2x16640x256, .bf16⟩
  | .hbm, ⟨14, _⟩ => ⟨S_, .bf16⟩
  | .hbm, ⟨15, _⟩ => ⟨S2x16640x128, .bf16⟩
  | .hbm, ⟨16, _⟩ => ⟨S2x16640x256, .bf16⟩
  | .hbm, ⟨17, _⟩ => ⟨S2x16640x128, .bf16⟩
  | .hbm, ⟨18, _⟩ => ⟨S2x16640x128, .bf16⟩
  | .hbm, ⟨19, _⟩ => ⟨S2x16640x512, .bf16⟩
  | .hbm, ⟨20, _⟩ => ⟨S2x16640x1024, .bf16⟩
  | .local _ .vmem, ⟨0, _⟩ => ⟨S1x4x256x128, .bf16⟩
  | .local _ .vmem, ⟨1, _⟩ => ⟨S1x4x256x128, .bf16⟩
  | .local _ .vmem, ⟨2, _⟩ => ⟨S1x16640x128, .bf16⟩
  | .local _ .vmem, ⟨3, _⟩ => ⟨S1x16640x128, .bf16⟩
  | .local _ .vmem, ⟨4, _⟩ => ⟨S1x16640x256, .bf16⟩
  | .local _ .vmem, ⟨5, _⟩ => ⟨S1x16640x256, .bf16⟩
  | .local _ .vmem, ⟨6, _⟩ => ⟨S1x256x512, .bf16⟩
  | .local _ .vmem, ⟨7, _⟩ => ⟨S1x256x512, .bf16⟩
  | .local _ .vmem, ⟨8, _⟩ => ⟨S1024x256, .f32⟩
  | .local _ .vmem, ⟨9, _⟩ => ⟨S1024x1, .f32⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 2, 65], ![false, false, false]⟩

def k0_cond2 (i : grid0.Coords) : BitVec 1 :=
  let arg2 : BitVec 32 := BitVec.ofNat 32 (i 2).val
  let c256_i32 : BitVec 32 := 256#32
  let v4 : BitVec 32 := Scalar.muli arg2 c256_i32
  let c256_i32_4 : BitVec 32 := 256#32
  let v5 : BitVec 1 := Scalar.cmpi .slt v4 c256_i32_4
  let v_true : BitVec 1 := 1#1
  let v12 : BitVec 1 := Scalar.xori v5 v_true
  let v13 : BitVec 32 := Scalar.extui v12
  let c0_i32_7 : BitVec 32 := 0#32
  let v14 : BitVec 1 := Scalar.cmpi .ne v13 c0_i32_7
  v14

def k0_mult1 : BitVec 32 :=
  let c0_i32_31 : BitVec 32 := 0#32
  let c1280_i32 : BitVec 32 := 1280#32
  let v43 : BitVec 32 := Scalar.muli c0_i32_31 c1280_i32
  v43
def k0_off1 (c0_i32_31 : BitVec 32) : Fin 3 → Nat :=
  let c0_32 : Index := 0#32
  let c1280_i32 : BitVec 32 := 1280#32
  let v43 : BitVec 32 := Scalar.muli c0_i32_31 c1280_i32
  let v44 : BitVec 32 := v43
  let v45 : Index := Scalar.indexCast v44
  let c0_33 : Index := 0#32
  ![0, v45.toNat, 0]
def k0_off2 (c0_i32_31 : BitVec 32) : Fin 3 → Nat :=
  let c0_35 : Index := 0#32
  let c1280_i32 : BitVec 32 := 1280#32
  let v43 : BitVec 32 := Scalar.muli c0_i32_31 c1280_i32
  let v44 : BitVec 32 := v43
  let v49 : Index := Scalar.indexCast v44
  let c0_36 : Index := 0#32
  ![0, v49.toNat, 0]
def k0_mult2 : BitVec 32 :=
  let c1_i32 : BitVec 32 := 1#32
  let c1280_i32_42 : BitVec 32 := 1280#32
  let v62 : BitVec 32 := Scalar.muli c1_i32 c1280_i32_42
  v62
def k0_mult3 : BitVec 32 :=
  let c2_i32 : BitVec 32 := 2#32
  let c1280_i32_53 : BitVec 32 := 1280#32
  let v81 : BitVec 32 := Scalar.muli c2_i32 c1280_i32_53
  v81
def k0_mult4 : BitVec 32 :=
  let c3_i32 : BitVec 32 := 3#32
  let c1280_i32_64 : BitVec 32 := 1280#32
  let v100 : BitVec 32 := Scalar.muli c3_i32 c1280_i32_64
  v100
def k0_mult5 : BitVec 32 :=
  let c4_i32 : BitVec 32 := 4#32
  let c1280_i32_75 : BitVec 32 := 1280#32
  let v119 : BitVec 32 := Scalar.muli c4_i32 c1280_i32_75
  v119
def k0_mult6 : BitVec 32 :=
  let c5_i32 : BitVec 32 := 5#32
  let c1280_i32_86 : BitVec 32 := 1280#32
  let v138 : BitVec 32 := Scalar.muli c5_i32 c1280_i32_86
  v138
def k0_mult7 : BitVec 32 :=
  let c6_i32 : BitVec 32 := 6#32
  let c1280_i32_97 : BitVec 32 := 1280#32
  let v157 : BitVec 32 := Scalar.muli c6_i32 c1280_i32_97
  v157
def k0_mult8 : BitVec 32 :=
  let c7_i32 : BitVec 32 := 7#32
  let c1280_i32_108 : BitVec 32 := 1280#32
  let v176 : BitVec 32 := Scalar.muli c7_i32 c1280_i32_108
  v176
def k0_mult9 : BitVec 32 :=
  let c8_i32 : BitVec 32 := 8#32
  let c1280_i32_119 : BitVec 32 := 1280#32
  let v195 : BitVec 32 := Scalar.muli c8_i32 c1280_i32_119
  v195
def k0_mult10 : BitVec 32 :=
  let c9_i32 : BitVec 32 := 9#32
  let c1280_i32_130 : BitVec 32 := 1280#32
  let v214 : BitVec 32 := Scalar.muli c9_i32 c1280_i32_130
  v214
def k0_mult11 : BitVec 32 :=
  let c10_i32 : BitVec 32 := 10#32
  let c1280_i32_141 : BitVec 32 := 1280#32
  let v233 : BitVec 32 := Scalar.muli c10_i32 c1280_i32_141
  v233
def k0_mult12 : BitVec 32 :=
  let c11_i32 : BitVec 32 := 11#32
  let c1280_i32_152 : BitVec 32 := 1280#32
  let v252 : BitVec 32 := Scalar.muli c11_i32 c1280_i32_152
  v252
def k0_mult13 : BitVec 32 :=
  let c12_i32 : BitVec 32 := 12#32
  let c1280_i32_163 : BitVec 32 := 1280#32
  let v271 : BitVec 32 := Scalar.muli c12_i32 c1280_i32_163
  v271
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x4x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16640x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== GqaRefIdeal.lean ====
abbrev S1 : Shape := ⟨1, ![1]⟩
abbrev S2x8x16640x128 : Shape := ⟨4, ![2, 8, 16640, 128]⟩
abbrev S2x16640x256 : Shape := ⟨3, ![2, 16640, 256]⟩
abbrev S2x16640x2x128 : Shape := ⟨4, ![2, 16640, 2, 128]⟩
abbrev S2x2x16640x128 : Shape := ⟨4, ![2, 2, 16640, 128]⟩
abbrev S2x8x256x128 : Shape := ⟨4, ![2, 8, 256, 128]⟩
abbrev S2x2x256x128 : Shape := ⟨4, ![2, 2, 256, 128]⟩
abbrev S2x2x4x256x128 : Shape := ⟨5, ![2, 2, 4, 256, 128]⟩
abbrev S2x2x4x256x256 : Shape := ⟨5, ![2, 2, 4, 256, 256]⟩
abbrev S_ : Shape := ⟨0, ![]⟩
abbrev S2x2x4x256 : Shape := ⟨4, ![2, 2, 4, 256]⟩
abbrev S2x2x4x256x1 : Shape := ⟨5, ![2, 2, 4, 256, 1]⟩
abbrev S2x8x16384x128 : Shape := ⟨4, ![2, 8, 16384, 128]⟩
abbrev S2x2x4x16384x128 : Shape := ⟨5, ![2, 2, 4, 16384, 128]⟩
abbrev S2x2x4x16384x16640 : Shape := ⟨5, ![2, 2, 4, 16384, 16640]⟩
abbrev S2x2x4x16384 : Shape := ⟨4, ![2, 2, 4, 16384]⟩
abbrev S2x2x4x16384x1 : Shape := ⟨5, ![2, 2, 4, 16384, 1]⟩
abbrev S2x256x8x128 : Shape := ⟨4, ![2, 256, 8, 128]⟩
abbrev S2x256x1024 : Shape := ⟨3, ![2, 256, 1024]⟩
abbrev S2x16384x8x128 : Shape := ⟨4, ![2, 16384, 8, 128]⟩
abbrev S2x16384x1024 : Shape := ⟨3, ![2, 16384, 1024]⟩
abbrev S2x16640x1024 : Shape := ⟨3, ![2, 16640, 1024]⟩

abbrev nBuf : Space → Nat
  | .hbm => 60
  | .vmem => 0
  | .smem => 0
  | _ => 0

abbrev bufTy : (tb : Table) → Fin (tcTables nBuf tb) → BufTy
  | .hbm, ⟨0, _⟩ => ⟨S1, .f32⟩
  | .hbm, ⟨1, _⟩ => ⟨S2x8x16640x128, .f32⟩
  | .hbm, ⟨2, _⟩ => ⟨S2x16640x256, .f32⟩
  | .hbm, ⟨3, _⟩ => ⟨S2x16640x256, .f32⟩
  | .hbm, ⟨4, _⟩ => ⟨S2x16640x2x128, .f32⟩
  | .hbm, ⟨5, _⟩ => ⟨S2x2x16640x128, .f32⟩
  | .hbm, ⟨6, _⟩ => ⟨S2x16640x2x128, .f32⟩
  | .hbm, ⟨7, _⟩ => ⟨S2x2x16640x128, .f32⟩
  | .hbm, ⟨8, _⟩ => ⟨S2x8x256x128, .f32⟩
  | .hbm, ⟨9, _⟩ => ⟨S2x2x256x128, .f32⟩
  | .hbm, ⟨10, _⟩ => ⟨S2x2x256x128, .f32⟩
  | .hbm, ⟨11, _⟩ => ⟨S2x2x4x256x128, .f32⟩
  | .hbm, ⟨12, _⟩ => ⟨S2x2x4x256x256, .f32⟩
  | .hbm, ⟨13, _⟩ => ⟨S_, .f32⟩
  | .hbm, ⟨14, _⟩ => ⟨S2x2x4x256x256, .f32⟩
  | .hbm, ⟨15, _⟩ => ⟨S2x2x4x256x256, .f32⟩
  | .hbm, ⟨16, _⟩ => ⟨S_, .f32⟩
  | .hbm, ⟨17, _⟩ => ⟨S2x2x4x256, .f32⟩
  | .hbm, ⟨18, _⟩ => ⟨S_, .f32⟩
  | .hbm, ⟨19, _⟩ => ⟨S2x2x4x256, .f32⟩
  | .hbm, ⟨20, _⟩ => ⟨S2x2x4x256, .f32⟩
  | .hbm, ⟨21, _⟩ => ⟨S2x2x4x256x1, .f32⟩
  | .hbm, ⟨22, _⟩ => ⟨S2x2x4x256x256, .f32⟩
  | .hbm, ⟨23, _⟩ => ⟨S2x2x4x256x256, .f32⟩
  | .hbm, ⟨24, _⟩ => ⟨S2x2x4x256x256, .f32⟩
  | .hbm, ⟨25, _⟩ => ⟨S_, .f32⟩
  | .hbm, ⟨26, _⟩ => ⟨S2x2x4x256, .f32⟩
  | .hbm, ⟨27, _⟩ => ⟨S2x2x4x256x1, .f32⟩
  | .hbm, ⟨28, _⟩ => ⟨S2x2x4x256x256, .f32⟩
  | .hbm, ⟨29, _⟩ => ⟨S2x2x4x256x256, .f32⟩
  | .hbm, ⟨30, _⟩ => ⟨S2x2x4x256x128, .f32⟩
  | .hbm, ⟨31, _⟩ => ⟨S2x8x256x128, .f32⟩
  | .hbm, ⟨32, _⟩ => ⟨S2x8x16384x128, .f32⟩
  | .hbm, ⟨33, _⟩ => ⟨S2x2x4x16384x128, .f32⟩
  | .hbm, ⟨34, _⟩ => ⟨S2x2x4x16384x16640, .f32⟩
  | .hbm, ⟨35, _⟩ => ⟨S_, .f32⟩
  | .hbm, ⟨36, _⟩ => ⟨S2x2x4x16384x16640, .f32⟩
  | .hbm, ⟨37, _⟩ => ⟨S2x2x4x16384x16640, .f32⟩
  | .hbm, ⟨38, _⟩ => ⟨S_, .f32⟩
  | .hbm, ⟨39, _⟩ => ⟨S2x2x4x16384, .f32⟩
  | .hbm, ⟨40, _⟩ => ⟨S_, .f32⟩
  | .hbm, ⟨41, _⟩ => ⟨S2x2x4x16384, .f32⟩
  | .hbm, ⟨42, _⟩ => ⟨S2x2x4x16384, .f32⟩
  | .hbm, ⟨43, _⟩ => ⟨S2x2x4x16384x1, .f32⟩
  | .hbm, ⟨44, _⟩ => ⟨S2x2x4x16384x16640, .f32⟩
  | .hbm, ⟨45, _⟩ => ⟨S2x2x4x16384x16640, .f32⟩
  | .hbm, ⟨46, _⟩ => ⟨S2x2x4x16384x16640, .f32⟩
  | .hbm, ⟨47, _⟩ => ⟨S_, .f32⟩
  | .hbm, ⟨48, _⟩ => ⟨S2x2x4x16384, .f32⟩
  | .hbm, ⟨49, _⟩ => ⟨S2x2x4x16384x1, .f32⟩
  | .hbm, ⟨50, _⟩ => ⟨S2x2x4x16384x16640, .f32⟩
  | .hbm, ⟨51, _⟩ => ⟨S2x2x4x16384x16640, .f32⟩
  | .hbm, ⟨52, _⟩ => ⟨S2x2x4x16384x128, .f32⟩
  | .hbm, ⟨53, _⟩ => ⟨S2x8x16384x128, .f32⟩
  | .hbm, ⟨54, _⟩ => ⟨S2x256x8x128, .f32⟩
  | .hbm, ⟨55, _⟩ => ⟨S2x256x1024, .f32⟩
  | .hbm, ⟨56, _⟩ => ⟨S2x16384x8x128, .f32⟩
  | .hbm, ⟨57, _⟩ => ⟨S2x16384x1024, .f32⟩
  | .hbm, ⟨58, _⟩ => ⟨S2x16640x1024, .f32⟩
  | .hbm, ⟨59, _⟩ => ⟨S2x16640x1024, .bf16⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩

abbrev nD : Nat := 1
abbrev τ : Topo := Topo.v7x

variable {F : FTy → Type} [FloatOps F]
-- ==== Diff.lean ====
abbrev S1 : Shape := ⟨1, ![1]⟩
abbrev S64 : Shape := ⟨1, ![64]⟩
abbrev S2x4x16640x128 : Shape := ⟨4, ![2, 4, 16640, 128]⟩
abbrev S2x16640x512 : Shape := ⟨3, ![2, 16640, 512]⟩
abbrev S128 : Shape := ⟨1, ![128]⟩
abbrev S_ : Shape := ⟨0, ![]⟩
abbrev S2 : Shape := ⟨1, ![2]⟩
abbrev S2x16640x128 : Shape := ⟨3, ![2, 16640, 128]⟩
abbrev S2x16640x1024 : Shape := ⟨3, ![2, 16640, 1024]⟩
abbrev S1x128 : Shape := ⟨2, ![1, 128]⟩
abbrev S1x1x256x128 : Shape := ⟨4, ![1, 1, 256, 128]⟩
abbrev S1x16640x128 : Shape := ⟨3, ![1, 16640, 128]⟩
abbrev S1x16640x256 : Shape := ⟨3, ![1, 16640, 256]⟩
abbrev S1x256x128 : Shape := ⟨3, ![1, 256, 128]⟩
abbrev S512x256 : Shape := ⟨2, ![512, 256]⟩
abbrev S512x1 : Shape := ⟨2, ![512, 1]⟩
abbrev S256x128 : Shape := ⟨2, ![256, 128]⟩
abbrev S512x128 : Shape := ⟨2, ![512, 128]⟩
abbrev S1x256x256 : Shape := ⟨3, ![1, 256, 256]⟩
abbrev S256x256 : Shape := ⟨2, ![256, 256]⟩
abbrev S1x1280x128 : Shape := ⟨3, ![1, 1280, 128]⟩
abbrev S1280x128 : Shape := ⟨2, ![1280, 128]⟩
abbrev S512x1280 : Shape := ⟨2, ![512, 1280]⟩
abbrev S1x1280x256 : Shape := ⟨3, ![1, 1280, 256]⟩
abbrev S1280x256 : Shape := ⟨2, ![1280, 256]⟩
abbrev S256 : Shape := ⟨1, ![256]⟩
abbrev S256x1 : Shape := ⟨2, ![256, 1]⟩

abbrev nBuf : Space → Nat
  | .hbm => 44
  | .vmem => 11
  | .smem => 1
  | _ => 0

abbrev bufTy : (tb : Table) → Fin (tcTables nBuf tb) → BufTy
  | .hbm, ⟨0, _⟩ => ⟨S1, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S2x4x16640x128, .f32⟩
  | .hbm, ⟨6, _⟩ => ⟨S2x16640x512, .f32⟩
  | .hbm, ⟨7, _⟩ => ⟨S2x16640x512, .f32⟩
  | .hbm, ⟨8, _⟩ => ⟨S128, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2x4x16640x128, .f32⟩
  | .hbm, ⟨27, _⟩ => ⟨S2x4x16640x128, .f32⟩
  | .hbm, ⟨28, _⟩ => ⟨S2x4x16640x128, .bf16⟩
  | .hbm, ⟨29, _⟩ => ⟨S_, .f32⟩
  | .hbm, ⟨30, _⟩ => ⟨S1, .f32⟩
  | .hbm, ⟨31, _⟩ => ⟨S1, .f32⟩
  | .hbm, ⟨32, _⟩ => ⟨S2, .f32⟩
  | .hbm, ⟨33, _⟩ => ⟨S2x16640x512, .bf16⟩
  | .hbm, ⟨34, _⟩ => ⟨S_, .bf16⟩
  | .hbm, ⟨35, _⟩ => ⟨S2x16640x128, .bf16⟩
  | .hbm, ⟨36, _⟩ => ⟨S2x16640x512, .bf16⟩
  | .hbm, ⟨37, _⟩ => ⟨S2x16640x128, .bf16⟩
  | .hbm, ⟨38, _⟩ => ⟨S2x16640x128, .bf16⟩
  | .hbm, ⟨39, _⟩ => ⟨S2x16640x128, .bf16⟩
  | .hbm, ⟨40, _⟩ => ⟨S2x16640x128, .bf16⟩
  | .hbm, ⟨41, _⟩ => ⟨S2x16640x1024, .bf16⟩
  | .hbm, ⟨42, _⟩ => ⟨S1x128, .f32⟩
  | .hbm, ⟨43, _⟩ => ⟨S2x16640x512, .bf16⟩
  | .local _ .vmem, ⟨0, _⟩ => ⟨S1x1x256x128, .bf16⟩
  | .local _ .vmem, ⟨1, _⟩ => ⟨S1x1x256x128, .bf16⟩
  | .local _ .vmem, ⟨2, _⟩ => ⟨S1x16640x128, .bf16⟩
  | .local _ .vmem, ⟨3, _⟩ => ⟨S1x16640x128, .bf16⟩
  | .local _ .vmem, ⟨4, _⟩ => ⟨S1x16640x256, .bf16⟩
  | .local _ .vmem, ⟨5, _⟩ => ⟨S1x16640x256, .bf16⟩
  | .local _ .vmem, ⟨6, _⟩ => ⟨S1x128, .f32⟩
  | .local _ .vmem, ⟨7, _⟩ => ⟨S1x256x128, .bf16⟩
  | .local _ .vmem, ⟨8, _⟩ => ⟨S1x256x128, .bf16⟩
  | .local _ .vmem, ⟨9, _⟩ => ⟨S512x256, .f32⟩
  | .local _ .vmem, ⟨10, _⟩ => ⟨S512x1, .f32⟩
  | .local _ .smem, ⟨0, _⟩ => ⟨S2, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_cst_4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 65], ![false, false, false]⟩

def k0_cond2 (i : grid0.Coords) : BitVec 1 :=
  let arg2 : BitVec 32 := BitVec.ofNat 32 (i 2).val
  let c256_i32 : BitVec 32 := 256#32
  let v14 : BitVec 32 := Scalar.muli arg2 c256_i32
  let c256_i32_4 : BitVec 32 := 256#32
  let v15 : BitVec 1 := Scalar.cmpi .slt v14 c256_i32_4
  let v_true : BitVec 1 := 1#1
  let v22 : BitVec 1 := Scalar.xori v15 v_true
  let v23 : BitVec 32 := Scalar.extui v22
  let c0_i32_8 : BitVec 32 := 0#32
  let v24 : BitVec 1 := Scalar.cmpi .ne v23 c0_i32_8
  v24

def k0_mult1 : BitVec 32 :=
  let c0_i32_24 : BitVec 32 := 0#32
  let c1280_i32 : BitVec 32 := 1280#32
  let v55 : BitVec 32 := Scalar.muli c0_i32_24 c1280_i32
  v55
def k0_off1 (c0_i32_24 : BitVec 32) : Fin 3 → Nat :=
  let c0_25 : Index := 0#32
  let c1280_i32 : BitVec 32 := 1280#32
  let v55 : BitVec 32 := Scalar.muli c0_i32_24 c1280_i32
  let v56 : BitVec 32 := v55
  let v57 : Index := Scalar.indexCast v56
  let c0_26 : Index := 0#32
  ![0, v57.toNat, 0]
def k0_off2 (c0_i32_24 : BitVec 32) : Fin 3 → Nat :=
  let c0_28 : Index := 0#32
  let c1280_i32 : BitVec 32 := 1280#32
  let v55 : BitVec 32 := Scalar.muli c0_i32_24 c1280_i32
  let v56 : BitVec 32 := v55
  let v61 : Index := Scalar.indexCast v56
  let c0_29 : Index := 0#32
  ![0, v61.toNat, 0]
def k0_mult2 : BitVec 32 :=
  let c1_i32 : BitVec 32 := 1#32
  let c1280_i32_35 : BitVec 32 := 1280#32
  let v74 : BitVec 32 := Scalar.muli c1_i32 c1280_i32_35
  v74
def k0_mult3 : BitVec 32 :=
  let c2_i32 : BitVec 32 := 2#32
  let c1280_i32_46 : BitVec 32 := 1280#32
  let v93 : BitVec 32 := Scalar.muli c2_i32 c1280_i32_46
  v93
def k0_mult4 : BitVec 32 :=
  let c3_i32 : BitVec 32 := 3#32
  let c1280_i32_57 : BitVec 32 := 1280#32
  let v112 : BitVec 32 := Scalar.muli c3_i32 c1280_i32_57
  v112
def k0_mult5 : BitVec 32 :=
  let c4_i32 : BitVec 32 := 4#32
  let c1280_i32_68 : BitVec 32 := 1280#32
  let v131 : BitVec 32 := Scalar.muli c4_i32 c1280_i32_68
  v131
def k0_mult6 : BitVec 32 :=
  let c5_i32 : BitVec 32 := 5#32
  let c1280_i32_79 : BitVec 32 := 1280#32
  let v150 : BitVec 32 := Scalar.muli c5_i32 c1280_i32_79
  v150
def k0_mult7 : BitVec 32 :=
  let c6_i32 : BitVec 32 := 6#32
  let c1280_i32_90 : BitVec 32 := 1280#32
  let v169 : BitVec 32 := Scalar.muli c6_i32 c1280_i32_90
  v169
def k0_mult8 : BitVec 32 :=
  let c7_i32 : BitVec 32 := 7#32
  let c1280_i32_101 : BitVec 32 := 1280#32
  let v188 : BitVec 32 := Scalar.muli c7_i32 c1280_i32_101
  v188
def k0_mult9 : BitVec 32 :=
  let c8_i32 : BitVec 32 := 8#32
  let c1280_i32_112 : BitVec 32 := 1280#32
  let v207 : BitVec 32 := Scalar.muli c8_i32 c1280_i32_112
  v207
def k0_mult10 : BitVec 32 :=
  let c9_i32 : BitVec 32 := 9#32
  let c1280_i32_123 : BitVec 32 := 1280#32
  let v226 : BitVec 32 := Scalar.muli c9_i32 c1280_i32_123
  v226
def k0_mult11 : BitVec 32 :=
  let c10_i32 : BitVec 32 := 10#32
  let c1280_i32_134 : BitVec 32 := 1280#32
  let v245 : BitVec 32 := Scalar.muli c10_i32 c1280_i32_134
  v245
def k0_mult12 : BitVec 32 :=
  let c11_i32 : BitVec 32 := 11#32
  let c1280_i32_145 : BitVec 32 := 1280#32
  let v264 : BitVec 32 := Scalar.muli c11_i32 c1280_i32_145
  v264
def k0_mult13 : BitVec 32 :=
  let c12_i32 : BitVec 32 := 12#32
  let c1280_i32_156 : BitVec 32 := 1280#32
  let v283 : BitVec 32 := Scalar.muli c12_i32 c1280_i32_156
  v283
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16640x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== DiffRefIdeal.lean ====
abbrev S1 : Shape := ⟨1, ![1]⟩
abbrev S64 : Shape := ⟨1, ![64]⟩
abbrev S2x4x16640x128 : Shape := ⟨4, ![2, 4, 16640, 128]⟩
abbrev S2x16640x512 : Shape := ⟨3, ![2, 16640, 512]⟩
abbrev S128 : Shape := ⟨1, ![128]⟩
abbrev S_ : Shape := ⟨0, ![]⟩
abbrev S2x4x16640x2x64 : Shape := ⟨5, ![2, 4, 16640, 2, 64]⟩
abbrev S2x16640x4x128 : Shape := ⟨4, ![2, 16640, 4, 128]⟩
abbrev S2x4x256x2x64 : Shape := ⟨5, ![2, 4, 256, 2, 64]⟩
abbrev S2x4x256x128 : Shape := ⟨4, ![2, 4, 256, 128]⟩
abbrev S2x4x2x256x256 : Shape := ⟨5, ![2, 4, 2, 256, 256]⟩
abbrev S2x4x2x256 : Shape := ⟨4, ![2, 4, 2, 256]⟩
abbrev S2x4x2x256x1 : Shape := ⟨5, ![2, 4, 2, 256, 1]⟩
abbrev S2x4x1x256x256 : Shape := ⟨5, ![2, 4, 1, 256, 256]⟩
abbrev S2x4x256x256 : Shape := ⟨4, ![2, 4, 256, 256]⟩
abbrev S2x4x16384x2x64 : Shape := ⟨5, ![2, 4, 16384, 2, 64]⟩
abbrev S2x4x2x16384x16640 : Shape := ⟨5, ![2, 4, 2, 16384, 16640]⟩
abbrev S2x4x2x16384 : Shape := ⟨4, ![2, 4, 2, 16384]⟩
abbrev S2x4x2x16384x1 : Shape := ⟨5, ![2, 4, 2, 16384, 1]⟩
abbrev S2x4x1x16384x16640 : Shape := ⟨5, ![2, 4, 1, 16384, 16640]⟩
abbrev S2x4x16384x16640 : Shape := ⟨4, ![2, 4, 16384, 16640]⟩
abbrev S2x4x16384x128 : Shape := ⟨4, ![2, 4, 16384, 128]⟩
abbrev S2x4x256 : Shape := ⟨3, ![2, 4, 256]⟩
abbrev S2x4x256x1 : Shape := ⟨4, ![2, 4, 256, 1]⟩
abbrev S1x1x1x128 : Shape := ⟨4, ![1, 1, 1, 128]⟩
abbrev S2x4x16384 : Shape := ⟨3, ![2, 4, 16384]⟩
abbrev S2x4x16384x1 : Shape := ⟨4, ![2, 4, 16384, 1]⟩
abbrev S2x256x4x128 : Shape := ⟨4, ![2, 256, 4, 128]⟩
abbrev S2x256x512 : Shape := ⟨3, ![2, 256, 512]⟩
abbrev S2x16384x4x128 : Shape := ⟨4, ![2, 16384, 4, 128]⟩
abbrev S2x16384x512 : Shape := ⟨3, ![2, 16384, 512]⟩

abbrev nBuf : Space → Nat
  | .hbm => 126
  | .vmem => 0
  | .smem => 0
  | _ => 0

abbrev bufTy : (tb : Table) → Fin (tcTables nBuf tb) → BufTy
  | .hbm, ⟨0, _⟩ => ⟨S1, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S2x4x16640x128, .f32⟩
  | .hbm, ⟨6, _⟩ => ⟨S2x16640x512, .f32⟩
  | .hbm, ⟨7, _⟩ => ⟨S2x16640x512, .f32⟩
  | .hbm, ⟨8, _⟩ => ⟨S128, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S2x4x16640x2x64, .f32⟩
  | .hbm, ⟨21, _⟩ => ⟨S2x16640x4x128, .f32⟩
  | .hbm, ⟨22, _⟩ => ⟨S2x4x16640x128, .f32⟩
  | .hbm, ⟨23, _⟩ => ⟨S2x4x16640x2x64, .f32⟩
  | .hbm, ⟨24, _⟩ => ⟨S2x16640x4x128, .f32⟩
  | .hbm, ⟨25, _⟩ => ⟨S2x4x16640x128, .f32⟩
  | .hbm, ⟨26, _⟩ => ⟨S2x4x256x2x64, .f32⟩
  | .hbm, ⟨27, _⟩ => ⟨S2x4x256x2x64, .f32⟩
  | .hbm, ⟨28, _⟩ => ⟨S2x4x256x128, .f32⟩
  | .hbm, ⟨29, _⟩ => ⟨S2x4x2x256x256, .f32⟩
  | .hbm, ⟨30, _⟩ => ⟨S_, .f32⟩
  | .hbm, ⟨31, _⟩ => ⟨S2x4x2x256x256, .f32⟩
  | .hbm, ⟨32, _⟩ => ⟨S2x4x2x256x256, .f32⟩
  | .hbm, ⟨33, _⟩ => ⟨S_, .f32⟩
  | .hbm, ⟨34, _⟩ => ⟨S2x4x2x256, .f32⟩
  | .hbm, ⟨35, _⟩ => ⟨S_, .f32⟩
  | .hbm, ⟨36, _⟩ => ⟨S2x4x2x256, .f32⟩
  | .hbm, ⟨37, _⟩ => ⟨S2x4x2x256, .f32⟩
  | .hbm, ⟨38, _⟩ => ⟨S2x4x2x256x1, .f32⟩
  | .hbm, ⟨39, _⟩ => ⟨S2x4x2x256x256, .f32⟩
  | .hbm, ⟨40, _⟩ => ⟨S2x4x2x256x256, .f32⟩
  | .hbm, ⟨41, _⟩ => ⟨S2x4x2x256x256, .f32⟩
  | .hbm, ⟨42, _⟩ => ⟨S_, .f32⟩
  | .hbm, ⟨43, _⟩ => ⟨S2x4x2x256, .f32⟩
  | .hbm, ⟨44, _⟩ => ⟨S2x4x2x256x1, .f32⟩
  | .hbm, ⟨45, _⟩ => ⟨S2x4x2x256x256, .f32⟩
  | .hbm, ⟨46, _⟩ => ⟨S2x4x2x256x256, .f32⟩
  | .hbm, ⟨47, _⟩ => ⟨S2x4x1x256x256, .f32⟩
  | .hbm, ⟨48, _⟩ => ⟨S2x4x256x256, .f32⟩
  | .hbm, ⟨49, _⟩ => ⟨S2x4x1x256x256, .f32⟩
  | .hbm, ⟨50, _⟩ => ⟨S2x4x256x256, .f32⟩
  | .hbm, ⟨51, _⟩ => ⟨S2x4x256x256, .f32⟩
  | .hbm, ⟨52, _⟩ => ⟨S2x4x256x256, .f32⟩
  | .hbm, ⟨53, _⟩ => ⟨S2x4x256x256, .f32⟩
  | .hbm, ⟨54, _⟩ => ⟨S2x4x256x128, .f32⟩
  | .hbm, ⟨55, _⟩ => ⟨S2x4x16384x2x64, .f32⟩
  | .hbm, ⟨56, _⟩ => ⟨S2x4x2x16384x16640, .f32⟩
  | .hbm, ⟨57, _⟩ => ⟨S_, .f32⟩
  | .hbm, ⟨58, _⟩ => ⟨S2x4x2x16384x16640, .f32⟩
  | .hbm, ⟨59, _⟩ => ⟨S2x4x2x16384x16640, .f32⟩
  | .hbm, ⟨60, _⟩ => ⟨S_, .f32⟩
  | .hbm, ⟨61, _⟩ => ⟨S2x4x2x16384, .f32⟩
  | .hbm, ⟨62, _⟩ => ⟨S_, .f32⟩
  | .hbm, ⟨63, _⟩ => ⟨S2x4x2x16384, .f32⟩
  | .hbm, ⟨64, _⟩ => ⟨S2x4x2x16384, .f32⟩
  | .hbm, ⟨65, _⟩ => ⟨S2x4x2x16384x1, .f32⟩
  | .hbm, ⟨66, _⟩ => ⟨S2x4x2x16384x16640, .f32⟩
  | .hbm, ⟨67, _⟩ => ⟨S2x4x2x16384x16640, .f32⟩
  | .hbm, ⟨68, _⟩ => ⟨S2x4x2x16384x16640, .f32⟩
  | .hbm, ⟨69, _⟩ => ⟨S_, .f32⟩
  | .hbm, ⟨70, _⟩ => ⟨S2x4x2x16384, .f32⟩
  | .hbm, ⟨71, _⟩ => ⟨S2x4x2x16384x1, .f32⟩
  | .hbm, ⟨72, _⟩ => ⟨S2x4x2x16384x16640, .f32⟩
  | .hbm, ⟨73, _⟩ => ⟨S2x4x2x16384x16640, .f32⟩
  | .hbm, ⟨74, _⟩ => ⟨S2x4x1x16384x16640, .f32⟩
  | .hbm, ⟨75, _⟩ => ⟨S2x4x16384x16640, .f32⟩
  | .hbm, ⟨76, _⟩ => ⟨S2x4x1x16384x16640, .f32⟩
  | .hbm, ⟨77, _⟩ => ⟨S2x4x16384x16640, .f32⟩
  | .hbm, ⟨78, _⟩ => ⟨S2x4x16384x16640, .f32⟩
  | .hbm, ⟨79, _⟩ => ⟨S2x4x16384x16640, .f32⟩
  | .hbm, ⟨80, _⟩ => ⟨S2x4x16384x16640, .f32⟩
  | .hbm, ⟨81, _⟩ => ⟨S2x4x16384x128, .f32⟩
  | .hbm, ⟨82, _⟩ => ⟨S2x4x256x128, .f32⟩
  | .hbm, ⟨83, _⟩ => ⟨S_, .f32⟩
  | .hbm, ⟨84, _⟩ => ⟨S2x4x256, .f32⟩
  | .hbm, ⟨85, _⟩ => ⟨S2x4x256x1, .f32⟩
  | .hbm, ⟨86, _⟩ => ⟨S_, .f32⟩
  | .hbm, ⟨87, _⟩ => ⟨S2x4x256x1, .f32⟩
  | .hbm, ⟨88, _⟩ => ⟨S2x4x256x1, .f32⟩
  | .hbm, ⟨89, _⟩ => ⟨S_, .f32⟩
  | .hbm, ⟨90, _⟩ => ⟨S2x4x256x1, .f32⟩
  | .hbm, ⟨91, _⟩ => ⟨S2x4x256x1, .f32⟩
  | .hbm, ⟨92, _⟩ => ⟨S2x4x256x1, .f32⟩
  | .hbm, ⟨93, _⟩ => ⟨S2x4x256x128, .f32⟩
  | .hbm, ⟨94, _⟩ => ⟨S2x4x256x128, .f32⟩
  | .hbm, ⟨95, _⟩ => ⟨S1x1x1x128, .f32⟩
  | .hbm, ⟨96, _⟩ => ⟨S2x4x256x128, .f32⟩
  | .hbm, ⟨97, _⟩ => ⟨S2x4x256x128, .f32⟩
  | .hbm, ⟨98, _⟩ => ⟨S_, .f32⟩
  | .hbm, ⟨99, _⟩ => ⟨S2x4x256x128, .f32⟩
  | .hbm, ⟨100, _⟩ => ⟨S2x4x256x128, .f32⟩
  | .hbm, ⟨101, _⟩ => ⟨S2x4x16384x128, .f32⟩
  | .hbm, ⟨102, _⟩ => ⟨S_, .f32⟩
  | .hbm, ⟨103, _⟩ => ⟨S2x4x16384, .f32⟩
  | .hbm, ⟨104, _⟩ => ⟨S2x4x16384x1, .f32⟩
  | .hbm, ⟨105, _⟩ => ⟨S_, .f32⟩
  | .hbm, ⟨106, _⟩ => ⟨S2x4x16384x1, .f32⟩
  | .hbm, ⟨107, _⟩ => ⟨S2x4x16384x1, .f32⟩
  | .hbm, ⟨108, _⟩ => ⟨S_, .f32⟩
  | .hbm, ⟨109, _⟩ => ⟨S2x4x16384x1, .f32⟩
  | .hbm, ⟨110, _⟩ => ⟨S2x4x16384x1, .f32⟩
  | .hbm, ⟨111, _⟩ => ⟨S2x4x16384x1, .f32⟩
  | .hbm, ⟨112, _⟩ => ⟨S2x4x16384x128, .f32⟩
  | .hbm, ⟨113, _⟩ => ⟨S2x4x16384x128, .f32⟩
  | .hbm, ⟨114, _⟩ => ⟨S1x1x1x128, .f32⟩
  | .hbm, ⟨115, _⟩ => ⟨S2x4x16384x128, .f32⟩
  | .hbm, ⟨116, _⟩ => ⟨S2x4x16384x128, .f32⟩
  | .hbm, ⟨117, _⟩ => ⟨S_, .f32⟩
  | .hbm, ⟨118, _⟩ => ⟨S2x4x16384x128, .f32⟩
  | .hbm, ⟨119, _⟩ => ⟨S2x4x16384x128, .f32⟩
  | .hbm, ⟨120, _⟩ => ⟨S2x256x4x128, .f32⟩
  | .hbm, ⟨121, _⟩ => ⟨S2x256x512, .f32⟩
  | .hbm, ⟨122, _⟩ => ⟨S2x16384x4x128, .f32⟩
  | .hbm, ⟨123, _⟩ => ⟨S2x16384x512, .f32⟩
  | .hbm, ⟨124, _⟩ => ⟨S2x16640x512, .f32⟩
  | .hbm, ⟨125, _⟩ => ⟨S2x16640x512, .bf16⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_10 : Ref sig .tc := ⟨.hbm, 83, rfl⟩
abbrev main_v63 : Ref sig .tc := ⟨.hbm, 84, rfl⟩
abbrev main_v64 : Ref sig .tc := ⟨.hbm, 85, rfl⟩
abbrev main_cst_11 : Ref sig .tc := ⟨.hbm, 86, rfl⟩
abbrev main_v65 : Ref sig .tc := ⟨.hbm, 87, rfl⟩
abbrev main_v66 : Ref sig .tc := ⟨.hbm, 88, rfl⟩
abbrev main_cst_12 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_13 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_14 : Ref sig .tc := ⟨.hbm, 102, rfl⟩
abbrev main_v78 : Ref sig .tc := ⟨.hbm, 103, rfl⟩
abbrev main_v79 : Ref sig .tc := ⟨.hbm, 104, rfl⟩
abbrev main_cst_15 : Ref sig .tc := ⟨.hbm, 105, rfl⟩
abbrev main_v80 : Ref sig .tc := ⟨.hbm, 106, rfl⟩
abbrev main_v81 : Ref sig .tc := ⟨.hbm, 107, rfl⟩
abbrev main_cst_16 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_17 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩

abbrev nD : Nat := 1
abbrev τ : Topo := Topo.v7x

variable {F : FTy → Type} [FloatOps F]
-- ==== Out.lean ====
abbrev S2x16640x2048 : Shape := ⟨3, ![2, 16640, 2048]⟩
abbrev S2x16640x1024 : Shape := ⟨3, ![2, 16640, 1024]⟩
abbrev S2x16640x512 : Shape := ⟨3, ![2, 16640, 512]⟩
abbrev S2x2x16640x512 : Shape := ⟨4, ![2, 2, 16640, 512]⟩
abbrev S128 : Shape := ⟨1, ![128]⟩
abbrev S2048x2048 : Shape := ⟨2, ![2048, 2048]⟩
abbrev S2x12288 : Shape := ⟨2, ![2, 12288]⟩
abbrev S12288 : Shape := ⟨1, ![12288]⟩
abbrev S2048 : Shape := ⟨1, ![2048]⟩
abbrev S2048x1024 : Shape := ⟨2, ![2048, 1024]⟩
abbrev S1x12288 : Shape := ⟨2, ![1, 12288]⟩
abbrev S2x1x12288 : Shape := ⟨3, ![2, 1, 12288]⟩
abbrev S2x2x12288 : Shape := ⟨3, ![2, 2, 12288]⟩
abbrev S1x128 : Shape := ⟨2, ![1, 128]⟩
abbrev S1x2048 : Shape := ⟨2, ![1, 2048]⟩
abbrev S1x256x2048 : Shape := ⟨3, ![1, 256, 2048]⟩
abbrev S1x256x1024 : Shape := ⟨3, ![1, 256, 1024]⟩
abbrev S1x256x512 : Shape := ⟨3, ![1, 256, 512]⟩
abbrev S1x2x256x512 : Shape := ⟨4, ![1, 2, 256, 512]⟩
abbrev S1x2x12288 : Shape := ⟨3, ![1, 2, 12288]⟩
abbrev S256x1 : Shape := ⟨2, ![256, 1]⟩
abbrev S1x1x12288 : Shape := ⟨3, ![1, 1, 12288]⟩
abbrev S256x1024 : Shape := ⟨2, ![256, 1024]⟩
abbrev S1024x2048 : Shape := ⟨2, ![1024, 2048]⟩
abbrev S256x2048 : Shape := ⟨2, ![256, 2048]⟩
abbrev S256x512 : Shape := ⟨2, ![256, 512]⟩
abbrev S512x2048 : Shape := ⟨2, ![512, 2048]⟩
abbrev S1x1x256x128 : Shape := ⟨4, ![1, 1, 256, 128]⟩
abbrev S256x128 : Shape := ⟨2, ![256, 128]⟩
abbrev S256 : Shape := ⟨1, ![256]⟩
abbrev S1x256x128 : Shape := ⟨3, ![1, 256, 128]⟩
abbrev S128x2048 : Shape := ⟨2, ![128, 2048]⟩

abbrev nBuf : Space → Nat
  | .hbm => 26
  | .vmem => 22
  | .smem => 0
  | _ => 0

abbrev bufTy : (tb : Table) → Fin (tcTables nBuf tb) → BufTy
  | .hbm, ⟨0, _⟩ => ⟨S2x16640x2048, .f32⟩
  | .hbm, ⟨1, _⟩ => ⟨S2x16640x1024, .f32⟩
  | .hbm, ⟨2, _⟩ => ⟨S2x16640x512, .f32⟩
  | .hbm, ⟨3, _⟩ => ⟨S2x2x16640x512, .f32⟩
  | .hbm, ⟨4, _⟩ => ⟨S2x16640x512, .f32⟩
  | .hbm, ⟨5, _⟩ => ⟨S128, .f32⟩
  | .hbm, ⟨6, _⟩ => ⟨S2048x2048, .f32⟩
  | .hbm, ⟨7, _⟩ => ⟨S2x12288, .f32⟩
  | .hbm, ⟨8, _⟩ => ⟨S12288, .f32⟩
  | .hbm, ⟨9, _⟩ => ⟨S2048, .f32⟩
  | .hbm, ⟨10, _⟩ => ⟨S2048x1024, .f32⟩
  | .hbm, ⟨11, _⟩ => ⟨S1x12288, .f32⟩
  | .hbm, ⟨12, _⟩ => ⟨S2x12288, .f32⟩
  | .hbm, ⟨13, _⟩ => ⟨S2x1x12288, .f32⟩
  | .hbm, ⟨14, _⟩ => ⟨S2x1x12288, .f32⟩
  | .hbm, ⟨15, _⟩ => ⟨S2x2x12288, .f32⟩
  | .hbm, ⟨16, _⟩ => ⟨S2x16640x1024, .bf16⟩
  | .hbm, ⟨17, _⟩ => ⟨S2x16640x512, .bf16⟩
  | .hbm, ⟨18, _⟩ => ⟨S2x16640x512, .bf16⟩
  | .hbm, ⟨19, _⟩ => ⟨S1x128, .f32⟩
  | .hbm, ⟨20, _⟩ => ⟨S2048x2048, .bf16⟩
  | .hbm, ⟨21, _⟩ => ⟨S1x2048, .f32⟩
  | .hbm, ⟨22, _⟩ => ⟨S2048x1024, .bf16⟩
  | .hbm, ⟨23, _⟩ => ⟨S2x16640x2048, .f32⟩
  | .hbm, ⟨24, _⟩ => ⟨S2x16640x2048, .bf16⟩
  | .hbm, ⟨25, _⟩ => ⟨S2x16640x1024, .f32⟩
  | .local _ .vmem, ⟨0, _⟩ => ⟨S1x256x2048, .f32⟩
  | .local _ .vmem, ⟨1, _⟩ => ⟨S1x256x2048, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x512, .bf16⟩
  | .local _ .vmem, ⟨5, _⟩ => ⟨S1x256x512, .bf16⟩
  | .local _ .vmem, ⟨6, _⟩ => ⟨S1x2x256x512, .f32⟩
  | .local _ .vmem, ⟨7, _⟩ => ⟨S1x2x256x512, .f32⟩
  | .local _ .vmem, ⟨8, _⟩ => ⟨S1x256x512, .bf16⟩
  | .local _ .vmem, ⟨9, _⟩ => ⟨S1x256x512, .bf16⟩
  | .local _ .vmem, ⟨10, _⟩ => ⟨S1x128, .f32⟩
  | .local _ .vmem, ⟨11, _⟩ => ⟨S2048x2048, .bf16⟩
  | .local _ .vmem, ⟨12, _⟩ => ⟨S1x2x12288, .f32⟩
  | .local _ .vmem, ⟨13, _⟩ => ⟨S1x2x12288, .f32⟩
  | .local _ .vmem, ⟨14, _⟩ => ⟨S1x2048, .f32⟩
  | .local _ .vmem, ⟨15, _⟩ => ⟨S2048x1024, .bf16⟩
  | .local _ .vmem, ⟨16, _⟩ => ⟨S1x256x2048, .f32⟩
  | .local _ .vmem, ⟨17, _⟩ => ⟨S1x256x2048, .f32⟩
  | .local _ .vmem, ⟨18, _⟩ => ⟨S1x256x2048, .bf16⟩
  | .local _ .vmem, ⟨19, _⟩ => ⟨S1x256x2048, .bf16⟩
  | .local _ .vmem, ⟨20, _⟩ => ⟨S1x256x1024, .f32⟩
  | .local _ .vmem, ⟨21, _⟩ => ⟨S1x256x1024, .f32⟩
  | _, _ => ⟨S2x16640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![2, 65], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2x12288 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== OutRefIdeal.lean ====
abbrev S2x16640x2048 : Shape := ⟨3, ![2, 16640, 2048]⟩
abbrev S2x16640x1024 : Shape := ⟨3, ![2, 16640, 1024]⟩
abbrev S2x16640x512 : Shape := ⟨3, ![2, 16640, 512]⟩
abbrev S2x2x16640x512 : Shape := ⟨4, ![2, 2, 16640, 512]⟩
abbrev S128 : Shape := ⟨1, ![128]⟩
abbrev S2048x2048 : Shape := ⟨2, ![2048, 2048]⟩
abbrev S2x12288 : Shape := ⟨2, ![2, 12288]⟩
abbrev S12288 : Shape := ⟨1, ![12288]⟩
abbrev S2048 : Shape := ⟨1, ![2048]⟩
abbrev S2048x1024 : Shape := ⟨2, ![2048, 1024]⟩
abbrev S2x256x2048 : Shape := ⟨3, ![2, 256, 2048]⟩
abbrev S2x256x1024 : Shape := ⟨3, ![2, 256, 1024]⟩
abbrev S2x256x512 : Shape := ⟨3, ![2, 256, 512]⟩
abbrev S2x1x256x512 : Shape := ⟨4, ![2, 1, 256, 512]⟩
abbrev S2x256x4x128 : Shape := ⟨4, ![2, 256, 4, 128]⟩
abbrev S2x4x256x128 : Shape := ⟨4, ![2, 4, 256, 128]⟩
abbrev S_ : Shape := ⟨0, ![]⟩
abbrev S2x4x256 : Shape := ⟨3, ![2, 4, 256]⟩
abbrev S2x4x256x1 : Shape := ⟨4, ![2, 4, 256, 1]⟩
abbrev S1x1x1x128 : Shape := ⟨4, ![1, 1, 1, 128]⟩
abbrev S1x1x2048 : Shape := ⟨3, ![1, 1, 2048]⟩
abbrev S2x256 : Shape := ⟨2, ![2, 256]⟩
abbrev S2x256x1 : Shape := ⟨3, ![2, 256, 1]⟩
abbrev S2x16384x2048 : Shape := ⟨3, ![2, 16384, 2048]⟩
abbrev S2x16384x1024 : Shape := ⟨3, ![2, 16384, 1024]⟩
abbrev S2x16384x512 : Shape := ⟨3, ![2, 16384, 512]⟩
abbrev S2x1x16384x512 : Shape := ⟨4, ![2, 1, 16384, 512]⟩
abbrev S2x1x12288 : Shape := ⟨3, ![2, 1, 12288]⟩
abbrev S2x1x2048 : Shape := ⟨3, ![2, 1, 2048]⟩
abbrev S2x16384x4x128 : Shape := ⟨4, ![2, 16384, 4, 128]⟩
abbrev S2x4x16384x128 : Shape := ⟨4, ![2, 4, 16384, 128]⟩
abbrev S2x4x16384 : Shape := ⟨3, ![2, 4, 16384]⟩
abbrev S2x4x16384x1 : Shape := ⟨4, ![2, 4, 16384, 1]⟩
abbrev S2x16384 : Shape := ⟨2, ![2, 16384]⟩
abbrev S2x16384x1 : Shape := ⟨3, ![2, 16384, 1]⟩

abbrev nBuf : Space → Nat
  | .hbm => 153
  | .vmem => 0
  | .smem => 0
  | _ => 0

abbrev hbmTy0_0 (i : Nat) : BufTy := match i % 128 with
  | 0 => ⟨S2x16640x2048, .f32⟩
  | 1 => ⟨S2x16640x1024, .f32⟩
  | 2 => ⟨S2x16640x512, .f32⟩
  | 3 => ⟨S2x2x16640x512, .f32⟩
  | 4 => ⟨S2x16640x512, .f32⟩
  | 5 => ⟨S128, .f32⟩
  | 6 => ⟨S2048x2048, .f32⟩
  | 7 => ⟨S2x12288, .f32⟩
  | 8 => ⟨S12288, .f32⟩
  | 9 => ⟨S2048, .f32⟩
  | 10 => ⟨S2048x1024, .f32⟩
  | 11 => ⟨S2x256x2048, .f32⟩
  | 12 => ⟨S2x256x1024, .f32⟩
  | 13 => ⟨S2x256x512, .f32⟩
  | 14 => ⟨S2x1x256x512, .f32⟩
  | 15 => ⟨S2x256x512, .f32⟩
  | 16 => ⟨S2x1x256x512, .f32⟩
  | 17 => ⟨S2x256x512, .f32⟩
  | 18 => ⟨S2x256x512, .f32⟩
  | 19 => ⟨S2048, .f32⟩
  | 20 => ⟨S2048, .f32⟩
  | 21 => ⟨S2048, .f32⟩
  | 22 => ⟨S2048, .f32⟩
  | 23 => ⟨S2048, .f32⟩
  | 24 => ⟨S2048, .f32⟩
  | 25 => ⟨S2x256x512, .f32⟩
  | 26 => ⟨S2x256x4x128, .f32⟩
  | 27 => ⟨S2x4x256x128, .f32⟩
  | 28 => ⟨S2x4x256x128, .f32⟩
  | 29 => ⟨S_, .f32⟩
  | 30 => ⟨S2x4x256, .f32⟩
  | 31 => ⟨S2x4x256x1, .f32⟩
  | 32 => ⟨S_, .f32⟩
  | 33 => ⟨S2x4x256x1, .f32⟩
  | 34 => ⟨S2x4x256x1, .f32⟩
  | 35 => ⟨S_, .f32⟩
  | 36 => ⟨S2x4x256x1, .f32⟩
  | 37 => ⟨S2x4x256x1, .f32⟩
  | 38 => ⟨S2x4x256x1, .f32⟩
  | 39 => ⟨S2x4x256x128, .f32⟩
  | 40 => ⟨S2x4x256x128, .f32⟩
  | 41 => ⟨S1x1x1x128, .f32⟩
  | 42 => ⟨S2x4x256x128, .f32⟩
  | 43 => ⟨S2x4x256x128, .f32⟩
  | 44 => ⟨S2x256x4x128, .f32⟩
  | 45 => ⟨S2x4x256x128, .f32⟩
  | 46 => ⟨S2x4x256x128, .f32⟩
  | 47 => ⟨S2x256x4x128, .f32⟩
  | 48 => ⟨S2x256x512, .f32⟩
  | 49 => ⟨S2x256x2048, .f32⟩
  | 50 => ⟨S2x256x2048, .f32⟩
  | 51 => ⟨S1x1x2048, .f32⟩
  | 52 => ⟨S2x256x2048, .f32⟩
  | 53 => ⟨S2x256x2048, .f32⟩
  | 54 => ⟨S2x256x2048, .f32⟩
  | 55 => ⟨S2x256x2048, .f32⟩
  | 56 => ⟨S_, .f32⟩
  | 57 => ⟨S2x256, .f32⟩
  | 58 => ⟨S2x256x1, .f32⟩
  | 59 => ⟨S_, .f32⟩
  | 60 => ⟨S2x256x1, .f32⟩
  | 61 => ⟨S2x256x1, .f32⟩
  | 62 => ⟨S_, .f32⟩
  | 63 => ⟨S2x256x1, .f32⟩
  | 64 => ⟨S2x256x1, .f32⟩
  | 65 => ⟨S2x256x1, .f32⟩
  | 66 => ⟨S2x256x2048, .f32⟩
  | 67 => ⟨S2x256x2048, .f32⟩
  | 68 => ⟨S1x1x2048, .f32⟩
  | 69 => ⟨S2x256x2048, .f32⟩
  | 70 => ⟨S2x256x2048, .f32⟩
  | 71 => ⟨S_, .f32⟩
  | 72 => ⟨S2048, .f32⟩
  | 73 => ⟨S2048, .f32⟩
  | 74 => ⟨S1x1x2048, .f32⟩
  | 75 => ⟨S2x256x2048, .f32⟩
  | 76 => ⟨S2x256x2048, .f32⟩
  | 77 => ⟨S1x1x2048, .f32⟩
  | 78 => ⟨S2x256x2048, .f32⟩
  | 79 => ⟨S2x256x2048, .f32⟩
  | 80 => ⟨S2x256x1024, .f32⟩
  | 81 => ⟨S2x16384x2048, .f32⟩
  | 82 => ⟨S2x16384x1024, .f32⟩
  | 83 => ⟨S2x16384x512, .f32⟩
  | 84 => ⟨S2x1x16384x512, .f32⟩
  | 85 => ⟨S2x16384x512, .f32⟩
  | 86 => ⟨S2x1x16384x512, .f32⟩
  | 87 => ⟨S2x16384x512, .f32⟩
  | 88 => ⟨S2x16384x512, .f32⟩
  | 89 => ⟨S2x1x12288, .f32⟩
  | 90 => ⟨S2x1x2048, .f32⟩
  | 91 => ⟨S2x1x2048, .f32⟩
  | 92 => ⟨S2x1x2048, .f32⟩
  | 93 => ⟨S2x1x2048, .f32⟩
  | 94 => ⟨S2x1x2048, .f32⟩
  | 95 => ⟨S2x1x2048, .f32⟩
  | 96 => ⟨S2x16384x512, .f32⟩
  | 97 => ⟨S2x16384x4x128, .f32⟩
  | 98 => ⟨S2x4x16384x128, .f32⟩
  | 99 => ⟨S2x4x16384x128, .f32⟩
  | 100 => ⟨S_, .f32⟩
  | 101 => ⟨S2x4x16384, .f32⟩
  | 102 => ⟨S2x4x16384x1, .f32⟩
  | 103 => ⟨S_, .f32⟩
  | 104 => ⟨S2x4x16384x1, .f32⟩
  | 105 => ⟨S2x4x16384x1, .f32⟩
  | 106 => ⟨S_, .f32⟩
  | 107 => ⟨S2x4x16384x1, .f32⟩
  | 108 => ⟨S2x4x16384x1, .f32⟩
  | 109 => ⟨S2x4x16384x1, .f32⟩
  | 110 => ⟨S2x4x16384x128, .f32⟩
  | 111 => ⟨S2x4x16384x128, .f32⟩
  | 112 => ⟨S1x1x1x128, .f32⟩
  | 113 => ⟨S2x4x16384x128, .f32⟩
  | 114 => ⟨S2x4x16384x128, .f32⟩
  | 115 => ⟨S2x16384x4x128, .f32⟩
  | 116 => ⟨S2x4x16384x128, .f32⟩
  | 117 => ⟨S2x4x16384x128, .f32⟩
  | 118 => ⟨S2x16384x4x128, .f32⟩
  | 119 => ⟨S2x16384x512, .f32⟩
  | 120 => ⟨S2x16384x2048, .f32⟩
  | 121 => ⟨S2x16384x2048, .f32⟩
  | 122 => ⟨S2x16384x2048, .f32⟩
  | 123 => ⟨S2x16384x2048, .f32⟩
  | 124 => ⟨S2x16384x2048, .f32⟩
  | 125 => ⟨S2x16384x2048, .f32⟩
  | 126 => ⟨S_, .f32⟩
  | 127 => ⟨S2x16384, .f32⟩
  | _ => ⟨S2x16640x2048, .f32⟩

abbrev hbmTy0_1 (i : Nat) : BufTy := match i % 128 with
  | 0 => ⟨S2x16384x1, .f32⟩
  | 1 => ⟨S_, .f32⟩
  | 2 => ⟨S2x16384x1, .f32⟩
  | 3 => ⟨S2x16384x1, .f32⟩
  | 4 => ⟨S_, .f32⟩
  | 5 => ⟨S2x16384x1, .f32⟩
  | 6 => ⟨S2x16384x1, .f32⟩
  | 7 => ⟨S2x16384x1, .f32⟩
  | 8 => ⟨S2x16384x2048, .f32⟩
  | 9 => ⟨S2x16384x2048, .f32⟩
  | 10 => ⟨S1x1x2048, .f32⟩
  | 11 => ⟨S2x16384x2048, .f32⟩
  | 12 => ⟨S2x16384x2048, .f32⟩
  | 13 => ⟨S_, .f32⟩
  | 14 => ⟨S2x1x2048, .f32⟩
  | 15 => ⟨S2x1x2048, .f32⟩
  | 16 => ⟨S2x16384x2048, .f32⟩
  | 17 => ⟨S2x16384x2048, .f32⟩
  | 18 => ⟨S2x16384x2048, .f32⟩
  | 19 => ⟨S2x16384x2048, .f32⟩
  | 20 => ⟨S2x16384x1024, .f32⟩
  | 21 => ⟨S2x16640x2048, .f32⟩
  | 22 => ⟨S2x16640x2048, .f32⟩
  | 23 => ⟨S2x16640x2048, .bf16⟩
  | 24 => ⟨S2x16640x1024, .f32⟩
  | _ => ⟨S2x16640x2048, .f32⟩

abbrev hbmTy (i : Nat) : BufTy := match i / 128 with
  | 0 => hbmTy0_0 i
  | 1 => hbmTy0_1 i
  | _ => ⟨S2x16640x2048, .f32⟩

abbrev bufTy : (tb : Table) → Fin (tcTables nBuf tb) → BufTy
  | .hbm, ⟨i, _⟩ => hbmTy i
  | _, _ => ⟨S2x16640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_cst_0 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_2 : Ref sig .tc := ⟨.hbm, 56, rfl⟩
abbrev main_v42 : Ref sig .tc := ⟨.hbm, 57, rfl⟩
abbrev main_v43 : Ref sig .tc := ⟨.hbm, 58, rfl⟩
abbrev main_cst_3 : Ref sig .tc := ⟨.hbm, 59, rfl⟩
abbrev main_v44 : Ref sig .tc := ⟨.hbm, 60, rfl⟩
abbrev main_v45 : Ref sig .tc := ⟨.hbm, 61, rfl⟩
abbrev main_cst_4 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_5 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_cst_6 : Ref sig .tc := ⟨.hbm, 100, rfl⟩
abbrev main_v82 : Ref sig .tc := ⟨.hbm, 101, rfl⟩
abbrev main_v83 : Ref sig .tc := ⟨.hbm, 102, rfl⟩
abbrev main_cst_7 : Ref sig .tc := ⟨.hbm, 103, rfl⟩
abbrev main_v84 : Ref sig .tc := ⟨.hbm, 104, rfl⟩
abbrev main_v85 : Ref sig .tc := ⟨.hbm, 105, rfl⟩
abbrev main_cst_8 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_cst_9 : Ref sig .tc := ⟨.hbm, 126, rfl⟩
abbrev main_v105 : Ref sig .tc := ⟨.hbm, 127, rfl⟩
abbrev main_v106 : Ref sig .tc := ⟨.hbm, 128, rfl⟩
abbrev main_cst_10 : Ref sig .tc := ⟨.hbm, 129, rfl⟩
abbrev main_v107 : Ref sig .tc := ⟨.hbm, 130, rfl⟩
abbrev main_v108 : Ref sig .tc := ⟨.hbm, 131, rfl⟩
abbrev main_cst_11 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_cst_12 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩

abbrev nD : Nat := 1
abbrev τ : Topo := Topo.v7x

variable {F : FTy → Type} [FloatOps F]
-- ==== In.lean ====
abbrev S2x16640x2048 : Shape := ⟨3, ![2, 16640, 2048]⟩
abbrev S2x12288 : Shape := ⟨2, ![2, 12288]⟩
abbrev S12288 : Shape := ⟨1, ![12288]⟩
abbrev S2048 : Shape := ⟨1, ![2048]⟩
abbrev S2048x5632 : Shape := ⟨2, ![2048, 5632]⟩
abbrev S16384x128 : Shape := ⟨2, ![16384, 128]⟩
abbrev S16384x64 : Shape := ⟨2, ![16384, 64]⟩
abbrev S128 : Shape := ⟨1, ![128]⟩
abbrev S64 : Shape := ⟨1, ![64]⟩
abbrev S512 : Shape := ⟨1, ![512]⟩
abbrev S1x12288 : Shape := ⟨2, ![1, 12288]⟩
abbrev S2x1x12288 : Shape := ⟨3, ![2, 1, 12288]⟩
abbrev S2x2x12288 : Shape := ⟨3, ![2, 2, 12288]⟩
abbrev S1x16384x1x128 : Shape := ⟨4, ![1, 16384, 1, 128]⟩
abbrev S_ : Shape := ⟨0, ![]⟩
abbrev S256x128 : Shape := ⟨2, ![256, 128]⟩
abbrev S16640x128 : Shape := ⟨2, ![16640, 128]⟩
abbrev S1x16384x1x64 : Shape := ⟨4, ![1, 16384, 1, 64]⟩
abbrev S1x16384x2x64 : Shape := ⟨4, ![1, 16384, 2, 64]⟩
abbrev S2048x11x512 : Shape := ⟨3, ![2048, 11, 512]⟩
abbrev S11x2048x512 : Shape := ⟨3, ![11, 2048, 512]⟩
abbrev S1x2048 : Shape := ⟨2, ![1, 2048]⟩
abbrev S1x128 : Shape := ⟨2, ![1, 128]⟩
abbrev S1x64 : Shape := ⟨2, ![1, 64]⟩
abbrev S2x64 : Shape := ⟨2, ![2, 64]⟩
abbrev S1x512 : Shape := ⟨2, ![1, 512]⟩
abbrev S2x8x16640x128 : Shape := ⟨4, ![2, 8, 16640, 128]⟩
abbrev S2x16640x256 : Shape := ⟨3, ![2, 16640, 256]⟩
abbrev S2x16640x512 : Shape := ⟨3, ![2, 16640, 512]⟩
abbrev S2x4x16640x128 : Shape := ⟨4, ![2, 4, 16640, 128]⟩
abbrev S2x16640x1024 : Shape := ⟨3, ![2, 16640, 1024]⟩
abbrev S2x2x16640x512 : Shape := ⟨4, ![2, 2, 16640, 512]⟩
abbrev S1x640x2048 : Shape := ⟨3, ![1, 640, 2048]⟩
abbrev S1x2x12288 : Shape := ⟨3, ![1, 2, 12288]⟩
abbrev S1x2048x512 : Shape := ⟨3, ![1, 2048, 512]⟩
abbrev S640x128 : Shape := ⟨2, ![640, 128]⟩
abbrev S1x4x640x128 : Shape := ⟨4, ![1, 4, 640, 128]⟩
abbrev S1x640x256 : Shape := ⟨3, ![1, 640, 256]⟩
abbrev S1x640x512 : Shape := ⟨3, ![1, 640, 512]⟩
abbrev S1x640x1024 : Shape := ⟨3, ![1, 640, 1024]⟩
abbrev S1x1x640x512 : Shape := ⟨4, ![1, 1, 640, 512]⟩
abbrev S640x2048 : Shape := ⟨2, ![640, 2048]⟩
abbrev S640x512 : Shape := ⟨2, ![640, 512]⟩
abbrev S640x1 : Shape := ⟨2, ![640, 1]⟩
abbrev S1x1x12288 : Shape := ⟨3, ![1, 1, 12288]⟩
abbrev S640 : Shape := ⟨1, ![640]⟩
abbrev S2048x512 : Shape := ⟨2, ![2048, 512]⟩
abbrev S1x1x640x128 : Shape := ⟨4, ![1, 1, 640, 128]⟩
abbrev S1x640x128 : Shape := ⟨3, ![1, 640, 128]⟩

abbrev nBuf : Space → Nat
  | .hbm => 145
  | .vmem => 49
  | .smem => 0
  | _ => 0

abbrev hbmTy0_0 (i : Nat) : BufTy := match i % 128 with
  | 0 => ⟨S2x16640x2048, .f32⟩
  | 1 => ⟨S2x12288, .f32⟩
  | 2 => ⟨S12288, .f32⟩
  | 3 => ⟨S2048, .f32⟩
  | 4 => ⟨S2048x5632, .f32⟩
  | 5 => ⟨S16384x128, .f32⟩
  | 6 => ⟨S16384x128, .f32⟩
  | 7 => ⟨S16384x64, .f32⟩
  | 8 => ⟨S16384x64, .f32⟩
  | 9 => ⟨S128, .f32⟩
  | 10 => ⟨S128, .f32⟩
  | 11 => ⟨S64, .f32⟩
  | 12 => ⟨S64, .f32⟩
  | 13 => ⟨S512, .f32⟩
  | 14 => ⟨S512, .f32⟩
  | 15 => ⟨S1x12288, .f32⟩
  | 16 => ⟨S2x12288, .f32⟩
  | 17 => ⟨S2x1x12288, .f32⟩
  | 18 => ⟨S2x1x12288, .f32⟩
  | 19 => ⟨S2x2x12288, .f32⟩
  | 20 => ⟨S1x16384x1x128, .f32⟩
  | 21 => ⟨S1x16384x1x128, .f32⟩
  | 22 => ⟨S16384x128, .f32⟩
  | 23 => ⟨S1x16384x1x128, .f32⟩
  | 24 => ⟨S1x16384x1x128, .f32⟩
  | 25 => ⟨S16384x128, .f32⟩
  | 26 => ⟨S_, .f32⟩
  | 27 => ⟨S256x128, .f32⟩
  | 28 => ⟨S16640x128, .f32⟩
  | 29 => ⟨S_, .f32⟩
  | 30 => ⟨S256x128, .f32⟩
  | 31 => ⟨S16640x128, .f32⟩
  | 32 => ⟨S128, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S128, .i32⟩
  | 40 => ⟨S128, .i32⟩
  | 41 => ⟨S_, .i32⟩
  | 42 => ⟨S128, .i32⟩
  | 43 => ⟨S128, .i1⟩
  | 44 => ⟨S_, .i32⟩
  | 45 => ⟨S128, .i32⟩
  | 46 => ⟨S128, .i1⟩
  | 47 => ⟨S_, .i32⟩
  | 48 => ⟨S_, .i1⟩
  | 49 => ⟨S128, .i1⟩
  | 50 => ⟨S128, .i1⟩
  | 51 => ⟨S128, .i1⟩
  | 52 => ⟨S128, .i32⟩
  | 53 => ⟨S128, .i32⟩
  | 54 => ⟨S128, .i32⟩
  | 55 => ⟨S_, .i32⟩
  | 56 => ⟨S128, .i32⟩
  | 57 => ⟨S128, .i1⟩
  | 58 => ⟨S16640x128, .f32⟩
  | 59 => ⟨S_, .f32⟩
  | 60 => ⟨S_, .f32⟩
  | 61 => ⟨S16640x128, .i1⟩
  | 62 => ⟨S16640x128, .f32⟩
  | 63 => ⟨S16640x128, .f32⟩
  | 64 => ⟨S_, .f32⟩
  | 65 => ⟨S_, .f32⟩
  | 66 => ⟨S16640x128, .i1⟩
  | 67 => ⟨S16640x128, .f32⟩
  | 68 => ⟨S16640x128, .f32⟩
  | 69 => ⟨S1x16384x1x64, .f32⟩
  | 70 => ⟨S1x16384x2x64, .f32⟩
  | 71 => ⟨S16384x128, .f32⟩
  | 72 => ⟨S1x16384x1x64, .f32⟩
  | 73 => ⟨S1x16384x2x64, .f32⟩
  | 74 => ⟨S16384x128, .f32⟩
  | 75 => ⟨S_, .f32⟩
  | 76 => ⟨S256x128, .f32⟩
  | 77 => ⟨S16640x128, .f32⟩
  | 78 => ⟨S_, .f32⟩
  | 79 => ⟨S256x128, .f32⟩
  | 80 => ⟨S16640x128, .f32⟩
  | 81 => ⟨S128, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S128, .i32⟩
  | 89 => ⟨S128, .i32⟩
  | 90 => ⟨S_, .i32⟩
  | 91 => ⟨S128, .i32⟩
  | 92 => ⟨S128, .i1⟩
  | 93 => ⟨S_, .i32⟩
  | 94 => ⟨S128, .i32⟩
  | 95 => ⟨S128, .i1⟩
  | 96 => ⟨S_, .i32⟩
  | 97 => ⟨S_, .i1⟩
  | 98 => ⟨S128, .i1⟩
  | 99 => ⟨S128, .i1⟩
  | 100 => ⟨S128, .i1⟩
  | 101 => ⟨S128, .i32⟩
  | 102 => ⟨S128, .i32⟩
  | 103 => ⟨S128, .i32⟩
  | 104 => ⟨S_, .i32⟩
  | 105 => ⟨S128, .i32⟩
  | 106 => ⟨S128, .i1⟩
  | 107 => ⟨S16640x128, .f32⟩
  | 108 => ⟨S_, .f32⟩
  | 109 => ⟨S_, .f32⟩
  | 110 => ⟨S16640x128, .i1⟩
  | 111 => ⟨S16640x128, .f32⟩
  | 112 => ⟨S16640x128, .f32⟩
  | 113 => ⟨S_, .f32⟩
  | 114 => ⟨S_, .f32⟩
  | 115 => ⟨S16640x128, .i1⟩
  | 116 => ⟨S16640x128, .f32⟩
  | 117 => ⟨S16640x128, .f32⟩
  | 118 => ⟨S2048x5632, .bf16⟩
  | 119 => ⟨S2048x11x512, .bf16⟩
  | 120 => ⟨S11x2048x512, .bf16⟩
  | 121 => ⟨S1x2048, .f32⟩
  | 122 => ⟨S1x128, .f32⟩
  | 123 => ⟨S1x128, .f32⟩
  | 124 => ⟨S1x64, .f32⟩
  | 125 => ⟨S2x64, .f32⟩
  | 126 => ⟨S128, .f32⟩
  | 127 => ⟨S1x128, .f32⟩
  | _ => ⟨S2x16640x2048, .f32⟩

abbrev hbmTy0_1 (i : Nat) : BufTy := match i % 128 with
  | 0 => ⟨S1x64, .f32⟩
  | 1 => ⟨S2x64, .f32⟩
  | 2 => ⟨S128, .f32⟩
  | 3 => ⟨S1x128, .f32⟩
  | 4 => ⟨S1x512, .f32⟩
  | 5 => ⟨S1x512, .f32⟩
  | 6 => ⟨S2x8x16640x128, .bf16⟩
  | 7 => ⟨S2x16640x256, .bf16⟩
  | 8 => ⟨S2x16640x512, .bf16⟩
  | 9 => ⟨S2x4x16640x128, .bf16⟩
  | 10 => ⟨S2x16640x512, .bf16⟩
  | 11 => ⟨S2x16640x1024, .bf16⟩
  | 12 => ⟨S2x16640x512, .bf16⟩
  | 13 => ⟨S2x2x16640x512, .bf16⟩
  | 14 => ⟨S2x2x16640x512, .f32⟩
  | 15 => ⟨S2x16640x512, .bf16⟩
  | 16 => ⟨S2x16640x512, .bf16⟩
  | _ => ⟨S2x16640x2048, .f32⟩

abbrev hbmTy (i : Nat) : BufTy := match i / 128 with
  | 0 => hbmTy0_0 i
  | 1 => hbmTy0_1 i
  | _ => ⟨S2x16640x2048, .f32⟩

abbrev bufTy : (tb : Table) → Fin (tcTables nBuf tb) → BufTy
  | .hbm, ⟨i, _⟩ => hbmTy i
  | .local _ .vmem, ⟨0, _⟩ => ⟨S1x640x2048, .f32⟩
  | .local _ .vmem, ⟨1, _⟩ => ⟨S1x640x2048, .f32⟩
  | .local _ .vmem, ⟨2, _⟩ => ⟨S1x2x12288, .f32⟩
  | .local _ .vmem, ⟨3, _⟩ => ⟨S1x2x12288, .f32⟩
  | .local _ .vmem, ⟨4, _⟩ => ⟨S1x2048, .f32⟩
  | .local _ .vmem, ⟨5, _⟩ => ⟨S1x2048x512, .bf16⟩
  | .local _ .vmem, ⟨6, _⟩ => ⟨S1x2048x512, .bf16⟩
  | .local _ .vmem, ⟨7, _⟩ => ⟨S640x128, .f32⟩
  | .local _ .vmem, ⟨8, _⟩ => ⟨S640x128, .f32⟩
  | .local _ .vmem, ⟨9, _⟩ => ⟨S640x128, .f32⟩
  | .local _ .vmem, ⟨10, _⟩ => ⟨S640x128, .f32⟩
  | .local _ .vmem, ⟨11, _⟩ => ⟨S640x128, .f32⟩
  | .local _ .vmem, ⟨12, _⟩ => ⟨S640x128, .f32⟩
  | .local _ .vmem, ⟨13, _⟩ => ⟨S640x128, .f32⟩
  | .local _ .vmem, ⟨14, _⟩ => ⟨S640x128, .f32⟩
  | .local _ .vmem, ⟨15, _⟩ => ⟨S640x128, .f32⟩
  | .local _ .vmem, ⟨16, _⟩ => ⟨S640x128, .f32⟩
  | .local _ .vmem, ⟨17, _⟩ => ⟨S640x128, .f32⟩
  | .local _ .vmem, ⟨18, _⟩ => ⟨S640x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x512, .f32⟩
  | .local _ .vmem, ⟨24, _⟩ => ⟨S1x512, .f32⟩
  | .local _ .vmem, ⟨25, _⟩ => ⟨S1x4x640x128, .bf16⟩
  | .local _ .vmem, ⟨26, _⟩ => ⟨S1x4x640x128, .bf16⟩
  | .local _ .vmem, ⟨27, _⟩ => ⟨S1x640x256, .bf16⟩
  | .local _ .vmem, ⟨28, _⟩ => ⟨S1x640x256, .bf16⟩
  | .local _ .vmem, ⟨29, _⟩ => ⟨S1x640x512, .bf16⟩
  | .local _ .vmem, ⟨30, _⟩ => ⟨S1x640x512, .bf16⟩
  | .local _ .vmem, ⟨31, _⟩ => ⟨S1x4x640x128, .bf16⟩
  | .local _ .vmem, ⟨32, _⟩ => ⟨S1x4x640x128, .bf16⟩
  | .local _ .vmem, ⟨33, _⟩ => ⟨S1x640x512, .bf16⟩
  | .local _ .vmem, ⟨34, _⟩ => ⟨S1x640x512, .bf16⟩
  | .local _ .vmem, ⟨35, _⟩ => ⟨S1x640x1024, .bf16⟩
  | .local _ .vmem, ⟨36, _⟩ => ⟨S1x640x1024, .bf16⟩
  | .local _ .vmem, ⟨37, _⟩ => ⟨S1x640x512, .bf16⟩
  | .local _ .vmem, ⟨38, _⟩ => ⟨S1x640x512, .bf16⟩
  | .local _ .vmem, ⟨39, _⟩ => ⟨S1x1x640x512, .bf16⟩
  | .local _ .vmem, ⟨40, _⟩ => ⟨S1x1x640x512, .bf16⟩
  | .local _ .vmem, ⟨41, _⟩ => ⟨S1x1x640x512, .f32⟩
  | .local _ .vmem, ⟨42, _⟩ => ⟨S1x1x640x512, .f32⟩
  | .local _ .vmem, ⟨43, _⟩ => ⟨S1x640x512, .bf16⟩
  | .local _ .vmem, ⟨44, _⟩ => ⟨S1x640x512, .bf16⟩
  | .local _ .vmem, ⟨45, _⟩ => ⟨S1x640x512, .bf16⟩
  | .local _ .vmem, ⟨46, _⟩ => ⟨S1x640x512, .bf16⟩
  | .local _ .vmem, ⟨47, _⟩ => ⟨S640x2048, .bf16⟩
  | .local _ .vmem, ⟨48, _⟩ => ⟨S640x512, .f32⟩
  | _, _ => ⟨S2x16640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c : Ref sig .tc := ⟨.hbm, 33, rfl⟩
abbrev main_call0_v0 : Ref sig .tc := ⟨.hbm, 34, rfl⟩
abbrev main_call0_c : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_c_1 : Ref sig .tc := ⟨.hbm, 41, rfl⟩
abbrev main_call0_v5 : Ref sig .tc := ⟨.hbm, 42, rfl⟩
abbrev main_call0_v6 : Ref sig .tc := ⟨.hbm, 43, rfl⟩
abbrev main_call0_c_2 : Ref sig .tc := ⟨.hbm, 44, rfl⟩
abbrev main_call0_v7 : Ref sig .tc := ⟨.hbm, 45, rfl⟩
abbrev main_call0_v8 : Ref sig .tc := ⟨.hbm, 46, rfl⟩
abbrev main_call0_c_3 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_v16 : Ref sig .tc := ⟨.hbm, 54, rfl⟩
abbrev main_c_1 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_cst_2 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v20 : Ref sig .tc := ⟨.hbm, 63, rfl⟩
abbrev main_cst_3 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_cst_4 : Ref sig .tc := ⟨.hbm, 75, rfl⟩
abbrev main_v28 : Ref sig .tc := ⟨.hbm, 76, rfl⟩
abbrev main_v29 : Ref sig .tc := ⟨.hbm, 77, rfl⟩
abbrev main_cst_5 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_c_6 : Ref sig .tc := ⟨.hbm, 82, rfl⟩
abbrev main_call3_v0 : Ref sig .tc := ⟨.hbm, 83, rfl⟩
abbrev main_call3_c : Ref sig .tc := ⟨.hbm, 84, rfl⟩
abbrev main_call3_v1 : Ref sig .tc := ⟨.hbm, 85, rfl⟩
abbrev main_call3_c_0 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_c_1 : Ref sig .tc := ⟨.hbm, 90, rfl⟩
abbrev main_call3_v5 : Ref sig .tc := ⟨.hbm, 91, rfl⟩
abbrev main_call3_v6 : Ref sig .tc := ⟨.hbm, 92, rfl⟩
abbrev main_call3_c_2 : Ref sig .tc := ⟨.hbm, 93, rfl⟩
abbrev main_call3_v7 : Ref sig .tc := ⟨.hbm, 94, rfl⟩
abbrev main_call3_v8 : Ref sig .tc := ⟨.hbm, 95, rfl⟩
abbrev main_call3_c_3 : Ref sig .tc := ⟨.hbm, 96, rfl⟩
abbrev main_call3_v9 : Ref sig .tc := ⟨.hbm, 97, rfl⟩
abbrev main_call3_v10 : Ref sig .tc := ⟨.hbm, 98, rfl⟩
abbrev main_call3_v11 : Ref sig .tc := ⟨.hbm, 99, rfl⟩
abbrev main_call3_v12 : Ref sig .tc := ⟨.hbm, 100, rfl⟩
abbrev main_call3_v13 : Ref sig .tc := ⟨.hbm, 101, rfl⟩
abbrev main_call3_v14 : Ref sig .tc := ⟨.hbm, 102, rfl⟩
abbrev main_v33 : Ref sig .tc := ⟨.hbm, 103, rfl⟩
abbrev main_c_7 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_cst_8 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v37 : Ref sig .tc := ⟨.hbm, 112, rfl⟩
abbrev main_cst_9 : Ref sig .tc := ⟨.hbm, 113, rfl⟩
abbrev main_call5_v0 : Ref sig .tc := ⟨.hbm, 114, rfl⟩
abbrev main_call5_v1 : Ref sig .tc := ⟨.hbm, 115, rfl⟩
abbrev main_call5_v2 : Ref sig .tc := ⟨.hbm, 116, rfl⟩
abbrev main_v38 : Ref sig .tc := ⟨.hbm, 117, rfl⟩
abbrev main_v39 : Ref sig .tc := ⟨.hbm, 118, rfl⟩
abbrev main_v40 : Ref sig .tc := ⟨.hbm, 119, rfl⟩
abbrev main_v41 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_v50 : Ref sig .tc := ⟨.hbm, 129, rfl⟩
abbrev main_v51 : Ref sig .tc := ⟨.hbm, 130, rfl⟩
abbrev main_v52 : Ref sig .tc := ⟨.hbm, 131, rfl⟩
abbrev main_v53 : Ref sig .tc := ⟨.hbm, 132, rfl⟩
abbrev main_v54 : Ref sig .tc := ⟨.hbm, 133, rfl⟩
abbrev main_v55_0 : Ref sig .tc := ⟨.hbm, 134, rfl⟩
abbrev main_v55_1 : Ref sig .tc := ⟨.hbm, 135, rfl⟩
abbrev main_v55_2 : Ref sig .tc := ⟨.hbm, 136, rfl⟩
abbrev main_v55_3 : Ref sig .tc := ⟨.hbm, 137, rfl⟩
abbrev main_v55_4 : Ref sig .tc := ⟨.hbm, 138, rfl⟩
abbrev main_v55_5 : Ref sig .tc := ⟨.hbm, 139, rfl⟩
abbrev main_v55_6 : Ref sig .tc := ⟨.hbm, 140, rfl⟩
abbrev main_v55_7 : Ref sig .tc := ⟨.hbm, 141, rfl⟩
abbrev main_v55_8 : Ref sig .tc := ⟨.hbm, 142, rfl⟩
abbrev main_v55_9 : Ref sig .tc := ⟨.hbm, 143, rfl⟩
abbrev main_v55_10 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_stg23_0 : Ref sig .tc := ⟨.vmem, 39, rfl⟩
abbrev cc0_stg23_1 : Ref sig .tc := ⟨.vmem, 40, rfl⟩
abbrev cc0_stg24_0 : Ref sig .tc := ⟨.vmem, 41, rfl⟩
abbrev cc0_stg24_1 : Ref sig .tc := ⟨.vmem, 42, rfl⟩
abbrev cc0_stg25_0 : Ref sig .tc := ⟨.vmem, 43, rfl⟩
abbrev cc0_stg25_1 : Ref sig .tc := ⟨.vmem, 44, rfl⟩
abbrev cc0_stg26_0 : Ref sig .tc := ⟨.vmem, 45, rfl⟩
abbrev cc0_stg26_1 : Ref sig .tc := ⟨.vmem, 46, rfl⟩
abbrev cc0_scratch0 : Ref sig .tc := ⟨.vmem, 47, rfl⟩
abbrev cc0_scratch1 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38
abbrev cc0_sem23_0 : DmaSem sig := 39
abbrev cc0_sem23_1 : DmaSem sig := 40
abbrev cc0_sem24_0 : DmaSem sig := 41
abbrev cc0_sem24_1 : DmaSem sig := 42
abbrev cc0_sem25_0 : DmaSem sig := 43
abbrev cc0_sem25_1 : DmaSem sig := 44
abbrev cc0_sem26_0 : DmaSem sig := 45
abbrev cc0_sem26_1 : DmaSem sig := 46

abbrev nD : Nat := 1
abbrev τ : Topo := Topo.v7x

variable {F : FTy → Type} [FloatOps F]

abbrev grid0 : Pipeline.Grid := ⟨3, ![2, 26, 11], ![false, false, false]⟩

def k0_cond2 (i : grid0.Coords) : BitVec 1 :=
  let arg2 : BitVec 32 := BitVec.ofNat 32 (i 2).val
  let c2_i32 : BitVec 32 := 2#32
  let v10 : BitVec 1 := Scalar.cmpi .slt arg2 c2_i32
  let v11 : BitVec 32 := Scalar.extui v10
  let c0_i32_7 : BitVec 32 := 0#32
  let v12 : BitVec 1 := Scalar.cmpi .ne v11 c0_i32_7
  v12

def k0_cond3 (i : grid0.Coords) : BitVec 1 :=
  let arg2 : BitVec 32 := BitVec.ofNat 32 (i 2).val
  let c2_i32_8 : BitVec 32 := 2#32
  let v13 : BitVec 1 := Scalar.cmpi .eq arg2 c2_i32_8
  let v14 : BitVec 32 := Scalar.extui v13
  let c0_i32_9 : BitVec 32 := 0#32
  let v15 : BitVec 1 := Scalar.cmpi .ne v14 c0_i32_9
  v15

def k0_cond4 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_10 : BitVec 32 := 0#32
  let v18 : BitVec 1 := Scalar.cmpi .ne v17 c0_i32_10
  v18

def k0_cond5 (i : grid0.Coords) : BitVec 1 :=
  let arg2 : BitVec 32 := BitVec.ofNat 32 (i 2).val
  let c4_i32 : BitVec 32 := 4#32
  let v19 : BitVec 1 := Scalar.cmpi .eq arg2 c4_i32
  let v20 : BitVec 32 := Scalar.extui v19
  let c0_i32_11 : BitVec 32 := 0#32
  let v21 : BitVec 1 := Scalar.cmpi .ne v20 c0_i32_11
  v21

def k0_cond6 (i : grid0.Coords) : BitVec 1 :=
  let arg2 : BitVec 32 := BitVec.ofNat 32 (i 2).val
  let c5_i32 : BitVec 32 := 5#32
  let v22 : BitVec 1 := Scalar.cmpi .eq arg2 c5_i32
  let v23 : BitVec 32 := Scalar.extui v22
  let c0_i32_12 : BitVec 32 := 0#32
  let v24 : BitVec 1 := Scalar.cmpi .ne v23 c0_i32_12
  v24

def k0_cond7 (i : grid0.Coords) : BitVec 1 :=
  let arg2 : BitVec 32 := BitVec.ofNat 32 (i 2).val
  let c6_i32 : BitVec 32 := 6#32
  let v25 : BitVec 1 := Scalar.cmpi .eq arg2 c6_i32
  let v26 : BitVec 32 := Scalar.extui v25
  let c0_i32_13 : BitVec 32 := 0#32
  let v27 : BitVec 1 := Scalar.cmpi .ne v26 c0_i32_13
  v27

def k0_cond8 (i : grid0.Coords) : BitVec 1 :=
  let arg2 : BitVec 32 := BitVec.ofNat 32 (i 2).val
  let c7_i32 : BitVec 32 := 7#32
  let v28 : BitVec 1 := Scalar.cmpi .eq arg2 c7_i32
  let v29 : BitVec 32 := Scalar.extui v28
  let c0_i32_14 : BitVec 32 := 0#32
  let v30 : BitVec 1 := Scalar.cmpi .ne v29 c0_i32_14
  v30

def k0_cond9 (i : grid0.Coords) : BitVec 1 :=
  let arg2 : BitVec 32 := BitVec.ofNat 32 (i 2).val
  let c8_i32 : BitVec 32 := 8#32
  let v31 : BitVec 1 := Scalar.cmpi .eq arg2 c8_i32
  let v32 : BitVec 32 := Scalar.extui v31
  let c0_i32_15 : BitVec 32 := 0#32
  let v33 : BitVec 1 := Scalar.cmpi .ne v32 c0_i32_15
  v33

def k0_cond10 (i : grid0.Coords) : BitVec 1 :=
  let arg2 : BitVec 32 := BitVec.ofNat 32 (i 2).val
  let c9_i32 : BitVec 32 := 9#32
  let v34 : BitVec 1 := Scalar.cmpi .eq arg2 c9_i32
  let v35 : BitVec 32 := Scalar.extui v34
  let c0_i32_16 : BitVec 32 := 0#32
  let v36 : BitVec 1 := Scalar.cmpi .ne v35 c0_i32_16
  v36

def k0_cond11 (i : grid0.Coords) : BitVec 1 :=
  let arg2 : BitVec 32 := BitVec.ofNat 32 (i 2).val
  let c10_i32 : BitVec 32 := 10#32
  let v37 : BitVec 1 := Scalar.cmpi .eq arg2 c10_i32
  let v38 : BitVec 32 := Scalar.extui v37
  let c0_i32_17 : BitVec 32 := 0#32
  let v39 : BitVec 1 := Scalar.cmpi .ne v38 c0_i32_17
  v39

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  let c0_i32_0 : BitVec 32 := 0#32
  ![arg0.toNat, v0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_19 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_20 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_23 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi arg2 c7_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![arg0.toNat, v2.toNat, arg1.toNat, c0_i32_0.toNat]

def cc0_transform_24 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi arg2 c7_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![arg0.toNat, v2.toNat, arg1.toNat, c0_i32_0.toNat]

def cc0_transform_25 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_26 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2x12288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S640x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S640x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S640x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S640x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S640x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S640x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false, false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false, false]

abbrev stage0_16 : Fin 2 → Memref sig .tc .vmem S1x4x640x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S1x640x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, false]

abbrev stage0_18 : Fin 2 → Memref sig .tc .vmem S1x640x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, false]

abbrev stage0_19 : Fin 2 → Memref sig .tc .vmem S1x4x640x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true, false]

abbrev stage0_20 : Fin 2 → Memref sig .tc .vmem S1x640x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true, false]

abbrev stage0_21 : Fin 2 → Memref sig .tc .vmem S1x640x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true, false]

abbrev stage0_22 : Fin 2 → Memref sig .tc .vmem S1x640x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true, false]

abbrev stage0_23 : Fin 2 → Memref sig .tc .vmem S1x1x640x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true, true]

abbrev stage0_24 : Fin 2 → Memref sig .tc .vmem S1x1x640x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true, true]

abbrev stage0_25 : Fin 2 → Memref sig .tc .vmem S1x640x512 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true, false]

abbrev stage0_26 : Fin 2 → Memref sig .tc .vmem S1x640x512 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true, false]
-- ==== InRefIdeal.lean ====
abbrev S2x16640x2048 : Shape := ⟨3, ![2, 16640, 2048]⟩
abbrev S2x12288 : Shape := ⟨2, ![2, 12288]⟩
abbrev S12288 : Shape := ⟨1, ![12288]⟩
abbrev S2048 : Shape := ⟨1, ![2048]⟩
abbrev S2048x5632 : Shape := ⟨2, ![2048, 5632]⟩
abbrev S16384x128 : Shape := ⟨2, ![16384, 128]⟩
abbrev S16384x64 : Shape := ⟨2, ![16384, 64]⟩
abbrev S128 : Shape := ⟨1, ![128]⟩
abbrev S64 : Shape := ⟨1, ![64]⟩
abbrev S512 : Shape := ⟨1, ![512]⟩
abbrev S2x256x2048 : Shape := ⟨3, ![2, 256, 2048]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S2x16384x2048 : Shape := ⟨3, ![2, 16384, 2048]⟩
abbrev S2x1x12288 : Shape := ⟨3, ![2, 1, 12288]⟩
abbrev S2x1x2048 : Shape := ⟨3, ![2, 1, 2048]⟩
abbrev S2x16384 : Shape := ⟨2, ![2, 16384]⟩
abbrev S2x16384x1 : Shape := ⟨3, ![2, 16384, 1]⟩
abbrev S2x16640x5632 : Shape := ⟨3, ![2, 16640, 5632]⟩
abbrev S2x16640x2560 : Shape := ⟨3, ![2, 16640, 2560]⟩
abbrev S2x16640x512 : Shape := ⟨3, ![2, 16640, 512]⟩
abbrev S2x16640x256 : Shape := ⟨3, ![2, 16640, 256]⟩
abbrev S2x16640x2x128 : Shape := ⟨4, ![2, 16640, 2, 128]⟩
abbrev S2x16640x2x256 : Shape := ⟨4, ![2, 16640, 2, 256]⟩
abbrev S2x16640x4x128 : Shape := ⟨4, ![2, 16640, 4, 128]⟩
abbrev S2x16640x4x256 : Shape := ⟨4, ![2, 16640, 4, 256]⟩
abbrev S2x16640x1024 : Shape := ⟨3, ![2, 16640, 1024]⟩
abbrev S1x1x512 : Shape := ⟨3, ![1, 1, 512]⟩
abbrev S2x1x16640x512 : Shape := ⟨4, ![2, 1, 16640, 512]⟩
abbrev S2x2x16640x512 : Shape := ⟨4, ![2, 2, 16640, 512]⟩

abbrev nBuf : Space → Nat
  | .hbm => 194
  | .vmem => 0
  | .smem => 0
  | _ => 0

abbrev hbmTy0_0 (i : Nat) : BufTy := match i % 128 with
  | 0 => ⟨S2x16640x2048, .f32⟩
  | 1 => ⟨S2x12288, .f32⟩
  | 2 => ⟨S12288, .f32⟩
  | 3 => ⟨S2048, .f32⟩
  | 4 => ⟨S2048x5632, .f32⟩
  | 5 => ⟨S16384x128, .f32⟩
  | 6 => ⟨S16384x128, .f32⟩
  | 7 => ⟨S16384x64, .f32⟩
  | 8 => ⟨S16384x64, .f32⟩
  | 9 => ⟨S128, .f32⟩
  | 10 => ⟨S128, .f32⟩
  | 11 => ⟨S64, .f32⟩
  | 12 => ⟨S64, .f32⟩
  | 13 => ⟨S512, .f32⟩
  | 14 => ⟨S512, .f32⟩
  | 15 => ⟨S2x256x2048, .f32⟩
  | 16 => ⟨S2048, .f32⟩
  | 17 => ⟨S2048, .f32⟩
  | 18 => ⟨S2048, .f32⟩
  | 19 => ⟨S2048, .f32⟩
  | 20 => ⟨S2048, .f32⟩
  | 21 => ⟨S2048, .f32⟩
  | 22 => ⟨S2x256x2048, .f32⟩
  | 23 => ⟨S_, .f32⟩
  | 24 => ⟨S2x256, .f32⟩
  | 25 => ⟨S2x256x1, .f32⟩
  | 26 => ⟨S_, .f32⟩
  | 27 => ⟨S2x256x1, .f32⟩
  | 28 => ⟨S2x256x1, .f32⟩
  | 29 => ⟨S_, .f32⟩
  | 30 => ⟨S2x256x1, .f32⟩
  | 31 => ⟨S2x256x1, .f32⟩
  | 32 => ⟨S2x256x1, .f32⟩
  | 33 => ⟨S2x256x2048, .f32⟩
  | 34 => ⟨S2x256x2048, .f32⟩
  | 35 => ⟨S1x1x2048, .f32⟩
  | 36 => ⟨S2x256x2048, .f32⟩
  | 37 => ⟨S2x256x2048, .f32⟩
  | 38 => ⟨S_, .f32⟩
  | 39 => ⟨S2048, .f32⟩
  | 40 => ⟨S2048, .f32⟩
  | 41 => ⟨S1x1x2048, .f32⟩
  | 42 => ⟨S2x256x2048, .f32⟩
  | 43 => ⟨S2x256x2048, .f32⟩
  | 44 => ⟨S1x1x2048, .f32⟩
  | 45 => ⟨S2x256x2048, .f32⟩
  | 46 => ⟨S2x256x2048, .f32⟩
  | 47 => ⟨S2x16384x2048, .f32⟩
  | 48 => ⟨S2x1x12288, .f32⟩
  | 49 => ⟨S2x1x2048, .f32⟩
  | 50 => ⟨S2x1x2048, .f32⟩
  | 51 => ⟨S2x1x2048, .f32⟩
  | 52 => ⟨S2x1x2048, .f32⟩
  | 53 => ⟨S2x1x2048, .f32⟩
  | 54 => ⟨S2x1x2048, .f32⟩
  | 55 => ⟨S2x16384x2048, .f32⟩
  | 56 => ⟨S_, .f32⟩
  | 57 => ⟨S2x16384, .f32⟩
  | 58 => ⟨S2x16384x1, .f32⟩
  | 59 => ⟨S_, .f32⟩
  | 60 => ⟨S2x16384x1, .f32⟩
  | 61 => ⟨S2x16384x1, .f32⟩
  | 62 => ⟨S_, .f32⟩
  | 63 => ⟨S2x16384x1, .f32⟩
  | 64 => ⟨S2x16384x1, .f32⟩
  | 65 => ⟨S2x16384x1, .f32⟩
  | 66 => ⟨S2x16384x2048, .f32⟩
  | 67 => ⟨S2x16384x2048, .f32⟩
  | 68 => ⟨S1x1x2048, .f32⟩
  | 69 => ⟨S2x16384x2048, .f32⟩
  | 70 => ⟨S2x16384x2048, .f32⟩
  | 71 => ⟨S_, .f32⟩
  | 72 => ⟨S2x1x2048, .f32⟩
  | 73 => ⟨S2x1x2048, .f32⟩
  | 74 => ⟨S2x16384x2048, .f32⟩
  | 75 => ⟨S2x16384x2048, .f32⟩
  | 76 => ⟨S2x16384x2048, .f32⟩
  | 77 => ⟨S2x16384x2048, .f32⟩
  | 78 => ⟨S2x16640x2048, .f32⟩
  | 79 => ⟨S2x16640x5632, .f32⟩
  | 80 => ⟨S2x16640x2560, .f32⟩
  | 81 => ⟨S2x16640x512, .f32⟩
  | 82 => ⟨S2x16640x512, .f32⟩
  | 83 => ⟨S2x16640x512, .f32⟩
  | 84 => ⟨S2x16640x512, .f32⟩
  | 85 => ⟨S2x16640x512, .f32⟩
  | 86 => ⟨S2x16640x512, .f32⟩
  | 87 => ⟨S2x16640x512, .f32⟩
  | 88 => ⟨S_, .f32⟩
  | 89 => ⟨S2x16640x512, .f32⟩
  | 90 => ⟨S2x16640x512, .f32⟩
  | 91 => ⟨S_, .f32⟩
  | 92 => ⟨S2x16640x512, .f32⟩
  | 93 => ⟨S2x16640x512, .f32⟩
  | 94 => ⟨S2x16640x512, .f32⟩
  | 95 => ⟨S2x16640x512, .bf16⟩
  | 96 => ⟨S2x16640x512, .bf16⟩
  | 97 => ⟨S2x16640x512, .f32⟩
  | 98 => ⟨S2x16640x512, .f32⟩
  | 99 => ⟨S_, .f32⟩
  | 100 => ⟨S2x16640x512, .f32⟩
  | 101 => ⟨S2x16640x512, .f32⟩
  | 102 => ⟨S_, .f32⟩
  | 103 => ⟨S2x16640x512, .f32⟩
  | 104 => ⟨S2x16640x512, .f32⟩
  | 105 => ⟨S2x16640x512, .f32⟩
  | 106 => ⟨S2x16640x512, .bf16⟩
  | 107 => ⟨S2x16640x256, .f32⟩
  | 108 => ⟨S2x16640x512, .f32⟩
  | 109 => ⟨S2x16640x256, .bf16⟩
  | 110 => ⟨S2x16640x2x128, .bf16⟩
  | 111 => ⟨S_, .bf16⟩
  | 112 => ⟨S2x16640x2x128, .bf16⟩
  | 113 => ⟨S2x16640x2x256, .bf16⟩
  | 114 => ⟨S2x16640x512, .bf16⟩
  | 115 => ⟨S2x16640x512, .bf16⟩
  | 116 => ⟨S2x16640x4x128, .bf16⟩
  | 117 => ⟨S_, .bf16⟩
  | 118 => ⟨S2x16640x4x128, .bf16⟩
  | 119 => ⟨S2x16640x4x256, .bf16⟩
  | 120 => ⟨S2x16640x1024, .bf16⟩
  | 121 => ⟨S_, .f32⟩
  | 122 => ⟨S512, .f32⟩
  | 123 => ⟨S512, .f32⟩
  | 124 => ⟨S2x16640x512, .f32⟩
  | 125 => ⟨S2x16640x512, .f32⟩
  | 126 => ⟨S_, .f32⟩
  | 127 => ⟨S2x16640x512, .f32⟩
  | _ => ⟨S2x16640x2048, .f32⟩

abbrev hbmTy0_1 (i : Nat) : BufTy := match i % 128 with
  | 0 => ⟨S2x16640x512, .f32⟩
  | 1 => ⟨S_, .f32⟩
  | 2 => ⟨S2x16640x512, .f32⟩
  | 3 => ⟨S2x16640x512, .f32⟩
  | 4 => ⟨S1x1x512, .f32⟩
  | 5 => ⟨S2x16640x512, .f32⟩
  | 6 => ⟨S2x16640x512, .f32⟩
  | 7 => ⟨S1x1x512, .f32⟩
  | 8 => ⟨S2x16640x512, .f32⟩
  | 9 => ⟨S2x16640x512, .f32⟩
  | 10 => ⟨S_, .f32⟩
  | 11 => ⟨S512, .f32⟩
  | 12 => ⟨S512, .f32⟩
  | 13 => ⟨S2x16640x512, .f32⟩
  | 14 => ⟨S2x16640x512, .f32⟩
  | 15 => ⟨S2x16640x512, .f32⟩
  | 16 => ⟨S_, .f32⟩
  | 17 => ⟨S2x16640x512, .f32⟩
  | 18 => ⟨S2x16640x512, .f32⟩
  | 19 => ⟨S_, .f32⟩
  | 20 => ⟨S2x16640x512, .f32⟩
  | 21 => ⟨S2x16640x512, .f32⟩
  | 22 => ⟨S1x1x512, .f32⟩
  | 23 => ⟨S2x16640x512, .f32⟩
  | 24 => ⟨S2x16640x512, .f32⟩
  | 25 => ⟨S2x16640x512, .f32⟩
  | 26 => ⟨S_, .f32⟩
  | 27 => ⟨S512, .f32⟩
  | 28 => ⟨S512, .f32⟩
  | 29 => ⟨S2x16640x512, .f32⟩
  | 30 => ⟨S2x16640x512, .f32⟩
  | 31 => ⟨S_, .f32⟩
  | 32 => ⟨S2x16640x512, .f32⟩
  | 33 => ⟨S2x16640x512, .f32⟩
  | 34 => ⟨S_, .f32⟩
  | 35 => ⟨S2x16640x512, .f32⟩
  | 36 => ⟨S2x16640x512, .f32⟩
  | 37 => ⟨S1x1x512, .f32⟩
  | 38 => ⟨S2x16640x512, .f32⟩
  | 39 => ⟨S2x16640x512, .f32⟩
  | 40 => ⟨S1x1x512, .f32⟩
  | 41 => ⟨S2x16640x512, .f32⟩
  | 42 => ⟨S2x16640x512, .f32⟩
  | 43 => ⟨S_, .f32⟩
  | 44 => ⟨S512, .f32⟩
  | 45 => ⟨S512, .f32⟩
  | 46 => ⟨S2x16640x512, .f32⟩
  | 47 => ⟨S2x16640x512, .f32⟩
  | 48 => ⟨S2x16640x512, .f32⟩
  | 49 => ⟨S_, .f32⟩
  | 50 => ⟨S2x16640x512, .f32⟩
  | 51 => ⟨S2x16640x512, .f32⟩
  | 52 => ⟨S_, .f32⟩
  | 53 => ⟨S2x16640x512, .f32⟩
  | 54 => ⟨S2x16640x512, .f32⟩
  | 55 => ⟨S1x1x512, .f32⟩
  | 56 => ⟨S2x16640x512, .f32⟩
  | 57 => ⟨S2x16640x512, .f32⟩
  | 58 => ⟨S2x16640x512, .f32⟩
  | 59 => ⟨S2x1x16640x512, .f32⟩
  | 60 => ⟨S2x1x16640x512, .f32⟩
  | 61 => ⟨S2x2x16640x512, .f32⟩
  | 62 => ⟨S2x2x16640x512, .bf16⟩
  | 63 => ⟨S2x1x16640x512, .f32⟩
  | 64 => ⟨S2x1x16640x512, .f32⟩
  | 65 => ⟨S2x2x16640x512, .f32⟩
  | _ => ⟨S2x16640x2048, .f32⟩

abbrev hbmTy (i : Nat) : BufTy := match i / 128 with
  | 0 => hbmTy0_0 i
  | 1 => hbmTy0_1 i
  | _ => ⟨S2x16640x2048, .f32⟩

abbrev bufTy : (tb : Table) → Fin (tcTables nBuf tb) → BufTy
  | .hbm, ⟨i, _⟩ => hbmTy i
  | _, _ => ⟨S2x16640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_cst_4 : Ref sig .tc := ⟨.hbm, 59, rfl⟩
abbrev main_v39 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_6 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_call0_v0 : Ref sig .tc := ⟨.hbm, 86, rfl⟩
abbrev main_call0_v1 : Ref sig .tc := ⟨.hbm, 87, rfl⟩
abbrev main_call0_cst : Ref sig .tc := ⟨.hbm, 88, rfl⟩
abbrev main_call0_v2 : Ref sig .tc := ⟨.hbm, 89, rfl⟩
abbrev main_call0_v3 : Ref sig .tc := ⟨.hbm, 90, rfl⟩
abbrev main_call0_cst_0 : Ref sig .tc := ⟨.hbm, 91, rfl⟩
abbrev main_call0_v4 : Ref sig .tc := ⟨.hbm, 92, rfl⟩
abbrev main_call0_v5 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_call1_v0 : Ref sig .tc := ⟨.hbm, 97, rfl⟩
abbrev main_call1_v1 : Ref sig .tc := ⟨.hbm, 98, rfl⟩
abbrev main_call1_cst : Ref sig .tc := ⟨.hbm, 99, rfl⟩
abbrev main_call1_v2 : Ref sig .tc := ⟨.hbm, 100, rfl⟩
abbrev main_call1_v3 : Ref sig .tc := ⟨.hbm, 101, rfl⟩
abbrev main_call1_cst_0 : Ref sig .tc := ⟨.hbm, 102, rfl⟩
abbrev main_call1_v4 : Ref sig .tc := ⟨.hbm, 103, rfl⟩
abbrev main_call1_v5 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_7 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_8 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_9 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_10 : Ref sig .tc := ⟨.hbm, 126, rfl⟩
abbrev main_v84 : Ref sig .tc := ⟨.hbm, 127, rfl⟩
abbrev main_v85 : Ref sig .tc := ⟨.hbm, 128, rfl⟩
abbrev main_cst_11 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_12 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_13 : Ref sig .tc := ⟨.hbm, 144, rfl⟩
abbrev main_v99 : Ref sig .tc := ⟨.hbm, 145, rfl⟩
abbrev main_v100 : Ref sig .tc := ⟨.hbm, 146, rfl⟩
abbrev main_cst_14 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_cst_15 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_cst_16 : Ref sig .tc := ⟨.hbm, 159, rfl⟩
abbrev main_v111 : Ref sig .tc := ⟨.hbm, 160, rfl⟩
abbrev main_v112 : Ref sig .tc := ⟨.hbm, 161, rfl⟩
abbrev main_cst_17 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_cst_18 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_cst_19 : Ref sig .tc := ⟨.hbm, 177, rfl⟩
abbrev main_v126 : Ref sig .tc := ⟨.hbm, 178, rfl⟩
abbrev main_v127 : Ref sig .tc := ⟨.hbm, 179, rfl⟩
abbrev main_cst_20 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩

abbrev nD : Nat := 1
abbrev τ : Topo := Topo.v7x

variable {F : FTy → Type} [FloatOps F]
-- ==== Proof.GqaBlock.lean ====
/- What the grouped-query kernel writes at one grid point: four heads' quotients, read off an
   accumulator that has gone through the chunks of the keys one after the other. -/
module

public import proofs.«01_k».proof.Proof.Gen.GqaIdeal.Value
public import Idealize.ShloMosaic.Lib.Pipeline.ReadBack
public import Idealize.ShloMosaic.Lib.Pipeline.ValueKit
public import Idealize.ShloMosaic.Lib.ValueIdx

@[expose] public section

set_option maxRecDepth 16384

noncomputable section

namespace Cert.GqaProof

open Cert.GqaIdeal Cert.GqaIdeal.Gen Idealize.ShloMosaic Idealize.ShloMosaic.TcCoe Idealize.ShloMosaic.ValueIdx

variable {F : FTy → Type} [FloatOps F]

/-- The bound, read out of its block. -/
abbrev bnd (x0 : Vec F S1 .f32) : Elt F .f32 :=
  View.ld x0 (Rect.unit ![0] ![1] inb_S1_S1_0) (Shape.Idx.first (by decide))

/-- The accumulator after chunk `n` of 1280 keys. -/
def chunk (x0 : Vec F S1 .f32) (x1 : Vec F S1x4x256x128 .bf16) (x2 : Vec F S1x16640x128 .bf16) (x3 : Vec F S1x16640x256 .bf16)
    (n : ℕ) (h : n < 13) (acc : Vec F S1024x256 .f32) : Vec F S1024x256 .f32 :=
  k0_pay4 (k0_pay26 x1) (bnd x0)
    (View.ld x2 (Rect.unit ![0, 1280 * n, 0] ![1, 1280, 128] (fun a => by
      match a with | ⟨0, _⟩ => exact le_rfl | ⟨1, _⟩ => show 1280 * n + 1280 ≤ 16640; omega | ⟨2, _⟩ => exact le_rfl)))
    (View.ld x3 (Rect.unit ![0, 1280 * n, 0] ![1, 1280, 256] (fun a => by
      match a with | ⟨0, _⟩ => exact le_rfl | ⟨1, _⟩ => show 1280 * n + 1280 ≤ 16640; omega | ⟨2, _⟩ => exact le_rfl))) acc

/-- The accumulator after the first `n` chunks. -/
def accs (x0 : Vec F S1 .f32) (x1 : Vec F S1x4x256x128 .bf16) (x2 : Vec F S1x16640x128 .bf16) (x3 : Vec F S1x16640x256 .bf16) :
    (n : ℕ) → n ≤ 13 → Vec F S1024x256 .f32
  | 0, _ => k0_pay27
  | n + 1, h => chunk x0 x1 x2 x3 n h (accs x0 x1 x2 x3 n (by omega))

/-- The accumulator after the context's one chunk of 256 keys. -/
def accCtx (x0 : Vec F S1 .f32) (x1 : Vec F S1x4x256x128 .bf16) (x2 : Vec F S1x16640x128 .bf16) (x3 : Vec F S1x16640x256 .bf16) :
    Vec F S1024x256 .f32 :=
  k0_pay28 x1 (bnd x0) (View.ld x2 (Rect.unit ![0, 0, 0] ![1, 256, 128] (by decide)))
    (View.ld x3 (Rect.unit ![0, 0, 0] ![1, 256, 256] (by decide))) k0_pay27

/-- One head's rows of the block written: the quotient of the two halves of its rows of the accumulator. -/
def head (acc : Vec F S1024x256 .f32) (h : ℕ) (hh : h < 4) : Vec F S1x256x128 .bf16 :=
  k0_pay2 (View.ld acc (Rect.unit ![256 * h, 0] ![256, 128] (fun a => by
      match a with | ⟨0, _⟩ => show 256 * h + 256 ≤ 1024; omega | ⟨1, _⟩ => show 0 + 128 ≤ 256; omega)))
    (View.ld acc (Rect.unit ![256 * h, 128] ![256, 128] (fun a => by
      match a with | ⟨0, _⟩ => show 256 * h + 256 ≤ 1024; omega | ⟨1, _⟩ => exact le_rfl)))

/-- The four stores that make the block, the last first. -/
def pieces (acc : Vec F S1024x256 .f32) : List (View.Piece (Elt F) S1x256x512 .bf16) :=
  [⟨Rect.unit ![0, 0, 384] ![1, 256, 128] (by decide), head acc 3 (by decide)⟩,
   ⟨Rect.unit ![0, 0, 256] ![1, 256, 128] (by decide), head acc 2 (by decide)⟩,
   ⟨Rect.unit ![0, 0, 128] ![1, 256, 128] (by decide), head acc 1 (by decide)⟩,
   ⟨Rect.unit ![0, 0, 0] ![1, 256, 128] (by decide), head acc 0 (by decide)⟩]

theorem out_B (c : Dev nD) (i : grid0.Coords) (arg3 : Memref sig .tc .smem S1 .f32) (harg3 : arg3.IsWhole)
    (arg4 : Memref sig .tc .vmem S1x4x256x128 .bf16) (harg4 : arg4.IsWhole)
    (arg5 : Memref sig .tc .vmem S1x16640x128 .bf16) (harg5 : arg5.IsWhole)
    (arg6 : Memref sig .tc .vmem S1x16640x256 .bf16) (harg6 : arg6.IsWhole)
    (arg7 : Memref sig .tc .vmem S1x256x512 .bf16) (harg7 : arg7.IsWhole)
    (arg8 : Memref sig .tc .vmem S1024x256 .f32) (harg8 : arg8.IsWhole)
    (arg9 : Memref sig .tc .vmem S1024x1 .f32) (harg9 : arg9.IsWhole) (hc0 : ¬cond0_0 i) (hc1 : cond0_1 i)
    (x0 : Vec F S1 .f32) (x1 : Vec F S1x4x256x128 .bf16) (x2 : Vec F S1x16640x128 .bf16) (x3 : Vec F S1x16640x256 .bf16) :
    out0_B_4 c i arg3 harg3 arg4 harg4 arg5 harg5 arg6 harg6 arg7 harg7 arg8 harg8 arg9 harg9 hc0 hc1 x0 x1 x2 x3
      = View.canon (pieces (accs x0 x1 x2 x3 13 le_rfl)) := by
  frame_open
  simp (disch := decide) only [↓ View.readCov_skip, ↓ View.readCov_cons_toLoadRect, ↓ View.readCov_fill]
  frame_out
  rfl

theorem out_A (c : Dev nD) (i : grid0.Coords) (arg3 : Memref sig .tc .smem S1 .f32) (harg3 : arg3.IsWhole)
    (arg4 : Memref sig .tc .vmem S1x4x256x128 .bf16) (harg4 : arg4.IsWhole)
    (arg5 : Memref sig .tc .vmem S1x16640x128 .bf16) (harg5 : arg5.IsWhole)
    (arg6 : Memref sig .tc .vmem S1x16640x256 .bf16) (harg6 : arg6.IsWhole)
    (arg7 : Memref sig .tc .vmem S1x256x512 .bf16) (harg7 : arg7.IsWhole)
    (arg8 : Memref sig .tc .vmem S1024x256 .f32) (harg8 : arg8.IsWhole)
    (arg9 : Memref sig .tc .vmem S1024x1 .f32) (harg9 : arg9.IsWhole) (hc0 : cond0_0 i) (hc1 : ¬cond0_1 i)
    (x0 : Vec F S1 .f32) (x1 : Vec F S1x4x256x128 .bf16) (x2 : Vec F S1x16640x128 .bf16) (x3 : Vec F S1x16640x256 .bf16) :
    out0_A_4 c i arg3 harg3 arg4 harg4 arg5 harg5 arg6 harg6 arg7 harg7 arg8 harg8 arg9 harg9 hc0 hc1 x0 x1 x2 x3
      = View.canon (pieces (accCtx x0 x1 x2 x3)) := by
  frame_open
  simp (disch := decide) only [↓ View.readCov_skip, ↓ View.readCov_cons_toLoadRect, ↓ View.readCov_fill]
  frame_out
  rfl

end Cert.GqaProof

end
-- ==== Proof.Softmax.lean ====
/- The mathematics the two attentions share, on the extended reals: weights `2 ^ (t - b)` with one
   bound `b` and scores `t = s / log 2`, normalised by their sum, are the softmax of the scores `s`
   shifted by any real; and a sum of chunks is the sum over all keys. -/
module

public import Idealize.ShloMosaic.PureOps.Ideal
public import Idealize.ShloMosaic.PureOps.Ideal.Laws

@[expose] public section

noncomputable section

namespace Cert.Softmax

open Idealize.ShloMosaic

/-! ## Sums of extended reals -/

/-- A nonnegative real factor goes into a sum of extended reals. -/
theorem coe_mul_sum {ι : Type} (s : Finset ι) {r : ℝ} (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- A finite sum of reals, taken among the extended reals. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real strictly between the infinities is a real. -/
theorem exists_real {x : EReal} (h : x < ⊤ ∧ ⊥ < x) : ∃ r : ℝ, x = (r : EReal) :=
  ⟨x.toReal, (EReal.coe_toReal h.1.ne h.2.ne').symm⟩

/-- Thirteen chunks of 1280 terms, added up from the left, are the sum over all of them. -/
theorem sum_chunks (f : Fin 16640 → EReal) (g : Fin 13 → Fin 1280 → EReal)
    (h : ∀ c j, g c j = f ⟨1280 * c.val + j.val, by omega⟩) :
    ∑ c : Fin 13, ∑ j : Fin 1280, g c j = ∑ l : Fin 16640, f l := by
  rw [← Fintype.sum_prod_type' (f := g)]
  refine (Fintype.sum_equiv (finProdFinEquiv (m := 13) (n := 1280)) _ (fun l => f l) ?_)
  rintro ⟨c, j⟩
  rw [h]
  congr 1
  apply Fin.ext
  simp [finProdFinEquiv]
  omega

/-! ## The two forms of a normalised weight -/

/-- The weight a score carries under the bound: `2 ^ (s / log 2 - b) = exp (m - b log 2) exp (s - m)`. -/
theorem exp2_eq (s b m : ℝ) :
    Ideal.exp2 ((s * (1 / Real.log 2) : ℝ) - (b : ℝ) : EReal)
      = ((Real.exp (m - b * Real.log 2) * Real.exp (s - m) : ℝ) : EReal) := by
  have hl : Real.log 2 ≠ 0 := (Real.log_pos (by norm_num)).ne'
  rw [← EReal.coe_sub, Ideal.exp2_coe, ← Real.exp_add]
  congr 1
  show (2 : ℝ) ^ (s * (1 / Real.log 2) - b) = _
  rw [Real.rpow_def_of_pos (by norm_num)]
  congr 1
  field_simp
  ring

theorem exp_eq (s m : ℝ) : Ideal.exp ((s : EReal) - (m : EReal)) = ((Real.exp (s - m) : ℝ) : EReal) := by
  rw [← EReal.coe_sub, Ideal.exp_coe]

variable {ι : Type} [Fintype ι]

theorem sum_exp_pos [Nonempty ι] (s : ι → ℝ) (m : ℝ) : 0 < ∑ j, Real.exp (s j - m) :=
  Finset.sum_pos (fun _ _ => Real.exp_pos _) Finset.univ_nonempty

/-- The softmax of real scores, as a real. -/
def soft (s : ι → ℝ) (j : ι) : ℝ := Real.exp (s j) * (1 / ∑ k, Real.exp (s k))

/-- A shift of all scores does not change their softmax. -/
theorem soft_shift [Nonempty ι] (s : ι → ℝ) (m : ℝ) (j : ι) :
    Real.exp (s j - m) * (1 / ∑ k, Real.exp (s k - m)) = soft s j := by
  have h0 : 0 < ∑ k, Real.exp (s k) := Finset.sum_pos (fun _ _ => Real.exp_pos _) Finset.univ_nonempty
  have hm : 0 < Real.exp m := Real.exp_pos m
  simp only [Real.exp_sub, soft, ← Finset.sum_div]
  field_simp

/-- The reference's normalised weight: the shift it subtracts may be any real. -/
theorem div_exp [Nonempty ι] (s : ι → ℝ) (m : ℝ) (j : ι) :
    Ideal.div (Ideal.exp ((s j : EReal) - (m : EReal))) (∑ k, Ideal.exp ((s k : EReal) - (m : EReal)))
      = ((soft s j : ℝ) : EReal) := by
  simp only [exp_eq]
  rw [← coe_sum, Ideal.div_coe (sum_exp_pos s m).ne', ← EReal.coe_mul, soft_shift]

/-- The kernel's quotient: the weighted sum of the values over the sum of the weights is the sum of
    the values weighted by the softmax. Only the scores and the bound need to be real. -/
theorem div_sum [Nonempty ι] (s : ι → ℝ) (b : ℝ) (v : ι → EReal) :
    Ideal.div (∑ j, Ideal.exp2 ((s j * (1 / Real.log 2) : ℝ) - (b : ℝ) : EReal) * v j)
        (∑ j, Ideal.exp2 ((s j * (1 / Real.log 2) : ℝ) - (b : ℝ) : EReal) * 1)
      = ∑ j, ((soft s j : ℝ) : EReal) * v j := by
  have hE := sum_exp_pos s 0
  have hc : 0 < Real.exp (0 - b * Real.log 2) := Real.exp_pos _
  simp only [exp2_eq _ _ 0, mul_one]
  rw [← coe_sum, ← Finset.mul_sum, Ideal.div_coe (mul_pos hc hE).ne', mul_comm,
    coe_mul_sum _ (by positivity)]
  refine Finset.sum_congr rfl fun j _ => ?_
  rw [← mul_assoc, ← EReal.coe_mul, ← soft_shift s 0]
  congr 2
  field_simp

/-- The largest of finitely many reals, taken from `-∞`, is a real. -/
theorem fold_max_real {n : ℕ} (hn : 0 < n) (f : Fin n → EReal) (s : Fin n → ℝ) (h : ∀ j, f j = (s j : EReal)) :
    ∃ m : ℝ, (Finset.univ : Finset (Fin n)).fold max ⊥ f = (m : EReal) := by
  obtain rfl : f = fun j => (s j : EReal) := funext h
  refine exists_real ⟨?_, ?_⟩
  · rw [Finset.fold_max_lt]
    exact ⟨bot_lt_top, fun j _ => EReal.coe_lt_top _⟩
  · rw [Finset.lt_fold_max]
    exact Or.inr ⟨⟨0, hn⟩, Finset.mem_univ _, EReal.bot_lt_coe _⟩

/-- A host maximum of reals along one axis, taken from `-∞`, is a real. -/
theorem reduce_max_real {s t u : Shape} {a : Fin s.rank} (x : s.Idx → Ideal .f32) (init : u.Idx → Ideal .f32)
    (h' : s.ReducesTo [a] t) (h : s.Reduces [a] t) (hu : 0 < u.numel) (hn : 0 < s.size a) (j : t.Idx)
    (h0 : init (Shape.Idx.first hu) = (⊥ : EReal)) (hx : ∀ i, ∃ r : ℝ, x i = (r : EReal)) :
    ∃ m : ℝ, Host.reduce FloatOps.maximumf x init h' hu j = (m : EReal) := by
  choose f hf using hx
  obtain ⟨m, hm⟩ := fold_max_real hn (x ∘ h.lift j) (f ∘ h.lift j) fun k => hf _
  refine ⟨m, ?_⟩
  rw [Host.reduce_eq_fold_single FloatOps.maximumf x init h' h hu j, h0]
  exact hm

theorem ofBits_bot : Ideal.ofBits .f32 0xFF800000#32 = (⊥ : EReal) := by
  simp [Ideal.ofBits, Ideal.ieee]

end Cert.Softmax

end
-- ==== Proof.GqaBlockValue.lean ====
/- The block of `GqaBlock`, element by element on the extended reals. -/
module

public import proofs.«01_k».proof.Proof.GqaBlock
public import proofs.«01_k».proof.Proof.Softmax
public import Idealize.ShloMosaic.Lib.Pointwise

@[expose] public section

set_option maxRecDepth 16384

noncomputable section

namespace Cert.GqaProof

open Cert.GqaIdeal Cert.GqaIdeal.Gen Idealize.ShloMosaic Idealize.ShloMosaic.TcCoe

theorem pay4_apply (Q : FVec Ideal S1024x128 .bf16) (b : EReal) (k : Vec Ideal S1x1280x128 .bf16) (v : Vec Ideal S1x1280x256 .bf16)
    (acc : Vec Ideal S1024x256 .f32) (r : Fin 1024) (e : Fin 256) :
    k0_pay4 (F := Ideal) Q b k v acc (ix2 r e) = acc (ix2 r e)
      + ∑ j : Fin 1280, Ideal.exp2 ((∑ d : Fin 128, Q (ix2 r d) * k (ix3 0 j d)) - b) * v (ix3 0 j e) := by
  unfold k0_pay4
  pointwise
  rfl

theorem pay26_apply (x1 : Vec Ideal S1x4x256x128 .bf16) (r : Fin 1024) (d : Fin 128) :
    k0_pay26 (F := Ideal) x1 (ix2 r d) = x1 (ix4 0 ⟨r.val / 256, by omega⟩ ⟨r.val % 256, by omega⟩ d) := by
  unfold k0_pay26
  pointwise

theorem pay27_apply (r : Fin 1024) (e : Fin 256) : k0_pay27 (F := Ideal) (ix2 r e) = (0 : EReal) := by
  unfold k0_pay27
  pointwise

/-- The score of row `r` of the four heads' queries against key `l`. -/
def dot (x1 : Vec Ideal S1x4x256x128 .bf16) (x2 : Vec Ideal S1x16640x128 .bf16) (r : Fin 1024) (l : Fin 16640) : EReal :=
  ∑ d : Fin 128, x1 (ix4 0 ⟨r.val / 256, by omega⟩ ⟨r.val % 256, by omega⟩ d) * x2 (ix3 0 l d)

/-- What key `l` adds to the accumulator at row `r` and column `e`. -/
def term (x0 : Vec Ideal S1 .f32) (x1 : Vec Ideal S1x4x256x128 .bf16) (x2 : Vec Ideal S1x16640x128 .bf16)
    (x3 : Vec Ideal S1x16640x256 .bf16) (r : Fin 1024) (e : Fin 256) (l : Fin 16640) : EReal :=
  Ideal.exp2 (dot x1 x2 r l - x0 (ix1 0)) * x3 (ix3 0 l e)

theorem bnd_eq (x0 : Vec Ideal S1 .f32) : bnd x0 = x0 (ix1 0) :=
  congrArg x0 (funext fun a => match a with | ⟨0, _⟩ => rfl)

theorem chunk_apply (x0 : Vec Ideal S1 .f32) (x1 : Vec Ideal S1x4x256x128 .bf16) (x2 : Vec Ideal S1x16640x128 .bf16)
    (x3 : Vec Ideal S1x16640x256 .bf16) (n : ℕ) (h : n < 13) (acc : Vec Ideal S1024x256 .f32) (r : Fin 1024) (e : Fin 256) :
    chunk x0 x1 x2 x3 n h acc (ix2 r e) = acc (ix2 r e)
      + ∑ j : Fin 1280, term x0 x1 x2 x3 r e ⟨1280 * n + j.val, by omega⟩ := by
  unfold chunk term dot
  rw [pay4_apply, bnd_eq]
  simp only [pay26_apply]
  pointwise

theorem accs_apply (x0 : Vec Ideal S1 .f32) (x1 : Vec Ideal S1x4x256x128 .bf16) (x2 : Vec Ideal S1x16640x128 .bf16)
    (x3 : Vec Ideal S1x16640x256 .bf16) (r : Fin 1024) (e : Fin 256) : ∀ (n : ℕ) (h : n ≤ 13),
    accs x0 x1 x2 x3 n h (ix2 r e)
      = ∑ c : Fin n, ∑ j : Fin 1280, term x0 x1 x2 x3 r e ⟨1280 * c.val + j.val, by omega⟩
  | 0, _ => pay27_apply r e
  | n + 1, h => by
    rw [Fin.sum_univ_castSucc]
    exact (chunk_apply x0 x1 x2 x3 n h _ r e).trans (congrArg (· + _) (accs_apply x0 x1 x2 x3 r e n (by omega)))

/-- All thirteen chunks together sum over all keys. -/
theorem accs_all (x0 : Vec Ideal S1 .f32) (x1 : Vec Ideal S1x4x256x128 .bf16) (x2 : Vec Ideal S1x16640x128 .bf16)
    (x3 : Vec Ideal S1x16640x256 .bf16) (r : Fin 1024) (e : Fin 256) :
    accs x0 x1 x2 x3 13 le_rfl (ix2 r e) = ∑ l : Fin 16640, term x0 x1 x2 x3 r e l :=
  (accs_apply x0 x1 x2 x3 r e 13 le_rfl).trans (Softmax.sum_chunks _ _ fun _ _ => rfl)

/-- The context's chunk sums over the context's keys. -/
theorem accCtx_apply (x0 : Vec Ideal S1 .f32) (x1 : Vec Ideal S1x4x256x128 .bf16) (x2 : Vec Ideal S1x16640x128 .bf16)
    (x3 : Vec Ideal S1x16640x256 .bf16) (r : Fin 1024) (e : Fin 256) :
    accCtx x0 x1 x2 x3 (ix2 r e) = ∑ l : Fin 256, term x0 x1 x2 x3 r e (l.castLE (by norm_num)) := by
  unfold accCtx k0_pay28 term dot
  rw [bnd_eq]
  pointwise
  simp only [pay26_apply, pay27_apply, zero_add]
  rfl

theorem head_apply (acc : Vec Ideal S1024x256 .f32) (h : ℕ) (hh : h < 4) (r : Fin 256) (e : Fin 128) :
    head (F := Ideal) acc h hh (ix3 0 r e)
      = Ideal.div (acc (ix2 ⟨256 * h + r.val, by omega⟩ (e.castLE (by norm_num)))) (acc (ix2 ⟨256 * h + r.val, by omega⟩ ⟨128 + e.val, by omega⟩)) := by
  unfold head k0_pay2
  pointwise
  rfl

/-- A store of a head's 128 columns does not reach the columns of the others. -/
theorem lane_miss (off : ℕ) (inb : ∀ a, (![0, 0, off] : Fin 3 → ℕ) a + (![1, 256, 128] : Fin 3 → ℕ) a ≤ S1x256x512.size a)
    (r : Fin 256) (c : Fin 512) (h : c.val < off ∨ off + 128 ≤ c.val) :
    (ix3 0 r c : S1x256x512.Idx) ∉ (Rect.unit (s := S1x256x512) ![0, 0, off] ![1, 256, 128] inb).set := by
  rw [Rect.mem_set_unit]
  intro hm
  have h2 : off ≤ c.val ∧ c.val < off + 128 := hm 2
  omega

theorem lane_skip (off : ℕ) (inb : ∀ a, (![0, 0, off] : Fin 3 → ℕ) a + (![1, 256, 128] : Fin 3 → ℕ) a ≤ S1x256x512.size a)
    (w : Vec Ideal S1x256x128 .bf16) (L : List (View.Piece (Elt Ideal) S1x256x512 .bf16)) (r : Fin 256) (c : Fin 512)
    (h : c.val < off ∨ off + 128 ≤ c.val) :
    View.canon (⟨Rect.unit ![0, 0, off] ![1, 256, 128] inb, w⟩ :: L) (ix3 0 r c : S1x256x512.Idx) = View.canon L (ix3 0 r c) :=
  View.canon_cons_of_not_mem _ _ (lane_miss off inb r c h)

theorem lane_hit (off : ℕ) (inb : ∀ a, (![0, 0, off] : Fin 3 → ℕ) a + (![1, 256, 128] : Fin 3 → ℕ) a ≤ S1x256x512.size a)
    (w : Vec Ideal S1x256x128 .bf16) (L : List (View.Piece (Elt Ideal) S1x256x512 .bf16)) (r : Fin 256) (e : Fin 128) (c : Fin 512)
    (h : c.val = off + e.val) :
    View.canon (⟨Rect.unit ![0, 0, off] ![1, 256, 128] inb, w⟩ :: L) (ix3 0 r c : S1x256x512.Idx) = w (ix3 0 r e) := by
  refine Eq.trans (congrArg _ ?_) (View.canon_cons_emb (Rect.unit ![0, 0, off] ![1, 256, 128] inb) w L
    (show (Rect.unit (s := S1x256x512) ![0, 0, off] ![1, 256, 128] inb).shape.Idx from (ix3 (0 : Fin 1) r e : S1x256x128.Idx)))
  funext a
  match a with
  | ⟨0, _⟩ => rfl
  | ⟨1, _⟩ => exact Fin.ext (show r.val = 0 + 1 * r.val by omega)
  | ⟨2, _⟩ => exact Fin.ext (show c.val = off + 1 * e.val by omega)

/-- The block written, at row `r` and column `e` of head `h`. -/
theorem pieces_apply (acc : Vec Ideal S1024x256 .f32) (h : ℕ) (hh : h < 4) (r : Fin 256) (e : Fin 128) (c : Fin 512)
    (hc : c.val = 128 * h + e.val) :
    View.canon (pieces (F := Ideal) acc) (ix3 0 r c : S1x256x512.Idx)
      = Ideal.div (acc (ix2 ⟨256 * h + r.val, by omega⟩ (e.castLE (by norm_num))))
          (acc (ix2 ⟨256 * h + r.val, by omega⟩ ⟨128 + e.val, by omega⟩)) := by
  rw [← head_apply acc h hh r e]
  have he : e.val < 128 := e.isLt
  unfold pieces
  match h, hh, hc with
  | 0, _, hc =>
    rw [lane_skip 384, lane_skip 256, lane_skip 128, lane_hit 0 _ _ _ r e c (by omega)] <;> omega
  | 1, _, hc =>
    rw [lane_skip 384, lane_skip 256, lane_hit 128 _ _ _ r e c (by omega)] <;> omega
  | 2, _, hc =>
    rw [lane_skip 384, lane_hit 256 _ _ _ r e c (by omega)]; omega
  | 3, _, hc => rw [lane_hit 384 _ _ _ r e c (by omega)]

end Cert.GqaProof

end
-- ==== Proof.GqaSpec.lean ====
/- What the grouped-query attention computes, as a function of real queries and keys and of any
   values: each query's softmax over the keys of its group, and the values averaged by it. -/
module

public import proofs.«01_k».proof.Proof.Softmax
public import proofs.«01_k».proof.GqaRefIdeal
public import Idealize.ShloMosaic.Lib.ValueIdx

@[expose] public section

noncomputable section

namespace Cert.GqaSpec

open Cert.GqaRefIdeal Idealize.ShloMosaic Idealize.ShloMosaic.ValueIdx Cert.Softmax

/-- The factor of the scores, the number that `1 / √128` is rounded to. -/
def root : ℝ := (Ideal.ofBits .f32 0x3DB504F3#32).toReal

theorem root_eq : Ideal.ofBits .f32 0x3DB504F3#32 = (root : EReal) := by
  refine (EReal.coe_toReal ?_ ?_).symm <;> simp [Ideal.ofBits, Ideal.ieee, -EReal.coe_mul]

/-- Column `d` of the 128 columns of the group that head `h` reads, among the 256 of keys or values. -/
def col (h : Fin 8) (d : Fin 128) : Fin 256 := ⟨h.val / 4 * 128 + d.val, by omega⟩

/-- The score of query `r` of head `h` against key `l`. -/
def score (q : S2x8x16640x128.Idx → ℝ) (k : S2x16640x256.Idx → ℝ) (b : Fin 2) (h : Fin 8) (r l : Fin 16640) : ℝ :=
  (∑ d : Fin 128, q (ix4 b h r d) * k (ix3 b l (col h d))) * root

/-- The attention of one query to the first `n` keys, in column `e` of its head. -/
def attn (n : ℕ) (hn : n ≤ 16640) (q : S2x8x16640x128.Idx → ℝ) (k : S2x16640x256.Idx → ℝ) (v : S2x16640x256.Idx → EReal)
    (b : Fin 2) (h : Fin 8) (r : Fin 16640) (e : Fin 128) : EReal :=
  ∑ l : Fin n, ((soft (fun l : Fin n => score q k b h r (l.castLE hn)) l : ℝ) : EReal) * v (ix3 b (l.castLE hn) (col h e))

/-- The result: the context's queries attend to the context's 256 keys, the others to all. -/
def out (q : S2x8x16640x128.Idx → ℝ) (k : S2x16640x256.Idx → ℝ) (v : S2x16640x256.Idx → EReal) :
    S2x16640x1024.Idx → EReal := fun i =>
  let h : Fin 8 := ⟨(i 2).val / 128, by have h2 : (i 2).val < 1024 := (i 2).isLt; omega⟩
  let e : Fin 128 := ⟨(i 2).val % 128, Nat.mod_lt _ (by norm_num)⟩
  if (i 1).val < 256 then attn 256 (by norm_num) q k v (i 0) h (i 1) e
  else attn 16640 le_rfl q k v (i 0) h (i 1) e

end Cert.GqaSpec

end
-- ==== Proof.GqaArray.lean ====
/- The arrays the grouped-query attention's call reads, and its blocks of them. -/
module

public import proofs.«01_k».proof.Proof.GqaBlockValue
public import proofs.«01_k».proof.Proof.GqaSpec
public import proofs.«01_k».proof.Proof.Gen.GqaIdeal.Value
public import Idealize.ShloMosaic.Lib.Pointwise
public import Idealize.ShloMosaic.Lib.StableHlo.ReadAt
public import Idealize.ShloMosaic.Lib.Pipeline.ValueKit

@[expose] public section

set_option maxRecDepth 16384

noncomputable section

namespace Cert.GqaProof

open Cert.GqaIdeal Cert.GqaIdeal.Gen Idealize.ShloMosaic Idealize.ShloMosaic.TcCoe

variable (m : (ℓ : Loc nD τ sig) → Buf (Elt Ideal) ℓ) (c : Dev nD)

/-- The queries, the keys and the values, as launched. -/
def argQ : S2x8x16640x128.Idx → EReal := m ((c : Thread nD τ).loc main_arg1)
def argK : S2x16640x256.Idx → EReal := m ((c : Thread nD τ).loc main_arg2)
def argV : S2x16640x256.Idx → EReal := m ((c : Thread nD τ).loc main_arg3)

/-- The factor of the queries: that of the scores, times `log₂ e`. -/
theorem factor_eq : Ideal.ofBits .f32 0x3DB504F3#32 * Ideal.div 1 (Ideal.log (Ideal.ofBits .f32 0x40000000#32))
    = (((GqaSpec.root * (1 / Real.log 2) : ℝ)) : EReal) := by
  have h2 : Ideal.ofBits .f32 0x40000000#32 = ((2 : ℝ) : EReal) := by
    simp [Ideal.ofBits, Ideal.ieee, -EReal.coe_mul]
    norm_num
  have h1 : (1 : EReal) = ((1 : ℝ) : EReal) := rfl
  rw [GqaSpec.root_eq, h2, Ideal.log_coe, if_neg (by norm_num), h1, Ideal.div_coe (Real.log_pos one_lt_two).ne', ← EReal.coe_mul, ← EReal.coe_mul, one_mul]

theorem V_q (i : S2x8x16640x128.Idx) :
    V m c main_v5 i = argQ m c i * (((GqaSpec.root * (1 / Real.log 2) : ℝ)) : EReal) := by
  unfold V
  after_reads_at
  rw [factor_eq]
  rfl

theorem V_k (i : S2x16640x256.Idx) : V m c main_v6 i = argK m c i := by
  unfold V argK
  after_reads_at

theorem V_v (b : Fin 2) (l : Fin 16640) (x : Fin 512) :
    V m c main_v11 (ix3 b l x) = if x.val % 256 < 128 then argV m c (ix3 b l ⟨x.val / 256 * 128 + x.val % 128, by omega⟩) else 1 := by
  unfold V
  after_reads_at
  split_ifs
  all_goals after_reads_simp
  all_goals clean_types
  all_goals pointwise
  all_goals first
    | exact (if_neg (by omega)).symm
    | exact (congrArg (fun y => argV m c (ix3 b l y)) (Fin.ext (by dsimp only; omega))).trans (if_pos (by omega)).symm

/-- The blocks of the point `t`: of one batch, one group of four heads and 256 rows. -/
theorem idx : ∀ t : Fin cfg0.N, win0_0.index t = ![0] ∧ win0_1.index t = ![t.val / 130, t.val % 130 / 65, t.val % 65, 0]
    ∧ win0_2.index t = ![t.val / 130, 0, t.val % 130 / 65] ∧ win0_3.index t = ![t.val / 130, 0, t.val % 130 / 65]
    ∧ win0_4.index t = ![t.val / 130, t.val % 65, t.val % 130 / 65] :=
  (by decide +kernel : ∀ t : Fin grid0.N, _)

theorem lt_N (t : Fin cfg0.N) : t.val < 260 := lt_of_lt_of_eq t.isLt N_0

/-- The batch, the group, and the tile of rows of a point. -/
def bt (t : Fin cfg0.N) : Fin 2 := ⟨t.val / 130, by have := lt_N t; omega⟩
def gr (t : Fin cfg0.N) : Fin 2 := ⟨t.val % 130 / 65, by omega⟩
def hd4 (t : Fin cfg0.N) (h : Fin 4) : Fin 8 := ⟨4 * (gr t).val + h.val, by omega⟩
def row (t : Fin cfg0.N) (r : Fin 256) : Fin 16640 := ⟨256 * (t.val % 65) + r.val, by omega⟩

theorem blk_bound (t : Fin cfg0.N) : iblk m c 0 t (ix1 0) = V m c main_arg0 (ix1 0) := by
  blk_ext [iblk, idx t]

theorem blk_q (t : Fin cfg0.N) (h : Fin 4) (r : Fin 256) (d : Fin 128) :
    iblk m c 1 t (ix4 0 h r d) = argQ m c (ix4 (bt t) (hd4 t h) (row t r) d) * (((GqaSpec.root * (1 / Real.log 2) : ℝ)) : EReal) := by
  refine Eq.trans ?_ (V_q m c _)
  blk_ext [iblk, idx t, bt, hd4, gr, row]

theorem blk_k (t : Fin cfg0.N) (l : Fin 16640) (d : Fin 128) :
    iblk m c 2 t (ix3 0 l d) = argK m c (ix3 (bt t) l ⟨128 * (gr t).val + d.val, by omega⟩) := by
  refine Eq.trans ?_ (V_k m c _)
  blk_ext [iblk, idx t, bt, gr]

theorem blk_v (t : Fin cfg0.N) (l : Fin 16640) (x : Fin 256) :
    iblk m c 3 t (ix3 0 l x) = if x.val < 128 then argV m c (ix3 (bt t) l ⟨128 * (gr t).val + x.val % 128, by omega⟩) else 1 := by
  have h : iblk m c 3 t (ix3 0 l x) = V m c main_v11 (ix3 (bt t) l ⟨256 * (gr t).val + x.val, by omega⟩) := by
    blk_ext [iblk, idx t, bt, gr]
  rw [h, V_v]
  by_cases hx : x.val < 128
  · rw [if_pos hx, if_pos (by dsimp only; omega)]
    exact congrArg (fun y => argV m c (ix3 (bt t) l y)) (Fin.ext (by dsimp only; omega))
  · rw [if_neg hx, if_neg (by dsimp only; omega)]

end Cert.GqaProof

end
-- ==== Proof.GqaValue.lean ====
/- The array the grouped-query attention's call leaves, for real bound, queries and keys: the
   softmax of each query's scores over its keys, averaging the values. -/
module

public import proofs.«01_k».proof.Proof.GqaArray

@[expose] public section

set_option maxRecDepth 16384

noncomputable section

namespace Cert.GqaProof

open Cert.GqaIdeal Cert.GqaIdeal.Gen Idealize.ShloMosaic Idealize.ShloMosaic.TcCoe

variable (m : (ℓ : Loc nD τ sig) → Buf (Elt Ideal) ℓ) (c : Dev nD)

/-- The quotient of the two accumulators over the first `n` keys. -/
theorem quot_eq (q : S2x8x16640x128.Idx → ℝ) (k : S2x16640x256.Idx → ℝ) (s : ℝ)
    (hs : V m c main_arg0 (ix1 0) = ((s : ℝ) : EReal)) (hq : ∀ i, argQ m c i = ((q i : ℝ) : EReal)) (hk : ∀ i, argK m c i = ((k i : ℝ) : EReal))
    (t : Fin cfg0.N) (h : Fin 4) (r : Fin 256) (e : Fin 128) (n : ℕ) (hn : n ≤ 16640) (hn0 : 0 < n) :
    Ideal.div (∑ l : Fin n, term (iblk m c 0 t) (iblk m c 1 t) (iblk m c 2 t) (iblk m c 3 t) ⟨256 * h.val + r.val, by omega⟩ (e.castLE (by norm_num)) (l.castLE hn))
      (∑ l : Fin n, term (iblk m c 0 t) (iblk m c 1 t) (iblk m c 2 t) (iblk m c 3 t) ⟨256 * h.val + r.val, by omega⟩ ⟨128 + e.val, by omega⟩ (l.castLE hn))
      = GqaSpec.attn n hn q k (argV m c) (bt t) (hd4 t h) (row t r) e := by
  have hdot : ∀ l : Fin 16640, dot (iblk m c 1 t) (iblk m c 2 t) ⟨256 * h.val + r.val, by omega⟩ l
      = ((GqaSpec.score q k (bt t) (hd4 t h) (row t r) l * (1 / Real.log 2) : ℝ) : EReal) := by
    intro l
    unfold dot GqaSpec.score
    have e1 : (⟨(256 * h.val + r.val) / 256, by omega⟩ : Fin 4) = h := Fin.ext (by dsimp only; omega)
    have e2 : (⟨(256 * h.val + r.val) % 256, by omega⟩ : Fin 256) = r := Fin.ext (by dsimp only; omega)
    have e3 : ∀ d : Fin 128, (⟨128 * (gr t).val + d.val, by omega⟩ : Fin 256) = GqaSpec.col (hd4 t h) d := fun d =>
      Fin.ext (by simp only [GqaSpec.col, hd4]; omega)
    simp only [e1, e2, blk_q, blk_k, hq, hk, e3, ← EReal.coe_mul]
    rw [← Softmax.coe_sum]
    refine congrArg _ ?_
    rw [mul_assoc, Finset.sum_mul]
    exact Finset.sum_congr rfl fun d _ => mul_right_comm _ _ _
  have h1 : ∀ l : Fin 16640, term (iblk m c 0 t) (iblk m c 1 t) (iblk m c 2 t) (iblk m c 3 t) ⟨256 * h.val + r.val, by omega⟩ (e.castLE (by norm_num)) l
      = Ideal.exp2 (((GqaSpec.score q k (bt t) (hd4 t h) (row t r) l * (1 / Real.log 2) : ℝ) : EReal) - (s : EReal))
        * argV m c (ix3 (bt t) l (GqaSpec.col (hd4 t h) e)) := by
    intro l
    unfold term
    rw [hdot, blk_bound, hs, blk_v, if_pos]
    · refine congrArg (fun x => _ * argV m c (ix3 (bt t) l x)) (Fin.ext ?_)
      simp only [GqaSpec.col, hd4, Fin.val_castLE]
      omega
    · exact e.isLt
  have h2 : ∀ l : Fin 16640, term (iblk m c 0 t) (iblk m c 1 t) (iblk m c 2 t) (iblk m c 3 t) ⟨256 * h.val + r.val, by omega⟩ ⟨128 + e.val, by omega⟩ l
      = Ideal.exp2 (((GqaSpec.score q k (bt t) (hd4 t h) (row t r) l * (1 / Real.log 2) : ℝ) : EReal) - (s : EReal)) * 1 := by
    intro l
    unfold term
    rw [hdot, blk_bound, hs, blk_v, if_neg]
    dsimp only
    omega
  simp only [h1, h2]
  haveI : Nonempty (Fin n) := ⟨⟨0, hn0⟩⟩
  exact Softmax.div_sum (fun l : Fin n => GqaSpec.score q k (bt t) (hd4 t h) (row t r) (l.castLE hn)) s
    (fun l : Fin n => argV m c (ix3 (bt t) (l.castLE hn) (GqaSpec.col (hd4 t h) e)))

/-- The result read at a row and a column of one of the heads. -/
theorem out_at (q : S2x8x16640x128.Idx → ℝ) (k : S2x16640x256.Idx → ℝ) (v : S2x16640x256.Idx → EReal) (i : S2x16640x1024.Idx)
    (b : Fin 2) (H : Fin 8) (r : Fin 16640) (e : Fin 128)
    (h0 : (i 0).val = b.val) (h1 : (i 1).val = r.val) (h2 : (i 2).val = 128 * H.val + e.val) :
    GqaSpec.out q k v i = if r.val < 256 then GqaSpec.attn 256 (by norm_num) q k v b H r e else GqaSpec.attn 16640 le_rfl q k v b H r e := by
  have hb : i 0 = b := Fin.ext h0
  have hr : i 1 = r := Fin.ext h1
  have hH : (⟨(i 2).val / 128, by have h2 : (i 2).val < 1024 := (i 2).isLt; omega⟩ : Fin 8) = H := Fin.ext (by dsimp only; omega)
  have he : (⟨(i 2).val % 128, Nat.mod_lt _ (by norm_num)⟩ : Fin 128) = e := Fin.ext (by dsimp only; omega)
  unfold GqaSpec.out
  simp only [hH, he, hb, hr]

/-- What one point writes is the result there. -/
theorem point (q : S2x8x16640x128.Idx → ℝ) (k : S2x16640x256.Idx → ℝ) (s : ℝ)
    (hs : V m c main_arg0 (ix1 0) = ((s : ℝ) : EReal)) (hq : ∀ i, argQ m c i = ((q i : ℝ) : EReal)) (hk : ∀ i, argK m c i = ((k i : ℝ) : EReal))
    (t : Fin cfg0.N) (y : S1x256x512.Idx) :
    outsAt0 m c t.val t.isLt y = GqaSpec.out q k (argV m c) ((win0_4.blk t).view.emb y) := by
  have hy0 : (y 0).val < 1 := (y 0).isLt
  have hy1 : (y 1).val < 256 := (y 1).isLt
  have hy2 : (y 2).val < 512 := (y 2).isLt
  obtain ⟨h, hh⟩ : ∃ h : Fin 4, h.val = (y 2).val / 128 := ⟨⟨_, by omega⟩, rfl⟩
  obtain ⟨e, he⟩ : ∃ e : Fin 128, e.val = (y 2).val % 128 := ⟨⟨_, Nat.mod_lt _ (by norm_num)⟩, rfl⟩
  obtain ⟨r, hr⟩ : ∃ r : Fin 256, r.val = (y 1).val := ⟨⟨_, hy1⟩, rfl⟩
  obtain ⟨x, hx⟩ : ∃ x : Fin 512, x.val = (y 2).val := ⟨⟨_, hy2⟩, rfl⟩
  have hy : y = ix3 0 r x := by
    funext a
    match a with
    | ⟨0, _⟩ => exact Fin.ext (by show (y 0).val = 0; omega)
    | ⟨1, _⟩ => exact Fin.ext hr.symm
    | ⟨2, _⟩ => exact Fin.ext hx.symm
  have key : ∀ (n : ℕ) (hn : n ≤ 16640) (hn0 : 0 < n) (acc : Vec Ideal S1024x256 .f32)
      (hacc : ∀ R x, acc (ix2 R x) = ∑ l : Fin n, term (iblk m c 0 t) (iblk m c 1 t) (iblk m c 2 t) (iblk m c 3 t) R x (l.castLE hn)),
      View.canon (pieces acc) y = GqaSpec.attn n hn q k (argV m c) (bt t) (hd4 t h) (row t r) e := by
    intro n hn hn0 acc hacc
    rw [hy, pieces_apply acc h.val h.isLt r e x (by omega), hacc, hacc]
    exact quot_eq m c q k s hs hq hk t h r e n hn hn0
  have hrow : (row t r).val = 256 * (t.val % 65) + r.val := rfl
  have hhd : (hd4 t h).val = 4 * (t.val % 130 / 65) + h.val := rfl
  rw [out_at q k (argV m c) _ (bt t) (hd4 t h) (row t r) e (by blk_simp [idx t, bt]) (by blk_simp [idx t]; omega)
    (by blk_simp [idx t]; omega)]
  by_cases h0 : t.val % 65 = 0
  · rw [outsAt0_A m c t h0 (by omega), out_A, if_pos (by simp only [row]; omega)]
    exact key 256 (by norm_num) (by norm_num) _ (fun R x => accCtx_apply _ _ _ _ R x)
  · rw [outsAt0_B m c t h0 (by omega), out_B, if_neg (by simp only [row]; omega)]
    exact key 16640 le_rfl (by norm_num) _ (fun R x => accs_all _ _ _ _ R x)

/-- The array the call leaves. -/
theorem final (q : S2x8x16640x128.Idx → ℝ) (k : S2x16640x256.Idx → ℝ) (s : ℝ)
    (hs : V m c main_arg0 (ix1 0) = ((s : ℝ) : EReal)) (hq : ∀ i, argQ m c i = ((q i : ℝ) : EReal)) (hk : ∀ i, argK m c i = ((k i : ℝ) : EReal)) :
    (dats m 0 c).arrAt 4 cfg0.N = GqaSpec.out q k (argV m c) := by
  refine (dats m 0 c).arrAt_eq_of_covers 4 _ (by decide +kernel) fun t hf y => ?_
  blk_simp
  rw [after0_4]
  exact point m c q k s hs hq hk t y

end Cert.GqaProof

end
-- ==== Proof.GqaRef.lean ====
/- The reference of the grouped-query attention is the specification of `GqaSpec`. -/
module

public import proofs.«01_k».proof.Proof.GqaSpec
public import proofs.«01_k».proof.Proof.Gen.GqaRefIdeal.Read

@[expose] public section

set_option maxRecDepth 16384

noncomputable section

namespace Cert.GqaRefProof

open Cert.GqaRefIdeal Cert.GqaRefIdeal.Gen Cert.GqaRefIdeal.Read Idealize.ShloMosaic Idealize.ShloMosaic.ValueIdx Cert.GqaSpec Cert.Softmax

variable (q : S2x8x16640x128.Idx → ℝ) (k : S2x16640x256.Idx → ℝ) (v : S2x16640x256.Idx → EReal)

/-- Head `j` of group `g`. -/
def hd (g : Fin 2) (j : Fin 4) : Fin 8 := ⟨g.val * 4 + j.val, by omega⟩

abbrev up (x : Fin 256) : Fin 16640 := x.castLE (by norm_num)

theorem ctx_score (b g : Fin 2) (j : Fin 4) (r l : Fin 256) :
    val_main_v10 (F := Ideal) (fun i => (q i : EReal)) (fun i => (k i : EReal)) (ix5 b g j r l)
      = (score q k b (hd g j) (up r) (up l) : EReal) := by
  rw [val_main_v10_apply, val_main_v8_apply, val_main_v9_apply, val_main_cst_apply]
  simp only [val_main_v7_apply, val_main_v4_apply, val_main_v5_apply, val_main_v1_apply, val_main_v0_apply]
  rw [Ideal.mulf_def, Ideal.ofBits_def, root_eq, score, EReal.coe_mul, coe_sum]
  refine congrArg (· * _) (Finset.sum_congr rfl fun d _ => ?_)
  rw [EReal.coe_mul]
  congr 3
  · funext a
    match a with
    | ⟨0, _⟩ => exact Fin.ext (by simp [ix5, ix4, ix3]; omega)
    | ⟨1, _⟩ => exact Fin.ext (by simp [ix5, ix4, ix3, hd, col]; omega)
    | ⟨2, _⟩ => exact Fin.ext (by simp [ix5, ix4, ix3]; omega)
    | ⟨3, _⟩ => exact Fin.ext (by simp [ix5, ix4, ix3])
  · funext a
    match a with
    | ⟨0, _⟩ => exact Fin.ext (by simp [ix5, ix4, ix3]; omega)
    | ⟨1, _⟩ => exact Fin.ext (by simp [ix5, ix4, ix3]; omega)
    | ⟨2, _⟩ => exact Fin.ext (by simp [ix5, ix4, ix3, hd, col]; omega)

theorem ctx_max (b g : Fin 2) (j : Fin 4) (r : Fin 256) :
    ∃ m : ℝ, val_main_v13 (F := Ideal) (fun i => (q i : EReal)) (fun i => (k i : EReal)) (ix4 b g j r) = (m : EReal) := by
  obtain ⟨m, hm⟩ := reduce_max_real (val_main_v10 (F := Ideal) (fun i => (q i : EReal)) (fun i => (k i : EReal)))
    (val_main_cst_0 (F := Ideal)) reducesTo_S2x2x4x256x256_S2x2x4x256_d4 (by decide) h_S_ (by decide) (ix4 b g j r)
    ofBits_bot (fun i => by rw [eq_ix5 i]; exact ⟨_, ctx_score q k _ _ _ _ _⟩)
  refine ⟨m, ?_⟩
  rw [val_main_v13_apply, val_main_v12_apply, val_main_cst_1_apply, val_main_v11, hm, Ideal.ofBits_def, ofBits_bot]
  exact max_eq_right bot_le

/-- The softmax of a context query, at one of the context's keys. -/
theorem ctx_soft (b g : Fin 2) (j : Fin 4) (r l : Fin 256) :
    val_main_v21 (F := Ideal) (fun i => (q i : EReal)) (fun i => (k i : EReal)) (ix5 b g j r l)
      = ((soft (fun l : Fin 256 => score q k b (hd g j) (up r) (up l)) l : ℝ) : EReal) := by
  obtain ⟨m, hm⟩ := ctx_max q k b g j r
  have e : ∀ l : Fin 256, val_main_v17 (F := Ideal) (fun i => (q i : EReal)) (fun i => (k i : EReal)) (ix5 b g j r l)
      = Ideal.exp ((score q k b (hd g j) (up r) (up l) : EReal) - (m : EReal)) := fun l => by
    rw [val_main_v17_apply, val_main_v16_apply, val_main_v15_apply, val_main_v14_apply, ctx_score]
    rw [show idx_main_v14 (idx_main_v15 (ix5 b g j r l)) = ix4 b g j r from eq_ix4 _, hm]
    rfl
  rw [val_main_v21_apply, val_main_v20_apply, val_main_v19_apply, val_main_v18_apply, val_main_cst_2_apply, e,
    Ideal.ofBits_def, Ideal.ofBits_zero_f32, zero_add, Ideal.hostDivf_def,
    ← div_exp (fun l : Fin 256 => score q k b (hd g j) (up r) (up l)) m l]
  refine congrArg (Ideal.div _) (Finset.sum_congr rfl fun l' _ => ?_)
  rw [← e l']
  exact congrArg _ (eq_ix5 _)

theorem ctx_out (b : Fin 2) (h : Fin 8) (r : Fin 256) (e : Fin 128) :
    val_main_v23 (F := Ideal) (fun i => (q i : EReal)) (fun i => (k i : EReal)) v (ix4 b h r e)
      = attn 256 (by norm_num) q k v b h (up r) e := by
  have hi : idx_main_v23 (ix4 b h r e) = ix5 b (⟨h.val / 4, by omega⟩ : Fin 2) (⟨h.val % 4, by omega⟩ : Fin 4) r e := by
    funext a
    match a with
    | ⟨0, _⟩ => exact Fin.ext (by simp [ix5, ix4]; omega)
    | ⟨1, _⟩ => exact Fin.ext (by simp [ix5, ix4]; omega)
    | ⟨2, _⟩ => exact Fin.ext (by simp [ix5, ix4]; omega)
    | ⟨3, _⟩ => exact Fin.ext (by simp [ix5, ix4]; omega)
    | ⟨4, _⟩ => exact Fin.ext (by simp [ix5, ix4])
  rw [val_main_v23_apply, hi, val_main_v22_apply]
  refine Finset.sum_congr rfl fun l _ => ?_
  have hl : lidx_main_v22 (ix5 b (⟨h.val / 4, by omega⟩ : Fin 2) (⟨h.val % 4, by omega⟩ : Fin 4) r e) l
      = ix5 b ⟨h.val / 4, by omega⟩ ⟨h.val % 4, by omega⟩ r l := eq_ix5 _
  have hh : hd (⟨h.val / 4, by omega⟩ : Fin 2) (⟨h.val % 4, by omega⟩ : Fin 4) = h := Fin.ext (by simp [hd]; omega)
  rw [hl, ctx_soft, hh, val_main_v6_apply, val_main_v3_apply, val_main_v2_apply]
  refine congrArg (_ * ·) (congrArg v ?_)
  funext a
  match a with
  | ⟨0, _⟩ => exact Fin.ext (by simp [ix5, ix4, ix3]; omega)
  | ⟨1, _⟩ => exact Fin.ext (by simp [ix5, ix4, ix3]; omega)
  | ⟨2, _⟩ => exact Fin.ext (by simp [ix5, ix4, ix3, col]; omega)

abbrev lat (x : Fin 16384) : Fin 16640 := ⟨256 + x.val, by omega⟩

theorem lat_score (b g : Fin 2) (j : Fin 4) (r : Fin 16384) (l : Fin 16640) :
    val_main_v28 (F := Ideal) (fun i => (q i : EReal)) (fun i => (k i : EReal)) (ix5 b g j r l)
      = (score q k b (hd g j) (lat r) l : EReal) := by
  rw [val_main_v28_apply, val_main_v26_apply, val_main_v27_apply, val_main_cst_3_apply]
  simp only [val_main_v25_apply, val_main_v24_apply, val_main_v1_apply, val_main_v0_apply]
  rw [Ideal.mulf_def, Ideal.ofBits_def, root_eq, score, EReal.coe_mul, coe_sum]
  refine congrArg (· * _) (Finset.sum_congr rfl fun d _ => ?_)
  rw [EReal.coe_mul]
  congr 3
  · funext a
    match a with
    | ⟨0, _⟩ => exact Fin.ext (by simp [ix5, ix4, ix3, lat]; omega)
    | ⟨1, _⟩ => exact Fin.ext (by simp [ix5, ix4, ix3, hd, col]; omega)
    | ⟨2, _⟩ => exact Fin.ext (by simp [ix5, ix4, ix3, lat]; omega)
    | ⟨3, _⟩ => exact Fin.ext (by simp [ix5, ix4, ix3])
  · funext a
    match a with
    | ⟨0, _⟩ => exact Fin.ext (by simp [ix5, ix4, ix3, lat]; omega)
    | ⟨1, _⟩ => exact Fin.ext (by simp [ix5, ix4, ix3, lat]; omega)
    | ⟨2, _⟩ => exact Fin.ext (by simp [ix5, ix4, ix3, hd, col]; omega)

theorem lat_max (b g : Fin 2) (j : Fin 4) (r : Fin 16384) :
    ∃ m : ℝ, val_main_v31 (F := Ideal) (fun i => (q i : EReal)) (fun i => (k i : EReal)) (ix4 b g j r) = (m : EReal) := by
  obtain ⟨m, hm⟩ := reduce_max_real (val_main_v28 (F := Ideal) (fun i => (q i : EReal)) (fun i => (k i : EReal)))
    (val_main_cst_4 (F := Ideal)) reducesTo_S2x2x4x16384x16640_S2x2x4x16384_d4 (by decide) h_S_ (by decide) (ix4 b g j r)
    ofBits_bot (fun i => by rw [eq_ix5 i]; exact ⟨_, lat_score q k _ _ _ _ _⟩)
  refine ⟨m, ?_⟩
  rw [val_main_v31_apply, val_main_v30_apply, val_main_cst_5_apply, val_main_v29, hm, Ideal.ofBits_def, ofBits_bot]
  exact max_eq_right bot_le

/-- The softmax of a latent query, at one of all the keys. -/
theorem lat_soft (b g : Fin 2) (j : Fin 4) (r : Fin 16384) (l : Fin 16640) :
    val_main_v39 (F := Ideal) (fun i => (q i : EReal)) (fun i => (k i : EReal)) (ix5 b g j r l)
      = ((soft (fun l : Fin 16640 => score q k b (hd g j) (lat r) l) l : ℝ) : EReal) := by
  obtain ⟨m, hm⟩ := lat_max q k b g j r
  have e : ∀ l : Fin 16640, val_main_v35 (F := Ideal) (fun i => (q i : EReal)) (fun i => (k i : EReal)) (ix5 b g j r l)
      = Ideal.exp ((score q k b (hd g j) (lat r) l : EReal) - (m : EReal)) := fun l => by
    rw [val_main_v35_apply, val_main_v34_apply, val_main_v33_apply, val_main_v32_apply, lat_score]
    rw [show idx_main_v32 (idx_main_v33 (ix5 b g j r l)) = ix4 b g j r from eq_ix4 _, hm]
    rfl
  rw [val_main_v39_apply, val_main_v38_apply, val_main_v37_apply, val_main_v36_apply, val_main_cst_6_apply, e,
    Ideal.ofBits_def, Ideal.ofBits_zero_f32, zero_add, Ideal.hostDivf_def,
    ← div_exp (fun l : Fin 16640 => score q k b (hd g j) (lat r) l) m l]
  refine congrArg (Ideal.div _) (Finset.sum_congr rfl fun l' _ => ?_)
  rw [← e l']
  exact congrArg _ (eq_ix5 _)

theorem lat_out (b : Fin 2) (h : Fin 8) (r : Fin 16384) (e : Fin 128) :
    val_main_v41 (F := Ideal) (fun i => (q i : EReal)) (fun i => (k i : EReal)) v (ix4 b h r e)
      = attn 16640 le_rfl q k v b h (lat r) e := by
  have hi : idx_main_v41 (ix4 b h r e) = ix5 b (⟨h.val / 4, by omega⟩ : Fin 2) (⟨h.val % 4, by omega⟩ : Fin 4) r e := by
    funext a
    match a with
    | ⟨0, _⟩ => exact Fin.ext (by simp [ix5, ix4]; omega)
    | ⟨1, _⟩ => exact Fin.ext (by simp [ix5, ix4]; omega)
    | ⟨2, _⟩ => exact Fin.ext (by simp [ix5, ix4]; omega)
    | ⟨3, _⟩ => exact Fin.ext (by simp [ix5, ix4]; omega)
    | ⟨4, _⟩ => exact Fin.ext (by simp [ix5, ix4])
  rw [val_main_v41_apply, hi, val_main_v40_apply]
  refine Finset.sum_congr rfl fun l _ => ?_
  have hl : lidx_main_v40 (ix5 b (⟨h.val / 4, by omega⟩ : Fin 2) (⟨h.val % 4, by omega⟩ : Fin 4) r e) l
      = ix5 b ⟨h.val / 4, by omega⟩ ⟨h.val % 4, by omega⟩ r l := eq_ix5 _
  have hh : hd (⟨h.val / 4, by omega⟩ : Fin 2) (⟨h.val % 4, by omega⟩ : Fin 4) = h := Fin.ext (by simp [hd]; omega)
  rw [hl, lat_soft, hh, val_main_v3_apply, val_main_v2_apply]
  refine congrArg (_ * ·) (congrArg v ?_)
  funext a
  match a with
  | ⟨0, _⟩ => exact Fin.ext (by simp [ix5, ix4, ix3, lat]; omega)
  | ⟨1, _⟩ => exact Fin.ext (by simp [ix5, ix4, ix3, lat]; omega)
  | ⟨2, _⟩ => exact Fin.ext (by simp [ix5, ix4, ix3, col]; omega)

theorem ref_at (b : Fin 2) (r : Fin 16640) (c : Fin 1024) :
    val_main_v47 (F := Ideal) (fun i => (q i : EReal)) (fun i => (k i : EReal)) v (ix3 b r c) = out q k v (ix3 b r c) := by
  rw [val_main_v47_apply, val_main_v46]
  change concatenate _ _ _ _ (ix3 b r c : S2x16640x1024.Idx) = _
  by_cases hr : r.val < 256
  · rw [concatenate_pair_apply_left (t := S2x16640x1024) (s₁ := S2x256x1024) 1 _ _ _ (ix3 b r c) rfl (ix3 b (⟨r.val, hr⟩ : Fin 256) c)
      (fun a => by match a with | ⟨0, _⟩ => rfl | ⟨1, _⟩ => rfl | ⟨2, _⟩ => rfl),
      val_main_v43_apply, val_main_v42_apply]
    refine Eq.trans ?_ (if_pos hr).symm
    refine Eq.trans (congrArg _ ?_) (ctx_out q k v b _ ⟨r.val, hr⟩ _)
    funext a
    match a with
    | ⟨0, _⟩ => exact Fin.ext (by simp [ix3, ix4]; omega)
    | ⟨1, _⟩ => exact Fin.ext (by simp [ix3, ix4]; omega)
    | ⟨2, _⟩ => exact Fin.ext (by simp [ix3, ix4]; omega)
    | ⟨3, _⟩ => exact Fin.ext (by simp [ix3, ix4]; omega)
  · rw [concatenate_pair_apply_right (t := S2x16640x1024) (s₁ := S2x256x1024) (s₂ := S2x16384x1024) 1 _ _ _ (ix3 b r c) rfl rfl (ix3 b (⟨r.val - 256, by omega⟩ : Fin 16384) c)
      (fun a ha => by match a with | ⟨0, _⟩ => rfl | ⟨1, _⟩ => exact absurd rfl ha | ⟨2, _⟩ => rfl)
      (by simp [ix3]; omega),
      val_main_v45_apply, val_main_v44_apply]
    refine Eq.trans ?_ (if_neg hr).symm
    have hl : lat ⟨r.val - 256, by omega⟩ = r := Fin.ext (by simp [lat]; omega)
    refine Eq.trans (congrArg _ ?_) ((lat_out q k v b ⟨c.val / 128, by omega⟩ ⟨r.val - 256, by omega⟩
      ⟨c.val % 128, by omega⟩).trans (by rw [hl]))
    funext a
    match a with
    | ⟨0, _⟩ => exact Fin.ext (by simp [ix3, ix4]; omega)
    | ⟨1, _⟩ => exact Fin.ext (by simp [ix3, ix4]; omega)
    | ⟨2, _⟩ => exact Fin.ext (by simp [ix3, ix4]; omega)
    | ⟨3, _⟩ => exact Fin.ext (by simp [ix3, ix4]; omega)

/-- The reference's result, where the queries and the keys are real. -/
theorem ref_out : val_main_v47 (F := Ideal) (fun i => (q i : EReal)) (fun i => (k i : EReal)) v = out q k v := by
  funext i
  rw [eq_ix3 i]
  exact ref_at q k v _ _ _

end Cert.GqaRefProof

end
-- ==== Proof.Finite.lean ====
/- Arrays whose elements lie strictly between the infinities hold reals. -/
module

public import proofs.«01_k».proof.Proof.Softmax

@[expose] public section

noncomputable section

namespace Cert.Softmax

open Idealize.ShloMosaic

theorem ofBits_top : Ideal.ofBits .f32 0x7F800000#32 = (⊤ : EReal) := by
  simp [Ideal.ofBits, Ideal.ieee]

/-- Where the two comparisons with the infinities are all ones, an array holds reals. -/
theorem real_of_finite {s : Shape} (x hi lo : FVec Ideal s .f32) (hhi : ∀ i, hi i = Ideal.ofBits .f32 0x7F800000#32)
    (hlo : ∀ i, lo i = Ideal.ofBits .f32 0xFF800000#32) (h : andi (cmpf .olt x hi) (cmpf .ogt x lo) = fun _ => 1#1) :
    ∃ y : s.Idx → ℝ, ∀ i, x i = ((y i : ℝ) : EReal) := by
  have : ∀ i, ∃ y : ℝ, x i = ((y : ℝ) : EReal) := by
    intro i
    refine exists_real ?_
    have hi' : (Ideal.cmp .olt (x i) (hi i) &&& Ideal.cmp .ogt (x i) (lo i)) = 1#1 := congrFun h i
    rw [hhi, hlo, ofBits_top, ofBits_bot] at hi'
    simp only [Ideal.cmp] at hi'
    by_cases h1 : x i < ⊤ <;> by_cases h2 : ⊥ < x i <;> simp_all
  exact Classical.axiomOfChoice this

end Cert.Softmax

end
-- ==== Proof.GqaClaims.lean ====
/- The claims about the grouped-query attention. -/
module

public import proofs.«01_k».proof.Defs
public import proofs.«01_k».proof.Proof.GqaValue
public import proofs.«01_k».proof.Proof.GqaRef
public import proofs.«01_k».proof.Proof.Finite
public import proofs.«01_k».proof.Proof.Gen.Gqa.Frame
public import proofs.«01_k».proof.Proof.Gen.Pre_scores_finite
public import Idealize.ShloMosaic.Lib.Quiescent

@[expose] public section

set_option maxRecDepth 16384

noncomputable section

namespace Cert.GqaProof

open Idealize.ShloMosaic Idealize.ShloMosaic.TcCoe Idealize.SL.Sem

attribute [local instance] Cert.Gqa.Gen.facts Cert.GqaIdeal.Gen.facts Cert.GqaRefIdeal.Gen.facts Cert.Pre_scores_finite.Gen.facts

theorem quiescent_kernel : Cert.quiescent_Gqa := fun m ρ _ => Cert.Gqa.Gen.frame m ρ

theorem quiescent_ideal : Cert.quiescent_GqaIdeal := fun m ρ _ => Cert.GqaIdeal.Gen.frame m ρ

theorem quiescent_ideal_pre : Cert.quiescent_GqaIdeal_pre_scores_finite := fun m ρ _ => Cert.GqaIdeal.Gen.frame m ρ

theorem quiescent_reference : Cert.quiescent_GqaRefIdeal := fun m ρ _ =>
  (θ_run Cert.GqaRefIdeal.defs _ _).mono (fun r h => ⟨fun c => (h c).2, sem_eq_zero_of_no_sems (by decide) r.2⟩)
    (Cert.GqaRefIdeal.Value.run (F := Ideal) m ρ)

theorem quiescent_reference_pre : Cert.quiescent_GqaRefIdeal_pre_scores_finite := fun m ρ _ => quiescent_reference m ρ trivial

theorem algebraic : Cert.algebraic_GqaIdeal_GqaRefIdeal_pre_scores_finite := by
  intro m ρ m' ρ' hpre hagree
  have real : ∀ c : Dev Cert.GqaIdeal.nD, ∃ (s : ℝ) (q : Cert.GqaIdeal.S2x8x16640x128.Idx → ℝ) (k : Cert.GqaIdeal.S2x16640x256.Idx → ℝ),
      Cert.GqaIdeal.Gen.V m c Cert.GqaIdeal.main_arg0 (ix1 0) = ((s : ℝ) : EReal) ∧ (∀ i, argQ m c i = ((q i : ℝ) : EReal))
      ∧ ∀ i, argK m c i = ((k i : ℝ) : EReal) := by
    intro c
    obtain ⟨h0, h1, h2⟩ := hpre c
    obtain ⟨s, hs⟩ := Softmax.real_of_finite _ _ _ (fun _ => rfl) (fun _ => rfl) h0
    obtain ⟨q, hq⟩ := Softmax.real_of_finite _ _ _ (fun _ => rfl) (fun _ => rfl) h1
    obtain ⟨k, hk⟩ := Softmax.real_of_finite _ _ _ (fun _ => rfl) (fun _ => rfl) h2
    exact ⟨s (ix1 0), q, k, (congrFun (Cert.GqaIdeal.Gen.V_main_arg0 m c) _).trans (hs _), hq, hk⟩
  refine ⟨fun c => (Cert.GqaIdeal.Gen.dats m 0 c).arrAt 4 Cert.GqaIdeal.cfg0.N, Cert.GqaIdeal.Value.run_blocks m ρ, ?_⟩
  refine (θ_run Cert.GqaRefIdeal.defs _ _).mono (fun _ h c => ⟨(h c).1.trans ?_, (h c).2⟩) (Cert.GqaRefIdeal.Value.run (F := Ideal) m' ρ')
  obtain ⟨s, q, k, hs, hq, hk⟩ := real c
  obtain ⟨-, e1, e2, e3⟩ := hagree c
  rw [Cert.GqaRefIdeal.Read.val_main_v47_eq m' c]
  refine Eq.trans ?_ (final m c q k s hs hq hk).symm
  refine Eq.trans ?_ (Cert.GqaRefProof.ref_out q k (argV m c))
  rw [e1, e2, e3]
  exact congrArg₂ (fun x y => Cert.GqaRefIdeal.Read.val_main_v47 (F := Ideal) x y (argV m c)) (funext hq) (funext hk)

end Cert.GqaProof

end
-- ==== Proof.DiffBlock.lean ====
/- What the two-score kernel writes at one grid point: a head's normalised difference, read off an
   accumulator that has gone through the chunks of the keys one after the other. -/
module

public import proofs.«01_k».proof.Proof.Gen.DiffIdeal.Value
public import Idealize.ShloMosaic.Lib.Pipeline.ReadBack
public import Idealize.ShloMosaic.Lib.Pipeline.ValueKit
public import Idealize.ShloMosaic.Lib.ValueIdx

@[expose] public section

set_option maxRecDepth 16384

noncomputable section

namespace Cert.DiffProof

open Cert.DiffIdeal Cert.DiffIdeal.Gen Idealize.ShloMosaic Idealize.ShloMosaic.TcCoe Idealize.ShloMosaic.ValueIdx

variable {F : FTy → Type} [FloatOps F]

/-- The bound, read out of its block. -/
abbrev bnd (x0 : Vec F S2 .f32) : Elt F .f32 :=
  View.ld x0 (Rect.unit ![0] ![1] (by decide)) (Shape.Idx.first (by decide))

/-- The accumulator after chunk `n` of 1280 keys. -/
def chunk (x0 : Vec F S2 .f32) (x1 : Vec F S1x1x256x128 .bf16) (x2 : Vec F S1x16640x128 .bf16) (x3 : Vec F S1x16640x256 .bf16)
    (n : ℕ) (h : n < 13) (acc : Vec F S512x256 .f32) : Vec F S512x256 .f32 :=
  k0_pay2 (k0_pay24 x1) (bnd x0)
    (View.ld x2 (Rect.unit ![0, 1280 * n, 0] ![1, 1280, 128] (fun a => by
      match a with | ⟨0, _⟩ => exact le_rfl | ⟨1, _⟩ => show 1280 * n + 1280 ≤ 16640; omega | ⟨2, _⟩ => exact le_rfl)))
    (View.ld x3 (Rect.unit ![0, 1280 * n, 0] ![1, 1280, 256] (fun a => by
      match a with | ⟨0, _⟩ => exact le_rfl | ⟨1, _⟩ => show 1280 * n + 1280 ≤ 16640; omega | ⟨2, _⟩ => exact le_rfl))) acc

/-- The accumulator after the first `n` chunks. -/
def accs (x0 : Vec F S2 .f32) (x1 : Vec F S1x1x256x128 .bf16) (x2 : Vec F S1x16640x128 .bf16) (x3 : Vec F S1x16640x256 .bf16) :
    (n : ℕ) → n ≤ 13 → Vec F S512x256 .f32
  | 0, _ => k0_pay25
  | n + 1, h => chunk x0 x1 x2 x3 n h (accs x0 x1 x2 x3 n (by omega))

/-- The accumulator after the context's one chunk of 256 keys. -/
def accCtx (x0 : Vec F S2 .f32) (x1 : Vec F S1x1x256x128 .bf16) (x2 : Vec F S1x16640x128 .bf16) (x3 : Vec F S1x16640x256 .bf16) :
    Vec F S512x256 .f32 :=
  k0_pay26 x1 (bnd x0) (View.ld x2 (Rect.unit ![0, 0, 0] ![1, 256, 128] (by decide)))
    (View.ld x3 (Rect.unit ![0, 0, 0] ![1, 256, 256] (by decide))) k0_pay25

/-- The output of one block of rows: the quotients of the two halves of the rows of the first score, less `x0 1` times
    those of the second, normalised. -/
def block (x0 : Vec F S2 .f32) (x4 : Vec F S1x128 .f32) (acc : Vec F S512x256 .f32) : Vec F S1x256x128 .bf16 :=
  k0_pay1
    (k0_pay28 (View.ld acc (Rect.unit ![0, 0] ![256, 128] (by decide))) (View.ld acc (Rect.unit ![0, 128] ![256, 128] (by decide))))
    (k0_pay29 (View.ld acc (Rect.unit ![256, 0] ![256, 128] (by decide))) (View.ld acc (Rect.unit ![256, 128] ![256, 128] (by decide))))
    (View.ld x0 (Rect.unit ![1] ![1] (by decide)) (Shape.Idx.first (by decide)))
    x4

theorem out_B (c : Dev nD) (i : grid0.Coords) (arg3 : Memref sig .tc .smem S2 .f32) (harg3 : arg3.IsWhole)
    (arg4 : Memref sig .tc .vmem S1x1x256x128 .bf16) (harg4 : arg4.IsWhole)
    (arg5 : Memref sig .tc .vmem S1x16640x128 .bf16) (harg5 : arg5.IsWhole)
    (arg6 : Memref sig .tc .vmem S1x16640x256 .bf16) (harg6 : arg6.IsWhole)
    (arg7 : Memref sig .tc .vmem S1x128 .f32) (harg7 : arg7.IsWhole)
    (arg8 : Memref sig .tc .vmem S1x256x128 .bf16) (harg8 : arg8.IsWhole)
    (arg9 : Memref sig .tc .vmem S512x256 .f32) (harg9 : arg9.IsWhole)
    (arg10 : Memref sig .tc .vmem S512x1 .f32) (harg10 : arg10.IsWhole) (hc0 : ¬cond0_0 i) (hc1 : cond0_1 i)
    (x0 : Vec F S2 .f32) (x1 : Vec F S1x1x256x128 .bf16) (x2 : Vec F S1x16640x128 .bf16) (x3 : Vec F S1x16640x256 .bf16)
    (x4 : Vec F S1x128 .f32) :
    out0_B_5 c i arg3 harg3 arg4 harg4 arg5 harg5 arg6 harg6 arg7 harg7 arg8 harg8 arg9 harg9 arg10 harg10 hc0 hc1 x0 x1 x2 x3 x4
      = block x0 x4 (accs x0 x1 x2 x3 13 le_rfl) := by
  frame_open
  simp (disch := decide) only [↓ View.readCov_skip, ↓ View.readCov_cons_toLoadRect, ↓ View.readCov_fill]
  frame_out
  rfl

theorem out_A (c : Dev nD) (i : grid0.Coords) (arg3 : Memref sig .tc .smem S2 .f32) (harg3 : arg3.IsWhole)
    (arg4 : Memref sig .tc .vmem S1x1x256x128 .bf16) (harg4 : arg4.IsWhole)
    (arg5 : Memref sig .tc .vmem S1x16640x128 .bf16) (harg5 : arg5.IsWhole)
    (arg6 : Memref sig .tc .vmem S1x16640x256 .bf16) (harg6 : arg6.IsWhole)
    (arg7 : Memref sig .tc .vmem S1x128 .f32) (harg7 : arg7.IsWhole)
    (arg8 : Memref sig .tc .vmem S1x256x128 .bf16) (harg8 : arg8.IsWhole)
    (arg9 : Memref sig .tc .vmem S512x256 .f32) (harg9 : arg9.IsWhole)
    (arg10 : Memref sig .tc .vmem S512x1 .f32) (harg10 : arg10.IsWhole) (hc0 : cond0_0 i) (hc1 : ¬cond0_1 i)
    (x0 : Vec F S2 .f32) (x1 : Vec F S1x1x256x128 .bf16) (x2 : Vec F S1x16640x128 .bf16) (x3 : Vec F S1x16640x256 .bf16)
    (x4 : Vec F S1x128 .f32) :
    out0_A_5 c i arg3 harg3 arg4 harg4 arg5 harg5 arg6 harg6 arg7 harg7 arg8 harg8 arg9 harg9 arg10 harg10 hc0 hc1 x0 x1 x2 x3 x4
      = block x0 x4 (accCtx x0 x1 x2 x3) := by
  frame_open
  simp (disch := decide) only [↓ View.readCov_skip, ↓ View.readCov_cons_toLoadRect, ↓ View.readCov_fill]
  frame_out
  rfl

end Cert.DiffProof

end
-- ==== Proof.DiffBlockValue.lean ====
/- The block of `DiffBlock`, element by element on the extended reals. -/
module

public import proofs.«01_k».proof.Proof.DiffBlock
public import proofs.«01_k».proof.Proof.Softmax
public import Idealize.ShloMosaic.Lib.Pointwise

@[expose] public section

set_option maxRecDepth 16384

noncomputable section

namespace Cert.DiffProof

open Cert.DiffIdeal Cert.DiffIdeal.Gen Idealize.ShloMosaic Idealize.ShloMosaic.TcCoe

theorem pay2_apply (Q : FVec Ideal S512x128 .bf16) (b : EReal) (k : Vec Ideal S1x1280x128 .bf16) (v : Vec Ideal S1x1280x256 .bf16)
    (acc : Vec Ideal S512x256 .f32) (r : Fin 512) (e : Fin 256) :
    k0_pay2 (F := Ideal) Q b k v acc (ix2 r e) = acc (ix2 r e)
      + ∑ j : Fin 1280, Ideal.exp2 ((∑ d : Fin 128, Q (ix2 r d) * k (ix3 0 j d)) - b) * v (ix3 0 j e) := by
  unfold k0_pay2
  pointwise
  rfl

/-- The queries of row `r`: the first score's columns in the first 256 rows, the second's in the rest. -/
def rowQ (x1 : Vec Ideal S1x1x256x128 .bf16) (r : Fin 512) (d : Fin 128) : EReal :=
  if r.val / 256 = d.val / 64 then x1 (ix4 0 0 ⟨r.val % 256, by omega⟩ d) else 0

theorem lanes : ∀ d : Fin 128, IntOp.cmpi .slt (BitVec.ofNat 32 d.val) 64#32 = if d.val < 64 then 1#1 else 0#1 := by
  decide

theorem pay24_apply (x1 : Vec Ideal S1x1x256x128 .bf16) (r : Fin 512) (d : Fin 128) :
    k0_pay24 (F := Ideal) x1 (ix2 r d) = rowQ x1 r d := by
  unfold k0_pay24 rowQ
  pointwise
  by_cases h : r.val < 256 <;> by_cases hd : d.val < 64
  · refine (dif_pos h).trans (Eq.trans ?_ (if_pos (by omega)).symm)
    rw [lanes d, if_pos hd]
    exact congrArg (fun y => x1 (ix4 0 0 y d)) (Fin.ext (by dsimp only; omega))
  · refine (dif_pos h).trans (Eq.trans ?_ (if_neg (by omega)).symm)
    rw [lanes d, if_neg hd]
    rfl
  · refine (dif_neg h).trans (Eq.trans ?_ (if_neg (by omega)).symm)
    rw [lanes d, if_pos hd]
    rfl
  · refine (dif_neg h).trans (Eq.trans ?_ (if_pos (by omega)).symm)
    rw [lanes d, if_neg hd]
    exact congrArg (fun y => x1 (ix4 0 0 y d)) (Fin.ext (by dsimp only; omega))

theorem pay25_apply (r : Fin 512) (e : Fin 256) : k0_pay25 (F := Ideal) (ix2 r e) = (0 : EReal) := by
  unfold k0_pay25
  pointwise

/-- The score of row `r` against key `l`. -/
def dot (x1 : Vec Ideal S1x1x256x128 .bf16) (x2 : Vec Ideal S1x16640x128 .bf16) (r : Fin 512) (l : Fin 16640) : EReal :=
  ∑ d : Fin 128, rowQ x1 r d * x2 (ix3 0 l d)

/-- What key `l` adds to the accumulator at row `r` and column `e`. -/
def term (x0 : Vec Ideal S2 .f32) (x1 : Vec Ideal S1x1x256x128 .bf16) (x2 : Vec Ideal S1x16640x128 .bf16)
    (x3 : Vec Ideal S1x16640x256 .bf16) (r : Fin 512) (e : Fin 256) (l : Fin 16640) : EReal :=
  Ideal.exp2 (dot x1 x2 r l - x0 (ix1 0)) * x3 (ix3 0 l e)

theorem bnd_eq (x0 : Vec Ideal S2 .f32) : bnd x0 = x0 (ix1 0) :=
  congrArg x0 (funext fun a => match a with | ⟨0, _⟩ => rfl)

theorem chunk_apply (x0 : Vec Ideal S2 .f32) (x1 : Vec Ideal S1x1x256x128 .bf16) (x2 : Vec Ideal S1x16640x128 .bf16)
    (x3 : Vec Ideal S1x16640x256 .bf16) (n : ℕ) (h : n < 13) (acc : Vec Ideal S512x256 .f32) (r : Fin 512) (e : Fin 256) :
    chunk x0 x1 x2 x3 n h acc (ix2 r e) = acc (ix2 r e)
      + ∑ j : Fin 1280, term x0 x1 x2 x3 r e ⟨1280 * n + j.val, by omega⟩ := by
  unfold chunk term dot
  rw [pay2_apply, bnd_eq]
  simp only [pay24_apply]
  pointwise

theorem accs_apply (x0 : Vec Ideal S2 .f32) (x1 : Vec Ideal S1x1x256x128 .bf16) (x2 : Vec Ideal S1x16640x128 .bf16)
    (x3 : Vec Ideal S1x16640x256 .bf16) (r : Fin 512) (e : Fin 256) : ∀ (n : ℕ) (h : n ≤ 13),
    accs x0 x1 x2 x3 n h (ix2 r e)
      = ∑ c : Fin n, ∑ j : Fin 1280, term x0 x1 x2 x3 r e ⟨1280 * c.val + j.val, by omega⟩
  | 0, _ => pay25_apply r e
  | n + 1, h => by
    rw [Fin.sum_univ_castSucc]
    exact (chunk_apply x0 x1 x2 x3 n h _ r e).trans (congrArg (· + _) (accs_apply x0 x1 x2 x3 r e n (by omega)))

/-- All thirteen chunks together sum over all keys. -/
theorem accs_all (x0 : Vec Ideal S2 .f32) (x1 : Vec Ideal S1x1x256x128 .bf16) (x2 : Vec Ideal S1x16640x128 .bf16)
    (x3 : Vec Ideal S1x16640x256 .bf16) (r : Fin 512) (e : Fin 256) :
    accs x0 x1 x2 x3 13 le_rfl (ix2 r e) = ∑ l : Fin 16640, term x0 x1 x2 x3 r e l :=
  (accs_apply x0 x1 x2 x3 r e 13 le_rfl).trans (Softmax.sum_chunks _ _ fun _ _ => rfl)

/-- The context's chunk sums over the context's keys. -/
theorem accCtx_apply (x0 : Vec Ideal S2 .f32) (x1 : Vec Ideal S1x1x256x128 .bf16) (x2 : Vec Ideal S1x16640x128 .bf16)
    (x3 : Vec Ideal S1x16640x256 .bf16) (r : Fin 512) (e : Fin 256) :
    accCtx x0 x1 x2 x3 (ix2 r e) = ∑ l : Fin 256, term x0 x1 x2 x3 r e (l.castLE (by norm_num)) := by
  unfold accCtx k0_pay26 term dot
  rw [bnd_eq]
  pointwise
  simp only [pay24_apply, pay25_apply, zero_add]
  rfl

/-- The quotient of the two accumulators, at row `r` of the score `s`. -/
def quot (acc : Vec Ideal S512x256 .f32) (s : Fin 2) (r : Fin 256) (e : Fin 128) : EReal :=
  Ideal.div (acc (ix2 ⟨256 * s.val + r.val, by omega⟩ (e.castLE (by norm_num)))) (acc (ix2 ⟨256 * s.val + r.val, by omega⟩ ⟨128 + e.val, by omega⟩))

/-- One quotient less the weighted other. -/
def diff (x0 : Vec Ideal S2 .f32) (acc : Vec Ideal S512x256 .f32) (r : Fin 256) (e : Fin 128) : EReal :=
  quot acc 0 r e - x0 (ix1 1) * quot acc 1 r e

theorem lam_eq (x0 : Vec Ideal S2 .f32) :
    View.ld x0 (Rect.unit ![1] ![1] (by decide)) (Shape.Idx.first (by decide)) = x0 (ix1 1) :=
  congrArg x0 (funext fun a => match a with | ⟨0, _⟩ => rfl)

theorem fst_apply (acc : Vec Ideal S512x256 .f32) (r : Fin 256) (e : Fin 128) :
    k0_pay28 (F := Ideal) (View.ld acc (Rect.unit ![0, 0] ![256, 128] (by decide))) (View.ld acc (Rect.unit ![0, 128] ![256, 128] (by decide))) (ix2 r e)
      = quot acc 0 r e := by
  unfold k0_pay28 quot
  pointwise
  rfl

theorem snd_apply (acc : Vec Ideal S512x256 .f32) (r : Fin 256) (e : Fin 128) :
    k0_pay29 (F := Ideal) (View.ld acc (Rect.unit ![256, 0] ![256, 128] (by decide))) (View.ld acc (Rect.unit ![256, 128] ![256, 128] (by decide))) (ix2 r e)
      = quot acc 1 r e := by
  unfold k0_pay29 quot
  pointwise
  rfl

theorem pay1_apply (a b : FVec Ideal S256x128 .f32) (lam : EReal) (x4 : Vec Ideal S1x128 .f32) (r : Fin 256) (e : Fin 128) :
    k0_pay1 (F := Ideal) a b lam x4 (ix3 0 r e)
      = (a (ix2 r e) - lam * b (ix2 r e)) * Ideal.rsqrt ((∑ x : Fin 128, (a (ix2 r x) - lam * b (ix2 r x)) * (a (ix2 r x) - lam * b (ix2 r x)))
        * Ideal.ofBits .f32 0x3C000000#32 + Ideal.ofBits .f32 0x358637BD#32) * x4 (ix2 0 e) * Ideal.ofBits .f32 0x3F4CCCCD#32 := by
  unfold k0_pay1
  pointwise

/-- The block written, at row `r` and column `e`. -/
theorem block_apply (x0 : Vec Ideal S2 .f32) (x4 : Vec Ideal S1x128 .f32) (acc : Vec Ideal S512x256 .f32) (r : Fin 256) (e : Fin 128) :
    block (F := Ideal) x0 x4 acc (ix3 0 r e)
      = diff x0 acc r e * Ideal.rsqrt ((∑ x : Fin 128, diff x0 acc r x * diff x0 acc r x)
        * Ideal.ofBits .f32 0x3C000000#32 + Ideal.ofBits .f32 0x358637BD#32) * x4 (ix2 0 e) * Ideal.ofBits .f32 0x3F4CCCCD#32 := by
  unfold block diff
  rw [pay1_apply, lam_eq]
  simp only [fst_apply, snd_apply]

end Cert.DiffProof

end
-- ==== Proof.DiffSpec.lean ====
/- What the differential attention computes, as a function of real queries, keys, values and weight:
   each query's two softmaxes over the keys of its head, the second weighted and taken from the
   first, the values averaged by the difference, and each row of a head divided by the root of its
   mean square. -/
module

public import proofs.«01_k».proof.Proof.Softmax
public import proofs.«01_k».proof.DiffRefIdeal
public import Idealize.ShloMosaic.Lib.ValueIdx

@[expose] public section

noncomputable section

namespace Cert.DiffSpec

open Cert.DiffRefIdeal Idealize.ShloMosaic Idealize.ShloMosaic.ValueIdx Cert.Softmax

/-- The factor of the scores, `1 / √64`. -/
def root : ℝ := 1 / 8

theorem root_eq : Ideal.ofBits .f32 0x3E000000#32 = (root : EReal) := by
  simp [Ideal.ofBits, Ideal.ieee, -EReal.coe_mul, root]
  norm_num

theorem size_eq : Ideal.ofBits .f32 0x43000000#32 = ((128 : ℝ) : EReal) := by
  simp [Ideal.ofBits, Ideal.ieee, -EReal.coe_mul]
  norm_num

theorem inv_size_eq : Ideal.ofBits .f32 0x3C000000#32 = ((1 / 128 : ℝ) : EReal) := by
  simp [Ideal.ofBits, Ideal.ieee, -EReal.coe_mul]
  norm_num

/-- Column `d` of the 128 columns of head `h`, among the 512 of keys or values. -/
def col (h : Fin 4) (d : Fin 128) : Fin 512 := ⟨h.val * 128 + d.val, by omega⟩

/-- Column `d` of the 64 columns of the score `s`, among the 128 of a head. -/
def part (s : Fin 2) (d : Fin 64) : Fin 128 := ⟨s.val * 64 + d.val, by omega⟩

/-- The score `s` of query `r` of head `h` against key `l`. -/
def score (q : S2x4x16640x128.Idx → ℝ) (k : S2x16640x512.Idx → ℝ) (b : Fin 2) (h : Fin 4) (s : Fin 2) (r l : Fin 16640) : ℝ :=
  (∑ d : Fin 64, q (ix4 b h r (part s d)) * k (ix3 b l (col h (part s d)))) * root

/-- The weight of key `l` among the first `n`: one softmax less `lam` times the other. -/
def weight (n : ℕ) (hn : n ≤ 16640) (lam : ℝ) (q : S2x4x16640x128.Idx → ℝ) (k : S2x16640x512.Idx → ℝ)
    (b : Fin 2) (h : Fin 4) (r : Fin 16640) (l : Fin n) : ℝ :=
  soft (fun l : Fin n => score q k b h 0 r (l.castLE hn)) l - lam * soft (fun l : Fin n => score q k b h 1 r (l.castLE hn)) l

/-- The values averaged by the weights, in column `e` of the head. -/
def attn (n : ℕ) (hn : n ≤ 16640) (lam : ℝ) (q : S2x4x16640x128.Idx → ℝ) (k v : S2x16640x512.Idx → ℝ)
    (b : Fin 2) (h : Fin 4) (r : Fin 16640) (e : Fin 128) : ℝ :=
  ∑ l : Fin n, weight n hn lam q k b h r l * v (ix3 b (l.castLE hn) (col h e))

/-- A row divided by the root of its mean square, times its gain, times `1 - 0.2`. -/
def norm (o : Fin 128 → ℝ) (g : S128.Idx → EReal) (e : Fin 128) : EReal :=
  (o e : EReal) * Ideal.rsqrt ((∑ x : Fin 128, (o x : EReal) * (o x : EReal)) * ((1 / 128 : ℝ) : EReal) + Ideal.ofBits .f32 0x358637BD#32)
    * g (ix1 e) * Ideal.ofBits .f32 0x3F4CCCCD#32

/-- The result: the context's queries attend to the context's 256 keys, the others to all. -/
def out (lam : ℝ) (q : S2x4x16640x128.Idx → ℝ) (k v : S2x16640x512.Idx → ℝ) (g : S128.Idx → EReal) :
    S2x16640x512.Idx → EReal := fun i =>
  let h : Fin 4 := ⟨(i 2).val / 128, by have h2 : (i 2).val < 512 := (i 2).isLt; omega⟩
  let e : Fin 128 := ⟨(i 2).val % 128, Nat.mod_lt _ (by norm_num)⟩
  if (i 1).val < 256 then norm (attn 256 (by norm_num) lam q k v (i 0) h (i 1)) g e
  else norm (attn 16640 le_rfl lam q k v (i 0) h (i 1)) g e

end Cert.DiffSpec

end
-- ==== Proof.DiffRef.lean ====
/- The reference of the differential attention is the specification of `DiffSpec`. -/
module

public import proofs.«01_k».proof.Proof.DiffSpec
public import proofs.«01_k».proof.Proof.Gen.DiffRefIdeal.Read

@[expose] public section

set_option maxRecDepth 16384

noncomputable section

namespace Cert.DiffRefProof

open Cert.DiffRefIdeal Cert.DiffRefIdeal.Gen Cert.DiffRefIdeal.Read Idealize.ShloMosaic Idealize.ShloMosaic.ValueIdx Cert.DiffSpec Cert.Softmax

/-- The weight of the second softmax is real, where what it is made from is. -/
theorem lam_real (w1 w2 w3 w4 : S64.Idx → ℝ) : ∃ lam : ℝ, ∀ i,
    val_main_v7 (F := Ideal) (fun i => (w1 i : EReal)) (fun i => (w2 i : EReal)) (fun i => (w3 i : EReal)) (fun i => (w4 i : EReal)) i
      = (lam : EReal) := by
  have h : ∃ c : ℝ, Ideal.ofBits .f32 0x3E4CCCCD#32 = (c : EReal) := by
    refine ⟨_, (EReal.coe_toReal ?_ ?_).symm⟩ <;> simp [Ideal.ofBits, Ideal.ieee, -EReal.coe_mul]
  obtain ⟨c, hc⟩ := h
  refine ⟨Real.exp (∑ j, w1 j * w2 j) - Real.exp (∑ j, w3 j * w4 j) + c, fun i => ?_⟩
  rw [val_main_v7_apply, val_main_v6_apply, val_main_v5_apply, val_main_v2_apply, val_main_v4_apply, val_main_v1_apply,
    val_main_cst_apply, val_main_cst_0_apply, val_main_cst_1_apply, Ideal.ofBits_def, Ideal.ofBits_def, Ideal.ofBits_zero_f32, hc]
  simp only [val_main_v0_apply, val_main_v3_apply, Ideal.mulf_def, ← EReal.coe_mul, zero_add, ← coe_sum]
  rw [EReal.coe_add, EReal.coe_sub, ← Ideal.exp_coe, ← Ideal.exp_coe]
  rfl

variable (q : S2x4x16640x128.Idx → ℝ) (k v : S2x16640x512.Idx → ℝ) (g : S128.Idx → EReal)
variable (x1 x2 x3 x4 : S64.Idx → EReal) (lam : ℝ)

abbrev up (x : Fin 256) : Fin 16640 := x.castLE (by norm_num)

abbrev lat (x : Fin 16384) : Fin 16640 := ⟨256 + x.val, by omega⟩

/-- The queries of the score `s`. -/
theorem queries_at (b : Fin 2) (h : Fin 4) (r : Fin 16640) (s : Fin 2) (d : Fin 64) :
    val_main_v8 (F := Ideal) (fun i => (q i : EReal)) (ix5 b h r s d) = (q (ix4 b h r (part s d)) : EReal) := by
  have e : idx_main_v8 (ix5 b h r s d) = ix4 b h r (part s d) := by
    funext a
    match a with
    | ⟨0, _⟩ => exact Fin.ext (by simp [ix5, ix4] <;> omega)
    | ⟨1, _⟩ => exact Fin.ext (by simp [ix5, ix4] <;> omega)
    | ⟨2, _⟩ => exact Fin.ext (by simp [ix5, ix4] <;> omega)
    | ⟨3, _⟩ => exact Fin.ext (by simp [ix5, ix4, part]; omega)
  rw [val_main_v8_apply, e]

/-- The keys or the values of the head `h`. -/
theorem head_at (b : Fin 2) (h : Fin 4) (l : Fin 16640) (d : Fin 128) :
    idx_main_v9 (idx_main_v10 (ix4 b h l d)) = ix3 b l (col h d) := by
  funext a
  match a with
  | ⟨0, _⟩ => exact Fin.ext (by simp [ix4, ix3]; omega)
  | ⟨1, _⟩ => exact Fin.ext (by simp [ix4, ix3]; omega)
  | ⟨2, _⟩ => exact Fin.ext (by simp [ix4, ix3, col]; omega)

/-- The keys of the score `s`. -/
theorem keys_at (b : Fin 2) (h : Fin 4) (l : Fin 16640) (s : Fin 2) (d : Fin 64) :
    val_main_v11 (F := Ideal) (fun i => (k i : EReal)) (ix5 b h l s d) = (k (ix3 b l (col h (part s d))) : EReal) := by
  have e : idx_main_v11 (ix5 b h l s d) = ix4 b h l (part s d) := by
    funext a
    match a with
    | ⟨0, _⟩ => exact Fin.ext (by simp [ix5, ix4] <;> omega)
    | ⟨1, _⟩ => exact Fin.ext (by simp [ix5, ix4] <;> omega)
    | ⟨2, _⟩ => exact Fin.ext (by simp [ix5, ix4] <;> omega)
    | ⟨3, _⟩ => exact Fin.ext (by simp [ix5, ix4, part]; omega)
  rw [val_main_v11_apply, e, val_main_v10_apply, val_main_v9_apply, head_at]

theorem ctx_score (b : Fin 2) (h : Fin 4) (s : Fin 2) (r : Fin 256) (l : Fin 256) :
    val_main_v19 (F := Ideal) (fun i => (q i : EReal)) (fun i => (k i : EReal)) (ix5 b h s r l)
      = (score q k b h s (up r) (up l) : EReal) := by
  have hq : ∀ d : Fin 64, idx_main_v14 (lidx_main_v17 (ix5 b h s r l) d) = ix5 b h (up r) s d := fun d => by
    funext a
    match a with
    | ⟨0, _⟩ => rfl
    | ⟨1, _⟩ => rfl
    | ⟨2, _⟩ => rfl
    | ⟨3, _⟩ => rfl
    | ⟨4, _⟩ => rfl
  have hk : ∀ d : Fin 64, idx_main_v15 (ridx_main_v17 (ix5 b h s r l) d) = ix5 b h (up l) s d := fun d => by
    funext a
    match a with
    | ⟨0, _⟩ => rfl
    | ⟨1, _⟩ => rfl
    | ⟨2, _⟩ => rfl
    | ⟨3, _⟩ => rfl
    | ⟨4, _⟩ => rfl
  rw [val_main_v19_apply, val_main_v17_apply, val_main_v18_apply, val_main_cst_2_apply]
  simp only [val_main_v14_apply, val_main_v15_apply, hq, hk, queries_at, keys_at, ← EReal.coe_mul]
  rw [← coe_sum, Ideal.mulf_def, Ideal.ofBits_def, root_eq, score, ← EReal.coe_mul]

theorem ctx_max (b : Fin 2) (h : Fin 4) (s : Fin 2) (r : Fin 256) :
    ∃ m : ℝ, val_main_v22 (F := Ideal) (fun i => (q i : EReal)) (fun i => (k i : EReal)) (ix4 b h s r) = (m : EReal) := by
  obtain ⟨m, hm⟩ := reduce_max_real (val_main_v19 (F := Ideal) (fun i => (q i : EReal)) (fun i => (k i : EReal)))
    (val_main_cst_3 (F := Ideal)) reducesTo_S2x4x2x256x256_S2x4x2x256_d4 (by decide) h_S_ (by decide) (ix4 b h s r)
    ofBits_bot (fun i => by rw [eq_ix5 i]; exact ⟨_, ctx_score q k _ _ _ _ _⟩)
  refine ⟨m, ?_⟩
  rw [val_main_v22_apply, val_main_v21_apply, val_main_cst_4_apply, val_main_v20, hm, Ideal.ofBits_def, ofBits_bot]
  exact max_eq_right bot_le

theorem ctx_soft (b : Fin 2) (h : Fin 4) (s : Fin 2) (r : Fin 256) (l : Fin 256) :
    val_main_v30 (F := Ideal) (fun i => (q i : EReal)) (fun i => (k i : EReal)) (ix5 b h s r l)
      = ((soft (fun l : Fin 256 => score q k b h s (up r) (up l)) l : ℝ) : EReal) := by
  obtain ⟨m, hm⟩ := ctx_max q k b h s r
  have e : ∀ l : Fin 256, val_main_v26 (F := Ideal) (fun i => (q i : EReal)) (fun i => (k i : EReal)) (ix5 b h s r l)
      = Ideal.exp ((score q k b h s (up r) (up l) : EReal) - (m : EReal)) := fun l => by
    rw [val_main_v26_apply, val_main_v25_apply, val_main_v24_apply, val_main_v23_apply, ctx_score]
    rw [show idx_main_v23 (idx_main_v24 (ix5 b h s r l)) = ix4 b h s r from eq_ix4 _, hm]
    rfl
  rw [val_main_v30_apply, val_main_v29_apply, val_main_v28_apply, val_main_v27_apply, val_main_cst_5_apply, e,
    Ideal.ofBits_def, Ideal.ofBits_zero_f32, zero_add, Ideal.hostDivf_def,
    ← div_exp (fun l : Fin 256 => score q k b h s (up r) (up l)) m l]
  refine congrArg (Ideal.div _) (Finset.sum_congr rfl fun l' _ => ?_)
  rw [← e l']
  exact congrArg _ (eq_ix5 _)

theorem ctx_weight (hlam : ∀ i, val_main_v7 (F := Ideal) x1 x2 x3 x4 i = (lam : EReal)) (b : Fin 2) (h : Fin 4) (r : Fin 256) (l : Fin 256) :
    val_main_v37 (F := Ideal) x1 x2 x3 x4 (fun i => (q i : EReal)) (fun i => (k i : EReal)) (ix4 b h r l)
      = (weight 256 (by norm_num) lam q k b h (up r) l : EReal) := by
  rw [val_main_v37_apply, val_main_v32_apply, val_main_v31_apply, val_main_v36_apply, val_main_v35_apply, hlam, val_main_v34_apply, val_main_v33_apply]
  have i0 : idx_main_v31 (idx_main_v32 (ix4 b h r l)) = ix5 b h (0 : Fin 2) r l := by
    funext a
    match a with
    | ⟨0, _⟩ => exact Fin.ext (by simp [ix5, ix4] <;> omega)
    | ⟨1, _⟩ => exact Fin.ext (by simp [ix5, ix4] <;> omega)
    | ⟨2, _⟩ => exact Fin.ext (by simp [ix5, ix4])
    | ⟨3, _⟩ => exact Fin.ext (by simp [ix5, ix4] <;> omega)
    | ⟨4, _⟩ => exact Fin.ext (by simp [ix5, ix4] <;> omega)
  have i1 : idx_main_v33 (idx_main_v34 (ix4 b h r l)) = ix5 b h (1 : Fin 2) r l := by
    funext a
    match a with
    | ⟨0, _⟩ => exact Fin.ext (by simp [ix5, ix4] <;> omega)
    | ⟨1, _⟩ => exact Fin.ext (by simp [ix5, ix4] <;> omega)
    | ⟨2, _⟩ => exact Fin.ext (by simp [ix5, ix4])
    | ⟨3, _⟩ => exact Fin.ext (by simp [ix5, ix4] <;> omega)
    | ⟨4, _⟩ => exact Fin.ext (by simp [ix5, ix4] <;> omega)
  rw [i0, i1, ctx_soft, ctx_soft, weight, EReal.coe_sub, EReal.coe_mul]
  rfl

theorem ctx_attn (hlam : ∀ i, val_main_v7 (F := Ideal) x1 x2 x3 x4 i = (lam : EReal)) (b : Fin 2) (h : Fin 4) (r : Fin 256) (e : Fin 128) :
    val_main_v38 (F := Ideal) x1 x2 x3 x4 (fun i => (q i : EReal)) (fun i => (k i : EReal)) (fun i => (v i : EReal)) (ix4 b h r e)
      = (attn 256 (by norm_num) lam q k v b h (up r) e : EReal) := by
  rw [val_main_v38_apply, attn, coe_sum]
  refine Finset.sum_congr rfl fun l _ => ?_
  have hl : lidx_main_v38 (ix4 b h r e) l = ix4 b h r l := eq_ix4 _
  rw [hl, ctx_weight q k x1 x2 x3 x4 lam hlam, val_main_v16_apply, val_main_v13_apply, val_main_v12_apply, EReal.coe_mul]
  refine congrArg (_ * ·) (congrArg (fun i => (v i : EReal)) ?_)
  funext a
  match a with
  | ⟨0, _⟩ => exact Fin.ext (by simp [ix4, ix3]; omega)
  | ⟨1, _⟩ => exact Fin.ext (by simp [ix4, ix3]; omega)
  | ⟨2, _⟩ => exact Fin.ext (by simp [ix4, ix3, col]; omega)

/-- The sum of the squares of a row of a head. -/
theorem ctx_squares (hlam : ∀ i, val_main_v7 (F := Ideal) x1 x2 x3 x4 i = (lam : EReal)) (b : Fin 2) (h : Fin 4) (r : Fin 256) :
    val_main_v63 (F := Ideal) x1 x2 x3 x4 (fun i => (q i : EReal)) (fun i => (k i : EReal)) (fun i => (v i : EReal)) (ix3 b h r) = ∑ x : Fin 128, (attn 256 (by norm_num) lam q k v b h (up r) x : EReal) * (attn 256 (by norm_num) lam q k v b h (up r) x : EReal) := by
  rw [val_main_v63_apply, val_main_cst_10_apply, Ideal.ofBits_def, Ideal.ofBits_zero_f32, zero_add]
  refine Finset.sum_congr rfl fun x _ => ?_
  rw [show idx_main_v63 (ix3 b h r) x = ix4 b h r x from eq_ix4 _, val_main_v62_apply, ctx_attn q k v x1 x2 x3 x4 lam hlam b h r x]
  rfl

/-- The inverse of the root of the mean square of a row of a head. -/
theorem ctx_root (hlam : ∀ i, val_main_v7 (F := Ideal) x1 x2 x3 x4 i = (lam : EReal)) (b : Fin 2) (h : Fin 4) (r : Fin 256) :
    val_main_v69 (F := Ideal) x1 x2 x3 x4 (fun i => (q i : EReal)) (fun i => (k i : EReal)) (fun i => (v i : EReal)) (ix4 b h r (0 : Fin 1))
      = Ideal.rsqrt ((∑ x : Fin 128, (attn 256 (by norm_num) lam q k v b h (up r) x : EReal) * (attn 256 (by norm_num) lam q k v b h (up r) x : EReal)) * ((1 / 128 : ℝ) : EReal) + Ideal.ofBits .f32 0x358637BD#32) := by
  rw [val_main_v69_apply, val_main_v68_apply, val_main_v67_apply, val_main_v66_apply, val_main_v65_apply, val_main_v64_apply, val_main_cst_11_apply, val_main_cst_12_apply,
    show idx_main_v64 (ix4 b h r (0 : Fin 1)) = ix3 b h r from eq_ix3 _, ctx_squares q k v x1 x2 x3 x4 lam hlam b h r,
    Ideal.ofBits_def, Ideal.ofBits_def, size_eq, Ideal.hostDivf_def, Ideal.div_coe (by norm_num)]
  rfl

theorem ctx_norm (hlam : ∀ i, val_main_v7 (F := Ideal) x1 x2 x3 x4 i = (lam : EReal)) (b : Fin 2) (h : Fin 4) (r : Fin 256) (e : Fin 128) :
    val_main_v76 (F := Ideal) x1 x2 x3 x4 (fun i => (q i : EReal)) (fun i => (k i : EReal)) (fun i => (v i : EReal)) g (ix4 b h r e) = norm (attn 256 (by norm_num) lam q k v b h (up r)) g e := by
  rw [val_main_v76_apply, val_main_v75_apply, val_main_v74_apply, val_main_v73_apply, val_main_v72_apply, val_main_v71_apply, val_main_v70_apply, val_main_cst_13_apply,
    show idx_main_v70 (ix4 b h r e) = ix4 b h r (0 : Fin 1) from eq_ix4 _, ctx_root q k v x1 x2 x3 x4 lam hlam b h r,
    ctx_attn q k v x1 x2 x3 x4 lam hlam b h r e,
    show idx_main_v72 (idx_main_v73 (ix4 b h r e)) = ix1 e from eq_ix1 _]
  rfl

theorem lat_score (b : Fin 2) (h : Fin 4) (s : Fin 2) (r : Fin 16384) (l : Fin 16640) :
    val_main_v42 (F := Ideal) (fun i => (q i : EReal)) (fun i => (k i : EReal)) (ix5 b h s r l)
      = (score q k b h s (lat r) (l) : EReal) := by
  have hq : ∀ d : Fin 64, idx_main_v39 (lidx_main_v40 (ix5 b h s r l) d) = ix5 b h (lat r) s d := fun d => by
    funext a
    match a with
    | ⟨0, _⟩ => rfl
    | ⟨1, _⟩ => rfl
    | ⟨2, _⟩ => exact Fin.ext (by simp [ix5, lat])
    | ⟨3, _⟩ => rfl
    | ⟨4, _⟩ => rfl
  have hk : ∀ d : Fin 64, ridx_main_v40 (ix5 b h s r l) d = ix5 b h l s d := fun d => by
    funext a
    match a with
    | ⟨0, _⟩ => rfl
    | ⟨1, _⟩ => rfl
    | ⟨2, _⟩ => rfl
    | ⟨3, _⟩ => rfl
    | ⟨4, _⟩ => rfl
  rw [val_main_v42_apply, val_main_v40_apply, val_main_v41_apply, val_main_cst_6_apply]
  simp only [val_main_v39_apply, hq, hk, queries_at, keys_at, ← EReal.coe_mul]
  rw [← coe_sum, Ideal.mulf_def, Ideal.ofBits_def, root_eq, score, ← EReal.coe_mul]

theorem lat_max (b : Fin 2) (h : Fin 4) (s : Fin 2) (r : Fin 16384) :
    ∃ m : ℝ, val_main_v45 (F := Ideal) (fun i => (q i : EReal)) (fun i => (k i : EReal)) (ix4 b h s r) = (m : EReal) := by
  obtain ⟨m, hm⟩ := reduce_max_real (val_main_v42 (F := Ideal) (fun i => (q i : EReal)) (fun i => (k i : EReal)))
    (val_main_cst_7 (F := Ideal)) reducesTo_S2x4x2x16384x16640_S2x4x2x16384_d4 (by decide) h_S_ (by decide) (ix4 b h s r)
    ofBits_bot (fun i => by rw [eq_ix5 i]; exact ⟨_, lat_score q k _ _ _ _ _⟩)
  refine ⟨m, ?_⟩
  rw [val_main_v45_apply, val_main_v44_apply, val_main_cst_8_apply, val_main_v43, hm, Ideal.ofBits_def, ofBits_bot]
  exact max_eq_right bot_le

theorem lat_soft (b : Fin 2) (h : Fin 4) (s : Fin 2) (r : Fin 16384) (l : Fin 16640) :
    val_main_v53 (F := Ideal) (fun i => (q i : EReal)) (fun i => (k i : EReal)) (ix5 b h s r l)
      = ((soft (fun l : Fin 16640 => score q k b h s (lat r) (l)) l : ℝ) : EReal) := by
  obtain ⟨m, hm⟩ := lat_max q k b h s r
  have e : ∀ l : Fin 16640, val_main_v49 (F := Ideal) (fun i => (q i : EReal)) (fun i => (k i : EReal)) (ix5 b h s r l)
      = Ideal.exp ((score q k b h s (lat r) (l) : EReal) - (m : EReal)) := fun l => by
    rw [val_main_v49_apply, val_main_v48_apply, val_main_v47_apply, val_main_v46_apply, lat_score]
    rw [show idx_main_v46 (idx_main_v47 (ix5 b h s r l)) = ix4 b h s r from eq_ix4 _, hm]
    rfl
  rw [val_main_v53_apply, val_main_v52_apply, val_main_v51_apply, val_main_v50_apply, val_main_cst_9_apply, e,
    Ideal.ofBits_def, Ideal.ofBits_zero_f32, zero_add, Ideal.hostDivf_def,
    ← div_exp (fun l : Fin 16640 => score q k b h s (lat r) (l)) m l]
  refine congrArg (Ideal.div _) (Finset.sum_congr rfl fun l' _ => ?_)
  rw [← e l']
  exact congrArg _ (eq_ix5 _)

theorem lat_weight (hlam : ∀ i, val_main_v7 (F := Ideal) x1 x2 x3 x4 i = (lam : EReal)) (b : Fin 2) (h : Fin 4) (r : Fin 16384) (l : Fin 16640) :
    val_main_v60 (F := Ideal) x1 x2 x3 x4 (fun i => (q i : EReal)) (fun i => (k i : EReal)) (ix4 b h r l)
      = (weight 16640 le_rfl lam q k b h (lat r) l : EReal) := by
  rw [val_main_v60_apply, val_main_v55_apply, val_main_v54_apply, val_main_v59_apply, val_main_v58_apply, hlam, val_main_v57_apply, val_main_v56_apply]
  have i0 : idx_main_v54 (idx_main_v55 (ix4 b h r l)) = ix5 b h (0 : Fin 2) r l := by
    funext a
    match a with
    | ⟨0, _⟩ => exact Fin.ext (by simp [ix5, ix4] <;> omega)
    | ⟨1, _⟩ => exact Fin.ext (by simp [ix5, ix4] <;> omega)
    | ⟨2, _⟩ => exact Fin.ext (by simp [ix5, ix4])
    | ⟨3, _⟩ => exact Fin.ext (by simp [ix5, ix4] <;> omega)
    | ⟨4, _⟩ => exact Fin.ext (by simp [ix5, ix4] <;> omega)
  have i1 : idx_main_v56 (idx_main_v57 (ix4 b h r l)) = ix5 b h (1 : Fin 2) r l := by
    funext a
    match a with
    | ⟨0, _⟩ => exact Fin.ext (by simp [ix5, ix4] <;> omega)
    | ⟨1, _⟩ => exact Fin.ext (by simp [ix5, ix4] <;> omega)
    | ⟨2, _⟩ => exact Fin.ext (by simp [ix5, ix4])
    | ⟨3, _⟩ => exact Fin.ext (by simp [ix5, ix4] <;> omega)
    | ⟨4, _⟩ => exact Fin.ext (by simp [ix5, ix4] <;> omega)
  rw [i0, i1, lat_soft, lat_soft, weight, EReal.coe_sub, EReal.coe_mul]
  rfl

theorem lat_attn (hlam : ∀ i, val_main_v7 (F := Ideal) x1 x2 x3 x4 i = (lam : EReal)) (b : Fin 2) (h : Fin 4) (r : Fin 16384) (e : Fin 128) :
    val_main_v61 (F := Ideal) x1 x2 x3 x4 (fun i => (q i : EReal)) (fun i => (k i : EReal)) (fun i => (v i : EReal)) (ix4 b h r e)
      = (attn 16640 le_rfl lam q k v b h (lat r) e : EReal) := by
  rw [val_main_v61_apply, attn, coe_sum]
  refine Finset.sum_congr rfl fun l _ => ?_
  have hl : lidx_main_v61 (ix4 b h r e) l = ix4 b h r l := eq_ix4 _
  rw [hl, lat_weight q k x1 x2 x3 x4 lam hlam, val_main_v13_apply, val_main_v12_apply, EReal.coe_mul]
  refine congrArg (_ * ·) (congrArg (fun i => (v i : EReal)) ?_)
  funext a
  match a with
  | ⟨0, _⟩ => exact Fin.ext (by simp [ix4, ix3]; omega)
  | ⟨1, _⟩ => exact Fin.ext (by simp [ix4, ix3]; omega)
  | ⟨2, _⟩ => exact Fin.ext (by simp [ix4, ix3, col]; omega)

/-- The sum of the squares of a row of a head. -/
theorem lat_squares (hlam : ∀ i, val_main_v7 (F := Ideal) x1 x2 x3 x4 i = (lam : EReal)) (b : Fin 2) (h : Fin 4) (r : Fin 16384) :
    val_main_v78 (F := Ideal) x1 x2 x3 x4 (fun i => (q i : EReal)) (fun i => (k i : EReal)) (fun i => (v i : EReal)) (ix3 b h r) = ∑ x : Fin 128, (attn 16640 le_rfl lam q k v b h (lat r) x : EReal) * (attn 16640 le_rfl lam q k v b h (lat r) x : EReal) := by
  rw [val_main_v78_apply, val_main_cst_14_apply, Ideal.ofBits_def, Ideal.ofBits_zero_f32, zero_add]
  refine Finset.sum_congr rfl fun x _ => ?_
  rw [show idx_main_v78 (ix3 b h r) x = ix4 b h r x from eq_ix4 _, val_main_v77_apply, lat_attn q k v x1 x2 x3 x4 lam hlam b h r x]
  rfl

/-- The inverse of the root of the mean square of a row of a head. -/
theorem lat_root (hlam : ∀ i, val_main_v7 (F := Ideal) x1 x2 x3 x4 i = (lam : EReal)) (b : Fin 2) (h : Fin 4) (r : Fin 16384) :
    val_main_v84 (F := Ideal) x1 x2 x3 x4 (fun i => (q i : EReal)) (fun i => (k i : EReal)) (fun i => (v i : EReal)) (ix4 b h r (0 : Fin 1))
      = Ideal.rsqrt ((∑ x : Fin 128, (attn 16640 le_rfl lam q k v b h (lat r) x : EReal) * (attn 16640 le_rfl lam q k v b h (lat r) x : EReal)) * ((1 / 128 : ℝ) : EReal) + Ideal.ofBits .f32 0x358637BD#32) := by
  rw [val_main_v84_apply, val_main_v83_apply, val_main_v82_apply, val_main_v81_apply, val_main_v80_apply, val_main_v79_apply, val_main_cst_15_apply, val_main_cst_16_apply,
    show idx_main_v79 (ix4 b h r (0 : Fin 1)) = ix3 b h r from eq_ix3 _, lat_squares q k v x1 x2 x3 x4 lam hlam b h r,
    Ideal.ofBits_def, Ideal.ofBits_def, size_eq, Ideal.hostDivf_def, Ideal.div_coe (by norm_num)]
  rfl

theorem lat_norm (hlam : ∀ i, val_main_v7 (F := Ideal) x1 x2 x3 x4 i = (lam : EReal)) (b : Fin 2) (h : Fin 4) (r : Fin 16384) (e : Fin 128) :
    val_main_v91 (F := Ideal) x1 x2 x3 x4 (fun i => (q i : EReal)) (fun i => (k i : EReal)) (fun i => (v i : EReal)) g (ix4 b h r e) = norm (attn 16640 le_rfl lam q k v b h (lat r)) g e := by
  rw [val_main_v91_apply, val_main_v90_apply, val_main_v89_apply, val_main_v88_apply, val_main_v87_apply, val_main_v86_apply, val_main_v85_apply, val_main_cst_17_apply,
    show idx_main_v85 (ix4 b h r e) = ix4 b h r (0 : Fin 1) from eq_ix4 _, lat_root q k v x1 x2 x3 x4 lam hlam b h r,
    lat_attn q k v x1 x2 x3 x4 lam hlam b h r e,
    show idx_main_v87 (idx_main_v88 (ix4 b h r e)) = ix1 e from eq_ix1 _]
  rfl

theorem ref_at (hlam : ∀ i, val_main_v7 (F := Ideal) x1 x2 x3 x4 i = (lam : EReal)) (b : Fin 2) (r : Fin 16640) (c : Fin 512) :
    val_main_v97 (F := Ideal) x1 x2 x3 x4 (fun i => (q i : EReal)) (fun i => (k i : EReal)) (fun i => (v i : EReal)) g (ix3 b r c)
      = out lam q k v g (ix3 b r c) := by
  rw [val_main_v97_apply, val_main_v96]
  change concatenate _ _ _ _ (ix3 b r c : S2x16640x512.Idx) = _
  by_cases hr : r.val < 256
  · rw [concatenate_pair_apply_left (t := S2x16640x512) (s₁ := S2x256x512) 1 _ _ _ (ix3 b r c) rfl (ix3 b (⟨r.val, hr⟩ : Fin 256) c)
      (fun a => by match a with | ⟨0, _⟩ => rfl | ⟨1, _⟩ => rfl | ⟨2, _⟩ => rfl),
      val_main_v93_apply, val_main_v92_apply]
    refine Eq.trans ?_ (if_pos hr).symm
    refine Eq.trans (congrArg _ ?_) (ctx_norm q k v g x1 x2 x3 x4 lam hlam b _ ⟨r.val, hr⟩ _)
    funext a
    match a with
    | ⟨0, _⟩ => exact Fin.ext (by simp [ix3, ix4]; omega)
    | ⟨1, _⟩ => exact Fin.ext (by simp [ix3, ix4]; omega)
    | ⟨2, _⟩ => exact Fin.ext (by simp [ix3, ix4]; omega)
    | ⟨3, _⟩ => exact Fin.ext (by simp [ix3, ix4]; omega)
  · rw [concatenate_pair_apply_right (t := S2x16640x512) (s₁ := S2x256x512) (s₂ := S2x16384x512) 1 _ _ _ (ix3 b r c) rfl rfl (ix3 b (⟨r.val - 256, by omega⟩ : Fin 16384) c)
      (fun a ha => by match a with | ⟨0, _⟩ => rfl | ⟨1, _⟩ => exact absurd rfl ha | ⟨2, _⟩ => rfl)
      (by simp [ix3]; omega),
      val_main_v95_apply, val_main_v94_apply]
    refine Eq.trans ?_ (if_neg hr).symm
    have hl : lat ⟨r.val - 256, by omega⟩ = r := Fin.ext (by simp [lat]; omega)
    refine Eq.trans (congrArg _ ?_) ((lat_norm q k v g x1 x2 x3 x4 lam hlam b ⟨c.val / 128, by omega⟩ ⟨r.val - 256, by omega⟩
      ⟨c.val % 128, by omega⟩).trans (by rw [hl]))
    funext a
    match a with
    | ⟨0, _⟩ => exact Fin.ext (by simp [ix3, ix4]; omega)
    | ⟨1, _⟩ => exact Fin.ext (by simp [ix3, ix4]; omega)
    | ⟨2, _⟩ => exact Fin.ext (by simp [ix3, ix4]; omega)
    | ⟨3, _⟩ => exact Fin.ext (by simp [ix3, ix4]; omega)

/-- The reference's result, where the weight, the queries, the keys and the values are real. -/
theorem ref_out (hlam : ∀ i, val_main_v7 (F := Ideal) x1 x2 x3 x4 i = (lam : EReal)) :
    val_main_v97 (F := Ideal) x1 x2 x3 x4 (fun i => (q i : EReal)) (fun i => (k i : EReal)) (fun i => (v i : EReal)) g
      = out lam q k v g := by
  funext i
  rw [eq_ix3 i]
  exact ref_at q k v g x1 x2 x3 x4 lam hlam _ _ _

end Cert.DiffRefProof

end
-- ==== Proof.DiffArray.lean ====
/- The arrays the differential attention's call reads, and its blocks of them. -/
module

public import proofs.«01_k».proof.Proof.DiffBlockValue
public import proofs.«01_k».proof.Proof.DiffRef
public import proofs.«01_k».proof.Proof.Gen.DiffIdeal.Value
public import Idealize.ShloMosaic.Lib.Pointwise
public import Idealize.ShloMosaic.Lib.StableHlo.ReadAt
public import Idealize.ShloMosaic.Lib.Pipeline.ValueKit

@[expose] public section

set_option maxRecDepth 16384

noncomputable section

namespace Cert.DiffProof

open Cert.DiffIdeal Cert.DiffIdeal.Gen Idealize.ShloMosaic Idealize.ShloMosaic.TcCoe

variable (m : (ℓ : Loc nD τ sig) → Buf (Elt Ideal) ℓ) (c : Dev nD)

/-- The arguments, as launched. -/
def argB : S1.Idx → EReal := m ((c : Thread nD τ).loc main_arg0)
def argL1 : S64.Idx → EReal := m ((c : Thread nD τ).loc main_arg1)
def argL2 : S64.Idx → EReal := m ((c : Thread nD τ).loc main_arg2)
def argL3 : S64.Idx → EReal := m ((c : Thread nD τ).loc main_arg3)
def argL4 : S64.Idx → EReal := m ((c : Thread nD τ).loc main_arg4)
def argQ : S2x4x16640x128.Idx → EReal := m ((c : Thread nD τ).loc main_arg5)
def argK : S2x16640x512.Idx → EReal := m ((c : Thread nD τ).loc main_arg6)
def argV : S2x16640x512.Idx → EReal := m ((c : Thread nD τ).loc main_arg7)
def argG : S128.Idx → EReal := m ((c : Thread nD τ).loc main_arg8)

/-- The factor of the queries: that of the scores, times `log₂ e`. -/
theorem factor_eq : Ideal.ofBits .f32 0x3E000000#32 * Ideal.div 1 (Ideal.log (Ideal.ofBits .f32 0x40000000#32))
    = (((DiffSpec.root * (1 / Real.log 2) : ℝ)) : EReal) := by
  have h2 : Ideal.ofBits .f32 0x40000000#32 = ((2 : ℝ) : EReal) := by
    simp [Ideal.ofBits, Ideal.ieee, -EReal.coe_mul]
    norm_num
  have h1 : (1 : EReal) = ((1 : ℝ) : EReal) := rfl
  rw [DiffSpec.root_eq, h2, Ideal.log_coe, if_neg (by norm_num), h1, Ideal.div_coe (Real.log_pos one_lt_two).ne', ← EReal.coe_mul, ← EReal.coe_mul, one_mul]

theorem V_bound : V m c main_v17 (ix1 0) = argB m c (ix1 0) := by
  unfold V
  after_reads_at
  rfl

theorem V_lam : V m c main_v17 (ix1 1)
    = DiffRefIdeal.Read.val_main_v7 (F := Ideal) (argL1 m c) (argL2 m c) (argL3 m c) (argL4 m c) (Shape.Idx.first (by decide)) := by
  rw [DiffRefIdeal.Read.val_main_v7_apply, DiffRefIdeal.Read.val_main_v6_apply, DiffRefIdeal.Read.val_main_v5_apply,
    DiffRefIdeal.Read.val_main_v2_apply, DiffRefIdeal.Read.val_main_v4_apply, DiffRefIdeal.Read.val_main_v1_apply,
    DiffRefIdeal.Read.val_main_cst_apply, DiffRefIdeal.Read.val_main_cst_0_apply, Ideal.ofBits_def, Ideal.ofBits_zero_f32,
    zero_add, zero_add, sum_idx1, sum_idx1]
  unfold V
  after_reads_at
  rfl

theorem V_q (i : S2x4x16640x128.Idx) :
    V m c main_v13 i = argQ m c i * (((DiffSpec.root * (1 / Real.log 2) : ℝ)) : EReal) := by
  unfold V
  after_reads_at
  rw [factor_eq]
  rfl

theorem V_k (i : S2x16640x512.Idx) : V m c main_v18 i = argK m c i := by
  unfold V argK
  after_reads_at

theorem V_g (e : Fin 128) : V m c main_v26 (ix2 0 e) = argG m c (ix1 e) := by
  unfold V
  after_reads_at
  rfl

set_option maxHeartbeats 1600000 in
theorem V_v (b : Fin 2) (l : Fin 16640) (x : Fin 1024) :
    V m c main_v25 (ix3 b l x) = if x.val % 256 < 128 then argV m c (ix3 b l ⟨x.val / 256 * 128 + x.val % 128, by omega⟩) else 1 := by
  unfold V
  after_reads_at
  split_ifs
  all_goals after_reads_simp
  all_goals clean_types
  all_goals pointwise
  all_goals first
    | exact (if_neg (by omega)).symm
    | exact (congrArg (fun y => argV m c (ix3 b l y)) (Fin.ext (by dsimp only; omega))).trans (if_pos (by omega)).symm

/-- The blocks of the point `t`: of one batch, one head and 256 rows. -/
theorem idx : ∀ t : Fin cfg0.N, win0_0.index t = ![0] ∧ win0_1.index t = ![t.val / 260, t.val % 260 / 65, t.val % 65, 0]
    ∧ win0_2.index t = ![t.val / 260, 0, t.val % 260 / 65] ∧ win0_3.index t = ![t.val / 260, 0, t.val % 260 / 65]
    ∧ win0_4.index t = ![0, 0] ∧ win0_5.index t = ![t.val / 260, t.val % 65, t.val % 260 / 65] :=
  (by decide +kernel : ∀ t : Fin grid0.N, _)

theorem lt_N (t : Fin cfg0.N) : t.val < 520 := lt_of_lt_of_eq t.isLt N_0

/-- The batch, the head, and the tile of rows of a point. -/
def bt (t : Fin cfg0.N) : Fin 2 := ⟨t.val / 260, by have := lt_N t; omega⟩
def hd (t : Fin cfg0.N) : Fin 4 := ⟨t.val % 260 / 65, by omega⟩
def row (t : Fin cfg0.N) (r : Fin 256) : Fin 16640 := ⟨256 * (t.val % 65) + r.val, by omega⟩

theorem blk_bound (t : Fin cfg0.N) : iblk m c 0 t (ix1 0) = V m c main_v17 (ix1 0) := by
  blk_ext [iblk, idx t]

theorem blk_lam (t : Fin cfg0.N) : iblk m c 0 t (ix1 1) = V m c main_v17 (ix1 1) := by
  blk_ext [iblk, idx t]

theorem blk_q (t : Fin cfg0.N) (r : Fin 256) (d : Fin 128) :
    iblk m c 1 t (ix4 0 0 r d) = argQ m c (ix4 (bt t) (hd t) (row t r) d) * (((DiffSpec.root * (1 / Real.log 2) : ℝ)) : EReal) := by
  refine Eq.trans ?_ (V_q m c _)
  blk_ext [iblk, idx t, bt, hd, row]

theorem blk_k (t : Fin cfg0.N) (l : Fin 16640) (d : Fin 128) :
    iblk m c 2 t (ix3 0 l d) = argK m c (ix3 (bt t) l (DiffSpec.col (hd t) d)) := by
  refine Eq.trans ?_ (V_k m c _)
  blk_ext [iblk, idx t, bt, hd, DiffSpec.col]

theorem blk_v (t : Fin cfg0.N) (l : Fin 16640) (x : Fin 256) :
    iblk m c 3 t (ix3 0 l x)
      = if x.val < 128 then argV m c (ix3 (bt t) l (DiffSpec.col (hd t) ⟨x.val % 128, Nat.mod_lt _ (by norm_num)⟩)) else 1 := by
  have h : iblk m c 3 t (ix3 0 l x) = V m c main_v25 (ix3 (bt t) l ⟨256 * (hd t).val + x.val, by omega⟩) := by
    blk_ext [iblk, idx t, bt, hd]
  rw [h, V_v]
  by_cases hx : x.val < 128
  · rw [if_pos hx, if_pos (by dsimp only; omega)]
    exact congrArg (fun y => argV m c (ix3 (bt t) l y)) (Fin.ext (by simp only [DiffSpec.col]; omega))
  · rw [if_neg hx, if_neg (by dsimp only; omega)]

theorem blk_g (t : Fin cfg0.N) (e : Fin 128) : iblk m c 4 t (ix2 0 e) = argG m c (ix1 e) := by
  refine Eq.trans ?_ (V_g m c e)
  blk_ext [iblk, idx t]

end Cert.DiffProof

end
-- ==== Proof.DiffValue.lean ====
/- The array the differential attention's call leaves, for real arguments but the gain of the norm. -/
module

public import proofs.«01_k».proof.Proof.DiffArray

@[expose] public section

set_option maxRecDepth 16384

noncomputable section

namespace Cert.DiffProof

open Cert.DiffIdeal Cert.DiffIdeal.Gen Idealize.ShloMosaic Idealize.ShloMosaic.TcCoe

/-- A sum over the columns of one of the two scores. -/
theorem sum_part (f : Fin 128 → EReal) (s : Fin 2) :
    (∑ d : Fin 128, if s.val = d.val / 64 then f d else 0) = ∑ d : Fin 64, f (DiffSpec.part s d) := by
  rw [← Finset.sum_filter]
  refine (Finset.sum_nbij (DiffSpec.part s) (fun d _ => ?_) (fun d _ d' _ h => ?_) (fun x hx => ?_) fun _ _ => rfl).symm
  · refine Finset.mem_filter.mpr ⟨Finset.mem_univ _, ?_⟩
    simp only [DiffSpec.part]
    omega
  · have h' : s.val * 64 + d.val = s.val * 64 + d'.val := congrArg Fin.val h
    exact Fin.ext (by omega)
  · have hx' : s.val = x.val / 64 := (Finset.mem_filter.mp hx).2
    exact ⟨⟨x.val % 64, by omega⟩, Finset.mem_coe.mpr (Finset.mem_univ _), Fin.ext (by simp only [DiffSpec.part]; omega)⟩

variable (m : (ℓ : Loc nD τ sig) → Buf (Elt Ideal) ℓ) (c : Dev nD)
variable (q : S2x4x16640x128.Idx → ℝ) (k v : S2x16640x512.Idx → ℝ) (s lam : ℝ)

/-- The score of row `r` of the rows of the score `p`, against key `l`. -/
theorem dot_eq (hq : ∀ i, argQ m c i = ((q i : ℝ) : EReal)) (hk : ∀ i, argK m c i = ((k i : ℝ) : EReal))
    (t : Fin cfg0.N) (p : Fin 2) (r : Fin 256) (l : Fin 16640) :
    dot (iblk m c 1 t) (iblk m c 2 t) ⟨256 * p.val + r.val, by omega⟩ l
      = ((DiffSpec.score q k (bt t) (hd t) p (row t r) l * (1 / Real.log 2) : ℝ) : EReal) := by
  unfold dot rowQ DiffSpec.score
  have e1 : (256 * p.val + r.val) / 256 = p.val := by omega
  have e2 : (⟨(256 * p.val + r.val) % 256, by omega⟩ : Fin 256) = r := Fin.ext (by dsimp only; omega)
  simp only [e1, e2, blk_q, blk_k, hq, hk, ite_mul, zero_mul, ← EReal.coe_mul]
  rw [sum_part (fun d => ((q (ix4 (bt t) (hd t) (row t r) d) * (DiffSpec.root * (1 / Real.log 2)) * k (ix3 (bt t) l (DiffSpec.col (hd t) d)) : ℝ) : EReal)) p,
    ← Softmax.coe_sum]
  refine congrArg _ ?_
  rw [mul_assoc, Finset.sum_mul]
  exact Finset.sum_congr rfl fun d _ => mul_right_comm _ _ _

/-- The quotient of the two accumulators over the first `n` keys. -/
theorem quot_eq (hs : argB m c (ix1 0) = ((s : ℝ) : EReal)) (hq : ∀ i, argQ m c i = ((q i : ℝ) : EReal))
    (hk : ∀ i, argK m c i = ((k i : ℝ) : EReal)) (hv : ∀ i, argV m c i = ((v i : ℝ) : EReal))
    (t : Fin cfg0.N) (n : ℕ) (hn : n ≤ 16640) (hn0 : 0 < n) (acc : Vec Ideal S512x256 .f32)
    (hacc : ∀ R x, acc (ix2 R x) = ∑ l : Fin n, term (iblk m c 0 t) (iblk m c 1 t) (iblk m c 2 t) (iblk m c 3 t) R x (l.castLE hn))
    (p : Fin 2) (r : Fin 256) (e : Fin 128) :
    quot acc p r e = ((∑ l : Fin n, Softmax.soft (fun l : Fin n => DiffSpec.score q k (bt t) (hd t) p (row t r) (l.castLE hn)) l
      * v (ix3 (bt t) (l.castLE hn) (DiffSpec.col (hd t) e)) : ℝ) : EReal) := by
  have h1 : ∀ l : Fin 16640, term (iblk m c 0 t) (iblk m c 1 t) (iblk m c 2 t) (iblk m c 3 t) ⟨256 * p.val + r.val, by omega⟩ (e.castLE (by norm_num)) l
      = Ideal.exp2 (((DiffSpec.score q k (bt t) (hd t) p (row t r) l * (1 / Real.log 2) : ℝ) : EReal) - (s : EReal))
        * (v (ix3 (bt t) l (DiffSpec.col (hd t) e)) : EReal) := by
    intro l
    unfold term
    rw [dot_eq m c q k hq hk, blk_bound, V_bound, hs, blk_v, if_pos, hv]
    · refine congrArg (fun x => _ * ((v (ix3 (bt t) l (DiffSpec.col (hd t) x)) : ℝ) : EReal)) (Fin.ext ?_)
      exact Nat.mod_eq_of_lt e.isLt
    · exact e.isLt
  have h2 : ∀ l : Fin 16640, term (iblk m c 0 t) (iblk m c 1 t) (iblk m c 2 t) (iblk m c 3 t) ⟨256 * p.val + r.val, by omega⟩ ⟨128 + e.val, by omega⟩ l
      = Ideal.exp2 (((DiffSpec.score q k (bt t) (hd t) p (row t r) l * (1 / Real.log 2) : ℝ) : EReal) - (s : EReal)) * 1 := by
    intro l
    unfold term
    rw [dot_eq m c q k hq hk, blk_bound, V_bound, hs, blk_v, if_neg]
    dsimp only
    omega
  unfold quot
  rw [hacc, hacc]
  simp only [h1, h2]
  haveI : Nonempty (Fin n) := ⟨⟨0, hn0⟩⟩
  refine (Softmax.div_sum (fun l : Fin n => DiffSpec.score q k (bt t) (hd t) p (row t r) (l.castLE hn)) s
    (fun l : Fin n => (v (ix3 (bt t) (l.castLE hn) (DiffSpec.col (hd t) e)) : EReal))).trans ?_
  rw [Softmax.coe_sum]
  exact Finset.sum_congr rfl fun l _ => (EReal.coe_mul _ _).symm

/-- The difference of the two quotients. -/
theorem diff_eq (hs : argB m c (ix1 0) = ((s : ℝ) : EReal)) (hlam : V m c main_v17 (ix1 1) = ((lam : ℝ) : EReal))
    (hq : ∀ i, argQ m c i = ((q i : ℝ) : EReal))
    (hk : ∀ i, argK m c i = ((k i : ℝ) : EReal)) (hv : ∀ i, argV m c i = ((v i : ℝ) : EReal))
    (t : Fin cfg0.N) (n : ℕ) (hn : n ≤ 16640) (hn0 : 0 < n) (acc : Vec Ideal S512x256 .f32)
    (hacc : ∀ R x, acc (ix2 R x) = ∑ l : Fin n, term (iblk m c 0 t) (iblk m c 1 t) (iblk m c 2 t) (iblk m c 3 t) R x (l.castLE hn))
    (r : Fin 256) (e : Fin 128) :
    diff (iblk m c 0 t) acc r e = ((DiffSpec.attn n hn lam q k v (bt t) (hd t) (row t r) e : ℝ) : EReal) := by
  unfold diff
  rw [quot_eq m c q k v s hs hq hk hv t n hn hn0 acc hacc 0, quot_eq m c q k v s hs hq hk hv t n hn hn0 acc hacc 1, blk_lam, hlam,
    ← EReal.coe_mul, ← EReal.coe_sub, Finset.mul_sum, ← Finset.sum_sub_distrib]
  refine congrArg _ (Finset.sum_congr rfl fun l _ => ?_)
  unfold DiffSpec.weight
  rw [sub_mul, mul_assoc]
  rfl

/-- The result read at a row and a column of one of the heads. -/
theorem out_at (g : S128.Idx → EReal) (i : S2x16640x512.Idx) (b : Fin 2) (H : Fin 4) (r : Fin 16640) (e : Fin 128)
    (h0 : (i 0).val = b.val) (h1 : (i 1).val = r.val) (h2 : (i 2).val = 128 * H.val + e.val) :
    DiffSpec.out lam q k v g i = if r.val < 256 then DiffSpec.norm (DiffSpec.attn 256 (by norm_num) lam q k v b H r) g e
      else DiffSpec.norm (DiffSpec.attn 16640 le_rfl lam q k v b H r) g e := by
  have hb : i 0 = b := Fin.ext h0
  have hr : i 1 = r := Fin.ext h1
  have hH : (⟨(i 2).val / 128, by have h2 : (i 2).val < 512 := (i 2).isLt; omega⟩ : Fin 4) = H := Fin.ext (by dsimp only; omega)
  have he : (⟨(i 2).val % 128, Nat.mod_lt _ (by norm_num)⟩ : Fin 128) = e := Fin.ext (by dsimp only; omega)
  unfold DiffSpec.out
  simp only [hH, he, hb, hr]

/-- What one point writes is the result there. -/
theorem point (hs : argB m c (ix1 0) = ((s : ℝ) : EReal)) (hlam : V m c main_v17 (ix1 1) = ((lam : ℝ) : EReal))
    (hq : ∀ i, argQ m c i = ((q i : ℝ) : EReal))
    (hk : ∀ i, argK m c i = ((k i : ℝ) : EReal)) (hv : ∀ i, argV m c i = ((v i : ℝ) : EReal))
    (t : Fin cfg0.N) (y : S1x256x128.Idx) :
    outsAt0 m c t.val t.isLt y = DiffSpec.out lam q k v (argG m c) ((win0_5.blk t).view.emb y) := by
  have hy0 : (y 0).val < 1 := (y 0).isLt
  have hy1 : (y 1).val < 256 := (y 1).isLt
  have hy2 : (y 2).val < 128 := (y 2).isLt
  obtain ⟨e, he⟩ : ∃ e : Fin 128, e.val = (y 2).val := ⟨⟨_, hy2⟩, rfl⟩
  obtain ⟨r, hr⟩ : ∃ r : Fin 256, r.val = (y 1).val := ⟨⟨_, hy1⟩, rfl⟩
  have hy : y = ix3 0 r e := by
    funext a
    match a with
    | ⟨0, _⟩ => exact Fin.ext (by show (y 0).val = 0; omega)
    | ⟨1, _⟩ => exact Fin.ext hr.symm
    | ⟨2, _⟩ => exact Fin.ext he.symm
  have key : ∀ (n : ℕ) (hn : n ≤ 16640) (hn0 : 0 < n) (acc : Vec Ideal S512x256 .f32)
      (hacc : ∀ R x, acc (ix2 R x) = ∑ l : Fin n, term (iblk m c 0 t) (iblk m c 1 t) (iblk m c 2 t) (iblk m c 3 t) R x (l.castLE hn)),
      block (iblk m c 0 t) (iblk m c 4 t) acc y = DiffSpec.norm (DiffSpec.attn n hn lam q k v (bt t) (hd t) (row t r)) (argG m c) e := by
    intro n hn hn0 acc hacc
    rw [hy, block_apply]
    simp only [diff_eq m c q k v s lam hs hlam hq hk hv t n hn hn0 acc hacc, DiffSpec.inv_size_eq, blk_g]
    rfl
  have hrow : (row t r).val = 256 * (t.val % 65) + r.val := rfl
  have hhd : (hd t).val = t.val % 260 / 65 := rfl
  rw [out_at q k v lam (argG m c) _ (bt t) (hd t) (row t r) e (by blk_simp [idx t, bt]) (by blk_simp [idx t]; omega)
    (by blk_simp [idx t]; omega)]
  by_cases h0 : t.val % 65 = 0
  · rw [outsAt0_A m c t h0 (by omega), out_A, if_pos (by simp only [row]; omega)]
    exact key 256 (by norm_num) (by norm_num) _ (fun R x => accCtx_apply _ _ _ _ R x)
  · rw [outsAt0_B m c t h0 (by omega), out_B, if_neg (by simp only [row]; omega)]
    exact key 16640 le_rfl (by norm_num) _ (fun R x => accs_all _ _ _ _ R x)

/-- The array the call leaves. -/
theorem final (hs : argB m c (ix1 0) = ((s : ℝ) : EReal)) (hlam : V m c main_v17 (ix1 1) = ((lam : ℝ) : EReal))
    (hq : ∀ i, argQ m c i = ((q i : ℝ) : EReal))
    (hk : ∀ i, argK m c i = ((k i : ℝ) : EReal)) (hv : ∀ i, argV m c i = ((v i : ℝ) : EReal)) :
    (dats m 0 c).arrAt 5 cfg0.N = DiffSpec.out lam q k v (argG m c) := by
  refine (dats m 0 c).arrAt_eq_of_covers 5 _ (by decide +kernel) fun t hf y => ?_
  blk_simp
  rw [after0_5]
  exact point m c q k v s lam hs hlam hq hk hv t y

end Cert.DiffProof

end
-- ==== Proof.DiffClaims.lean ====
/- The claims about the differential attention. -/
module

public import proofs.«01_k».proof.Defs
public import proofs.«01_k».proof.Proof.Gen.Diff.Frame
public import proofs.«01_k».proof.Proof.Gen.DiffIdeal.Frame
public import proofs.«01_k».proof.Proof.Gen.DiffRefIdeal.Run
public import proofs.«01_k».proof.Proof.Gen.DiffRefIdeal.Read
public import proofs.«01_k».proof.Proof.Gen.Pre_all_finite
public import proofs.«01_k».proof.Proof.DiffValue
public import proofs.«01_k».proof.Proof.Finite
public import Idealize.ShloMosaic.Lib.Quiescent

@[expose] public section

set_option maxRecDepth 16384

noncomputable section

namespace Cert.DiffProof

open Idealize.ShloMosaic Idealize.ShloMosaic.TcCoe Idealize.SL.Sem

attribute [local instance] Cert.Diff.Gen.facts Cert.DiffIdeal.Gen.facts Cert.DiffRefIdeal.Gen.facts Cert.Pre_all_finite.Gen.facts

theorem quiescent_kernel : Cert.quiescent_Diff := fun m ρ _ => Cert.Diff.Gen.frame m ρ

theorem quiescent_ideal : Cert.quiescent_DiffIdeal := fun m ρ _ => Cert.DiffIdeal.Gen.frame m ρ

theorem quiescent_ideal_pre : Cert.quiescent_DiffIdeal_pre_all_finite := fun m ρ _ => Cert.DiffIdeal.Gen.frame m ρ

theorem quiescent_reference : Cert.quiescent_DiffRefIdeal := fun m ρ _ =>
  (θ_run Cert.DiffRefIdeal.defs _ _).mono (fun r h => ⟨fun c => (h c).2, sem_eq_zero_of_no_sems (by decide) r.2⟩)
    (Cert.DiffRefIdeal.Value.run (F := Ideal) m ρ)

theorem quiescent_reference_pre : Cert.quiescent_DiffRefIdeal_pre_all_finite := fun m ρ _ => quiescent_reference m ρ trivial

theorem algebraic : Cert.algebraic_DiffIdeal_DiffRefIdeal_pre_all_finite := by
  intro m ρ m' ρ' hpre hagree
  refine ⟨fun c => (Cert.DiffIdeal.Gen.dats m 0 c).arrAt 5 Cert.DiffIdeal.cfg0.N, Cert.DiffIdeal.Value.run_blocks m ρ, ?_⟩
  refine (θ_run Cert.DiffRefIdeal.defs _ _).mono (fun _ h c => ⟨(h c).1.trans ?_, (h c).2⟩) (Cert.DiffRefIdeal.Value.run (F := Ideal) m' ρ')
  obtain ⟨h0, h1, h2, h3, h4, h5, h6, h7⟩ := hpre c
  obtain ⟨s, hs⟩ := Softmax.real_of_finite _ _ _ (fun _ => rfl) (fun _ => rfl) h0
  obtain ⟨w1, hw1⟩ := Softmax.real_of_finite _ _ _ (fun _ => rfl) (fun _ => rfl) h1
  obtain ⟨w2, hw2⟩ := Softmax.real_of_finite _ _ _ (fun _ => rfl) (fun _ => rfl) h2
  obtain ⟨w3, hw3⟩ := Softmax.real_of_finite _ _ _ (fun _ => rfl) (fun _ => rfl) h3
  obtain ⟨w4, hw4⟩ := Softmax.real_of_finite _ _ _ (fun _ => rfl) (fun _ => rfl) h4
  obtain ⟨q, hq⟩ := Softmax.real_of_finite _ _ _ (fun _ => rfl) (fun _ => rfl) h5
  obtain ⟨k, hk⟩ := Softmax.real_of_finite _ _ _ (fun _ => rfl) (fun _ => rfl) h6
  obtain ⟨v, hv⟩ := Softmax.real_of_finite _ _ _ (fun _ => rfl) (fun _ => rfl) h7
  obtain ⟨-, e1, e2, e3, e4, e5, e6, e7, e8⟩ := hagree c
  obtain ⟨lam, hlam⟩ := Cert.DiffRefProof.lam_real w1 w2 w3 w4
  have l1 : argL1 m c = fun i => (w1 i : EReal) := funext hw1
  have l2 : argL2 m c = fun i => (w2 i : EReal) := funext hw2
  have l3 : argL3 m c = fun i => (w3 i : EReal) := funext hw3
  have l4 : argL4 m c = fun i => (w4 i : EReal) := funext hw4
  have lq : argQ m c = fun i => (q i : EReal) := funext hq
  have lk : argK m c = fun i => (k i : EReal) := funext hk
  have lv : argV m c = fun i => (v i : EReal) := funext hv
  have hl : Cert.DiffIdeal.Gen.V m c Cert.DiffIdeal.main_v17 (ix1 1) = ((lam : ℝ) : EReal) := by
    rw [V_lam, l1, l2, l3, l4, hlam]
  rw [Cert.DiffRefIdeal.Read.val_main_v97_eq m' c]
  refine Eq.trans ?_ (final m c q k v (s (ix1 0)) lam (hs _) hl hq hk hv).symm
  refine Eq.trans ?_ (Cert.DiffRefProof.ref_out q k v (argG m c) _ _ _ _ lam hlam)
  rw [e1, e2, e3, e4, e5, e6, e7, e8, ← l1, ← l2, ← l3, ← l4, ← lq, ← lk, ← lv]
  rfl

end Cert.DiffProof

end
-- ==== Proof.OutSpec.lean ====
/- What the output projection computes, row by row: the three groups of heads are mixed by one matrix,
   the result is added to the row through a gate, and the sum is normalised, modulated and multiplied
   into the queries of the feed-forward part. -/
module

public import proofs.«01_k».proof.OutRefIdeal
public import Idealize.ShloMosaic.Lib.ValueIdx

@[expose] public section

noncomputable section

namespace Cert.OutSpec

open Cert.OutRefIdeal Idealize.ShloMosaic Idealize.ShloMosaic.ValueIdx

/-- The inverse root of a row's mean square, `c` being the inverse of the row's length. -/
def rms {n : ℕ} (c : EReal) (f : Fin n → EReal) : EReal :=
  Ideal.rsqrt ((∑ x, f x * f x) * c + Ideal.ofBits .f32 0x358637BD#32)

/-- A head of the recurrence, normalised, times its gain and its gate. -/
def gated (o g z : Fin 128 → EReal) (d : Fin 128) : EReal :=
  o d * rms ((1 / 128 : ℝ) : EReal) o * g d * z d

/-- The product of a row, made of its three groups of heads, with one column of the matrix. -/
def mix (a : Fin 1024 → EReal) (b : Fin 512 → EReal) (o : Fin 4 → Fin 128 → EReal) (w : Fin 2048 → EReal) : EReal :=
  (∑ j : Fin 1024, a j * w ⟨j.val, by omega⟩) + (∑ j : Fin 512, b j * w ⟨1024 + j.val, by omega⟩)
    + ∑ h : Fin 4, ∑ d : Fin 128, o h d * w ⟨1536 + 128 * h.val + d.val, by omega⟩

/-- A row normalised, times its gain, scaled and shifted. -/
def normed (x g scale shift : Fin 2048 → EReal) (e : Fin 2048) : EReal :=
  x e * rms ((1 / 2048 : ℝ) : EReal) x * g e * (1 + scale e) + shift e

/-- The arguments: the rows, the three groups of heads, the gate of the third, its gain, the matrix, the
    modulation of the latent rows and of the context's, the second norm's gain, and the matrix of the queries. -/
structure Args where
  x : S2x16640x2048.Idx → EReal
  a : S2x16640x1024.Idx → EReal
  b : S2x16640x512.Idx → EReal
  o : S2x2x16640x512.Idx → EReal
  z : S2x16640x512.Idx → EReal
  hg : S128.Idx → EReal
  w : S2048x2048.Idx → EReal
  md : S2x12288.Idx → EReal
  mc : S12288.Idx → EReal
  g : S2048.Idx → EReal
  wq : S2048x1024.Idx → EReal

/-- Column `d` of head `h`, among 512. -/
def col (h : Fin 4) (d : Fin 128) : Fin 512 := ⟨128 * h.val + d.val, by omega⟩

/-- Entry `e` of part `k` of the six parts of a modulation. -/
def part (k : Fin 6) (e : Fin 2048) : Fin 12288 := ⟨2048 * k.val + e.val, by omega⟩

variable (A : Args)

/-- The modulation of row `r`: the context's for the first 256 rows. -/
def Args.mod (b : Fin 2) (r : Fin 16640) (k : Fin 6) (e : Fin 2048) : EReal :=
  if r.val < 256 then A.mc (ix1 (part k e)) else A.md (ix2 b (part k e))

/-- A head of the recurrence: the sum of its two directions, normalised and gated. -/
def Args.head (b : Fin 2) (r : Fin 16640) (h : Fin 4) : Fin 128 → EReal :=
  gated (fun d => A.o (ix4 b 0 r (col h d)) + A.o (ix4 b 1 r (col h d))) (fun d => A.hg (ix1 d)) (fun d => A.z (ix3 b r (col h d)))

/-- The row after the gated residual. -/
def Args.res (b : Fin 2) (r : Fin 16640) (e : Fin 2048) : EReal :=
  A.x (ix3 b r e) + A.mod b r 2 e
    * mix (fun j => A.a (ix3 b r j)) (fun j => A.b (ix3 b r j)) (A.head b r) (fun j => A.w (ix2 j e))

/-- The row that the feed-forward part reads. -/
def Args.second (b : Fin 2) (r : Fin 16640) : Fin 2048 → EReal :=
  normed (A.res b r) (fun e => A.g (ix1 e)) (A.mod b r 4) (A.mod b r 3)

/-- The queries of the feed-forward part. -/
def Args.query (b : Fin 2) (r : Fin 16640) (e : Fin 1024) : EReal :=
  ∑ j : Fin 2048, A.second b r j * A.wq (ix2 j e)

/-- The three results. -/
def Args.out1 : S2x16640x2048.Idx → EReal := fun i => A.res (i 0) (i 1) (i 2)
def Args.out2 : S2x16640x2048.Idx → EReal := fun i => A.second (i 0) (i 1) (i 2)
def Args.out3 : S2x16640x1024.Idx → EReal := fun i => A.query (i 0) (i 1) (i 2)

theorem one_eq : Ideal.ofBits .f32 0x3F800000#32 = 1 := by
  simp [Ideal.ofBits, Ideal.ieee, -EReal.coe_mul]
  norm_num

theorem inv128_eq : Ideal.ofBits .f32 0x3C000000#32 = ((1 / 128 : ℝ) : EReal) := by
  simp [Ideal.ofBits, Ideal.ieee, -EReal.coe_mul]
  norm_num

theorem inv2048_eq : Ideal.ofBits .f32 0x3A000000#32 = ((1 / 2048 : ℝ) : EReal) := by
  simp [Ideal.ofBits, Ideal.ieee, -EReal.coe_mul]
  norm_num

theorem size128_eq : Ideal.ofBits .f32 0x43000000#32 = ((128 : ℝ) : EReal) := by
  simp [Ideal.ofBits, Ideal.ieee, -EReal.coe_mul]
  norm_num

theorem size2048_eq : Ideal.ofBits .f32 0x45000000#32 = ((2048 : ℝ) : EReal) := by
  simp [Ideal.ofBits, Ideal.ieee, -EReal.coe_mul]
  norm_num

end Cert.OutSpec

end
-- ==== Proof.OutBlock.lean ====
/- What the output projection writes at one grid point, element by element on the extended reals. -/
module

public import proofs.«01_k».proof.Proof.OutSpec
public import proofs.«01_k».proof.Proof.Gen.OutIdeal.Value
public import Idealize.ShloMosaic.Lib.Pointwise

@[expose] public section

set_option maxRecDepth 16384

noncomputable section

namespace Cert.OutProof

open Cert.OutIdeal Cert.OutIdeal.Gen Idealize.ShloMosaic Idealize.ShloMosaic.TcCoe Cert.OutSpec

theorem pay6_apply (a : Vec Ideal S1x256x1024 .bf16) (wa : Vec Ideal S1024x2048 .bf16) (b : Vec Ideal S1x256x512 .bf16)
    (wb : Vec Ideal S512x2048 .bf16) (r : Fin 256) (e : Fin 2048) :
    k0_pay6 (F := Ideal) a wa b wb (ix2 r e)
      = (∑ j : Fin 1024, a (ix3 0 r j) * wa (ix2 j e)) + ∑ j : Fin 512, b (ix3 0 r j) * wb (ix2 j e) := by
  unfold k0_pay6
  pointwise

/-- What the four heads' payloads share: the head's product with its rows of the matrix, added to what is there. -/
def step (acc : EReal) (o0 o1 : Vec Ideal S1x1x256x128 .f32) (g : Vec Ideal S1x128 .f32) (z : Vec Ideal S1x256x128 .bf16)
    (w : Vec Ideal S128x2048 .bf16) (r : Fin 256) (e : Fin 2048) : EReal :=
  acc + ∑ d : Fin 128, gated (fun d => o0 (ix4 0 0 r d) + o1 (ix4 0 0 r d)) (fun d => g (ix2 0 d)) (fun d => z (ix3 0 r d)) d * w (ix2 d e)

theorem pay9_apply (acc : FVec Ideal S256x2048 .f32) (o0 o1 : Vec Ideal S1x1x256x128 .f32) (g : Vec Ideal S1x128 .f32)
    (z : Vec Ideal S1x256x128 .bf16) (w : Vec Ideal S128x2048 .bf16) (r : Fin 256) (e : Fin 2048) :
    k0_pay9 (F := Ideal) acc (k0_pay7 o0 o1) (k0_pay8 o0 o1) g z w (ix2 r e) = step (acc (ix2 r e)) o0 o1 g z w r e := by
  unfold k0_pay9 k0_pay8 k0_pay7 step gated rms
  pointwise
  simp only [← inv128_eq]

theorem pay12_apply (acc : FVec Ideal S256x2048 .f32) (o0 o1 : Vec Ideal S1x1x256x128 .f32) (g : Vec Ideal S1x128 .f32)
    (z : Vec Ideal S1x256x128 .bf16) (w : Vec Ideal S128x2048 .bf16) (r : Fin 256) (e : Fin 2048) :
    k0_pay12 (F := Ideal) acc (k0_pay10 o0 o1) (k0_pay11 g) z w (ix2 r e) = step (acc (ix2 r e)) o0 o1 g z w r e := by
  unfold k0_pay12 k0_pay11 k0_pay10 step gated rms
  pointwise
  simp only [← inv128_eq]

theorem pay14_apply (acc : FVec Ideal S256x2048 .f32) (o0 o1 p0 p1 : Vec Ideal S1x1x256x128 .f32) (g : Vec Ideal S1x128 .f32)
    (z y : Vec Ideal S1x256x128 .bf16) (w v : Vec Ideal S128x2048 .bf16) (r : Fin 256) (e : Fin 2048) :
    k0_pay14 (F := Ideal) acc (k0_pay13 o0 o1 g z) w p0 p1 g y v (ix2 r e)
      = step (step (acc (ix2 r e)) o0 o1 g z w r e) p0 p1 g y v r e := by
  unfold k0_pay14 k0_pay13 step gated rms
  pointwise
  simp only [← inv128_eq]

/-- The head `h` of the block, its two directions added, normalised and gated. -/
def headB (x3 : Vec Ideal S1x2x256x512 .f32) (x4 : Vec Ideal S1x256x512 .bf16) (x5 : Vec Ideal S1x128 .f32) (r : Fin 256) (h : Fin 4) :
    Fin 128 → EReal :=
  gated (fun d => x3 (ix4 0 0 r (col h d)) + x3 (ix4 0 1 r (col h d))) (fun d => x5 (ix2 0 d)) (fun d => x4 (ix3 0 r (col h d)))

/-- The row `r` of the block times the column `e` of the matrix. -/
def mixB (x1 : Vec Ideal S1x256x1024 .bf16) (x2 : Vec Ideal S1x256x512 .bf16) (x3 : Vec Ideal S1x2x256x512 .f32)
    (x4 : Vec Ideal S1x256x512 .bf16) (x5 : Vec Ideal S1x128 .f32) (x6 : Vec Ideal S2048x2048 .bf16) (r : Fin 256) (e : Fin 2048) : EReal :=
  mix (fun j => x1 (ix3 0 r j)) (fun j => x2 (ix3 0 r j)) (headB x3 x4 x5 r) (fun j => x6 (ix2 j e))

/-- Part `k` of the modulation of row `r` of the tile `n` of rows. -/
def modB (n : ℕ) (x7 : Vec Ideal S1x2x12288 .f32) (r : Fin 256) (k : Fin 6) (e : Fin 2048) : EReal :=
  if n = 0 then x7 (ix3 0 0 (part k e)) else x7 (ix3 0 1 (part k e))

variable (i : grid0.Coords) (x0 : Vec Ideal S1x256x2048 .f32) (x1 : Vec Ideal S1x256x1024 .bf16) (x2 : Vec Ideal S1x256x512 .bf16)
variable (x3 : Vec Ideal S1x2x256x512 .f32) (x4 : Vec Ideal S1x256x512 .bf16) (x5 : Vec Ideal S1x128 .f32) (x6 : Vec Ideal S2048x2048 .bf16)
variable (x7 : Vec Ideal S1x2x12288 .f32) (x8 : Vec Ideal S1x2048 .f32) (x9 : Vec Ideal S2048x1024 .bf16)

theorem pay25_apply (r : Fin 256) (e : Fin 2048) :
    k0_pay25 (F := Ideal) i x0 x1 x2 x3 x4 x5 x6 x7 x8 x9 (ix2 r e) = mixB x1 x2 x3 x4 x5 x6 r e := by
  unfold k0_pay25
  rw [pay14_apply, pay12_apply, pay9_apply, pay6_apply]
  unfold mixB mix step headB col
  rw [Fin.sum_univ_four, ← add_assoc, ← add_assoc, ← add_assoc]
  pointwise

theorem row_apply (hi : (i 1).val < 65) (r : Fin 256) :
    k0_pay22 (F := Ideal) i x0 x1 x2 x3 x4 x5 x6 x7 x8 x9 (ix2 r 0) = if (i 1).val = 0 then 1#1 else 0#1 := by
  have h : ∀ (n : Fin 65) (r : Fin 256), IntOp.cmpi .slt (BitVec.ofNat 32 n.val * 256#32 + BitVec.ofNat 32 r.val) 256#32
      = if n.val = 0 then 1#1 else 0#1 := by decide +kernel
  unfold k0_pay22 k0_pay3
  pointwise
  exact h ⟨_, hi⟩ r

theorem res_apply (hi : (i 1).val < 65) (r : Fin 256) (e : Fin 2048) :
    k0_pay19 (F := Ideal) (k0_pay25 i x0 x1 x2 x3 x4 x5 x6 x7 x8 x9) (k0_pay26 i x0 x1 x2 x3 x4 x5 x6 x7 x8 x9)
        (k0_pay27 i x0 x1 x2 x3 x4 x5 x6 x7 x8 x9) (k0_pay28 i x0 x1 x2 x3 x4 x5 x6 x7 x8 x9) (k0_pay29 i x0 x1 x2 x3 x4 x5 x6 x7 x8 x9) (ix2 r e)
      = x0 (ix3 0 r e) + modB (i 1).val x7 r 2 e * mixB x1 x2 x3 x4 x5 x6 r e := by
  unfold k0_pay19 k0_pay29 k0_pay18 k0_pay28 k0_pay17 k0_pay24 k0_pay5 k0_pay27 k0_pay16 k0_pay23 k0_pay4 k0_pay26 k0_pay15 modB
  pointwise
  rw [pay25_apply, row_apply (hi := hi)]
  split_ifs <;> rfl

/-- The row after the gated residual, of the block. -/
def resB (n : ℕ) (r : Fin 256) (e : Fin 2048) : EReal :=
  x0 (ix3 0 r e) + modB n x7 r 2 e * mixB x1 x2 x3 x4 x5 x6 r e

theorem second_apply (hi : (i 1).val < 65) (r : Fin 256) (e : Fin 2048) :
    k0_pay30 (F := Ideal) i x0 x1 x2 x3 x4 x5 x6 x7 x8 x9 (ix2 r e)
      = normed (resB x0 x1 x2 x3 x4 x5 x6 x7 (i 1).val r) (fun e => x8 (ix2 0 e)) (modB (i 1).val x7 r 4) (modB (i 1).val x7 r 3) e := by
  have hr : ∀ e, _ = resB x0 x1 x2 x3 x4 x5 x6 x7 (i 1).val r e := res_apply i x0 x1 x2 x3 x4 x5 x6 x7 x8 x9 hi r
  have hm := row_apply i x0 x1 x2 x3 x4 x5 x6 x7 x8 x9 hi r
  unfold k0_pay30 k0_pay21
  generalize k0_pay19 (F := Ideal) _ _ _ _ _ = y at hr ⊢
  generalize k0_pay22 (F := Ideal) i x0 x1 x2 x3 x4 x5 x6 x7 x8 x9 = mask at hm ⊢
  unfold k0_pay24 k0_pay5 k0_pay23 k0_pay4 modB normed rms
  pointwise
  simp only [hr, hm, inv2048_eq, one_eq]
  split_ifs <;> rfl

theorem wide {ε : EltTy} (w : Vec Ideal S1x256x2048 ε) (r : Fin 256) (e : Fin 2048) :
    View.canon [(⟨r0_23, w⟩ : View.Piece (Elt Ideal) S1x256x2048 ε)] (ix3 0 r e) = w (ix3 0 r e) := by
  refine Eq.trans (congrArg _ ?_) (View.canon_cons_emb r0_23 w [] (ix3 0 r e))
  funext a
  match a with
  | ⟨0, _⟩ => rfl
  | ⟨1, _⟩ => exact Fin.ext (show r.val = 0 + 1 * r.val by omega)
  | ⟨2, _⟩ => exact Fin.ext (show e.val = 0 + 1 * e.val by omega)

theorem narrow {ε : EltTy} (w : Vec Ideal S1x256x1024 ε) (r : Fin 256) (e : Fin 1024) :
    View.canon [(⟨r0_2, w⟩ : View.Piece (Elt Ideal) S1x256x1024 ε)] (ix3 0 r e) = w (ix3 0 r e) := by
  refine Eq.trans (congrArg _ ?_) (View.canon_cons_emb r0_2 w [] (ix3 0 r e))
  funext a
  match a with
  | ⟨0, _⟩ => rfl
  | ⟨1, _⟩ => exact Fin.ext (show r.val = 0 + 1 * r.val by omega)
  | ⟨2, _⟩ => exact Fin.ext (show e.val = 0 + 1 * e.val by omega)

theorem out10_apply (hi : (i 1).val < 65) (r : Fin 256) (e : Fin 2048) :
    out0_10 (F := Ideal) i x0 x1 x2 x3 x4 x5 x6 x7 x8 x9 (ix3 0 r e) = resB x0 x1 x2 x3 x4 x5 x6 x7 (i 1).val r e := by
  refine Eq.trans ?_ (res_apply i x0 x1 x2 x3 x4 x5 x6 x7 x8 x9 hi r e)
  unfold out0_10 k0_pay20
  generalize k0_pay19 (F := Ideal) _ _ _ _ _ = y
  refine (wide _ r e).trans ?_
  pointwise

theorem out11_apply (hi : (i 1).val < 65) (r : Fin 256) (e : Fin 2048) :
    out0_11 (F := Ideal) i x0 x1 x2 x3 x4 x5 x6 x7 x8 x9 (ix3 0 r e)
      = normed (resB x0 x1 x2 x3 x4 x5 x6 x7 (i 1).val r) (fun e => x8 (ix2 0 e)) (modB (i 1).val x7 r 4) (modB (i 1).val x7 r 3) e := by
  refine Eq.trans ?_ (second_apply i x0 x1 x2 x3 x4 x5 x6 x7 x8 x9 hi r e)
  unfold out0_11 k0_pay1
  generalize k0_pay30 (F := Ideal) i x0 x1 x2 x3 x4 x5 x6 x7 x8 x9 = y
  refine (wide _ r e).trans ?_
  pointwise

theorem out12_apply (hi : (i 1).val < 65) (r : Fin 256) (e : Fin 1024) :
    out0_12 (F := Ideal) i x0 x1 x2 x3 x4 x5 x6 x7 x8 x9 (ix3 0 r e)
      = ∑ j : Fin 2048, normed (resB x0 x1 x2 x3 x4 x5 x6 x7 (i 1).val r) (fun e => x8 (ix2 0 e)) (modB (i 1).val x7 r 4) (modB (i 1).val x7 r 3) j
          * x9 (ix2 j e) := by
  have h := second_apply i x0 x1 x2 x3 x4 x5 x6 x7 x8 x9 hi r
  unfold out0_12 k0_pay2
  generalize k0_pay30 (F := Ideal) i x0 x1 x2 x3 x4 x5 x6 x7 x8 x9 = y at h ⊢
  refine (narrow _ r e).trans ?_
  simp only [← h]
  pointwise

end Cert.OutProof

end
-- ==== Proof.OutArray.lean ====
/- The arrays the output projection's call reads, its blocks of them, and the arrays it leaves. -/
module

public import proofs.«01_k».proof.Proof.OutBlock
public import proofs.«01_k».proof.Proof.Gen.OutIdeal.Value
public import Idealize.ShloMosaic.Lib.Pointwise
public import Idealize.ShloMosaic.Lib.StableHlo.ReadAt
public import Idealize.ShloMosaic.Lib.Pipeline.ValueKit

@[expose] public section

set_option maxRecDepth 16384

noncomputable section

namespace Cert.OutProof

open Cert.OutIdeal Cert.OutIdeal.Gen Idealize.ShloMosaic Idealize.ShloMosaic.TcCoe Cert.OutSpec

variable (m : (ℓ : Loc nD τ sig) → Buf (Elt Ideal) ℓ) (c : Dev nD)

/-- The arguments, as launched. -/
def args : Args where
  x := m ((c : Thread nD τ).loc main_arg0)
  a := m ((c : Thread nD τ).loc main_arg1)
  b := m ((c : Thread nD τ).loc main_arg2)
  o := m ((c : Thread nD τ).loc main_arg3)
  z := m ((c : Thread nD τ).loc main_arg4)
  hg := m ((c : Thread nD τ).loc main_arg5)
  w := m ((c : Thread nD τ).loc main_arg6)
  md := m ((c : Thread nD τ).loc main_arg7)
  mc := m ((c : Thread nD τ).loc main_arg8)
  g := m ((c : Thread nD τ).loc main_arg9)
  wq := m ((c : Thread nD τ).loc main_arg10)

theorem V_x (i : S2x16640x2048.Idx) : V m c main_arg0 i = (args m c).x i := by
  unfold V args
  after_reads_at

theorem V_a (i : S2x16640x1024.Idx) : V m c main_v5 i = (args m c).a i := by
  unfold V args
  after_reads_at

theorem V_b (i : S2x16640x512.Idx) : V m c main_v6 i = (args m c).b i := by
  unfold V args
  after_reads_at

theorem V_o (i : S2x2x16640x512.Idx) : V m c main_arg3 i = (args m c).o i := by
  unfold V args
  after_reads_at

theorem V_z (i : S2x16640x512.Idx) : V m c main_v7 i = (args m c).z i := by
  unfold V args
  after_reads_at

theorem V_hg (d : Fin 128) : V m c main_v8 (ix2 0 d) = (args m c).hg (ix1 d) := by
  unfold V args
  after_reads_at

theorem V_w (i : S2048x2048.Idx) : V m c main_v9 i = (args m c).w i := by
  unfold V args
  after_reads_at

theorem V_g (e : Fin 2048) : V m c main_v10 (ix2 0 e) = (args m c).g (ix1 e) := by
  unfold V args
  after_reads_at

theorem V_wq (i : S2048x1024.Idx) : V m c main_v11 i = (args m c).wq i := by
  unfold V args
  after_reads_at

theorem V_mc (b : Fin 2) (y : Fin 12288) : V m c main_v4 (ix3 b 0 y) = (args m c).mc (ix1 y) := by
  unfold V args
  after_reads_at

theorem V_md (b : Fin 2) (y : Fin 12288) : V m c main_v4 (ix3 b 1 y) = (args m c).md (ix2 b y) := by
  unfold V args
  after_reads_at

/-- The blocks of the point `t`: of one batch and 256 rows. -/
theorem idx : ∀ t : Fin cfg0.N, win0_0.index t = ![t.val / 65, t.val % 65, 0] ∧ win0_1.index t = ![t.val / 65, t.val % 65, 0]
    ∧ win0_2.index t = ![t.val / 65, t.val % 65, 0] ∧ win0_3.index t = ![t.val / 65, 0, t.val % 65, 0]
    ∧ win0_4.index t = ![t.val / 65, t.val % 65, 0] ∧ win0_5.index t = ![0, 0] ∧ win0_6.index t = ![0, 0]
    ∧ win0_7.index t = ![t.val / 65, 0, 0] ∧ win0_8.index t = ![0, 0] ∧ win0_9.index t = ![0, 0]
    ∧ win0_10.index t = ![t.val / 65, t.val % 65, 0] ∧ win0_11.index t = ![t.val / 65, t.val % 65, 0]
    ∧ win0_12.index t = ![t.val / 65, t.val % 65, 0] :=
  (by decide +kernel : ∀ t : Fin grid0.N, _)

theorem lt_N (t : Fin cfg0.N) : t.val < 130 := lt_of_lt_of_eq t.isLt N_0

/-- The batch of a point, and its rows. -/
def bt (t : Fin cfg0.N) : Fin 2 := ⟨t.val / 65, by have := lt_N t; omega⟩
def row (t : Fin cfg0.N) (r : Fin 256) : Fin 16640 := ⟨256 * (t.val % 65) + r.val, by omega⟩

theorem blk_x (t : Fin cfg0.N) (r : Fin 256) (e : Fin 2048) : iblk m c 0 t (ix3 0 r e) = (args m c).x (ix3 (bt t) (row t r) e) := by
  refine Eq.trans ?_ (V_x m c _)
  blk_ext [iblk, idx t, bt, row]

theorem blk_a (t : Fin cfg0.N) (r : Fin 256) (e : Fin 1024) : iblk m c 1 t (ix3 0 r e) = (args m c).a (ix3 (bt t) (row t r) e) := by
  refine Eq.trans ?_ (V_a m c _)
  blk_ext [iblk, idx t, bt, row]

theorem blk_b (t : Fin cfg0.N) (r : Fin 256) (e : Fin 512) : iblk m c 2 t (ix3 0 r e) = (args m c).b (ix3 (bt t) (row t r) e) := by
  refine Eq.trans ?_ (V_b m c _)
  blk_ext [iblk, idx t, bt, row]

theorem blk_o (t : Fin cfg0.N) (d : Fin 2) (r : Fin 256) (e : Fin 512) :
    iblk m c 3 t (ix4 0 d r e) = (args m c).o (ix4 (bt t) d (row t r) e) := by
  refine Eq.trans ?_ (V_o m c _)
  blk_ext [iblk, idx t, bt, row]

theorem blk_z (t : Fin cfg0.N) (r : Fin 256) (e : Fin 512) : iblk m c 4 t (ix3 0 r e) = (args m c).z (ix3 (bt t) (row t r) e) := by
  refine Eq.trans ?_ (V_z m c _)
  blk_ext [iblk, idx t, bt, row]

theorem blk_hg (t : Fin cfg0.N) (d : Fin 128) : iblk m c 5 t (ix2 0 d) = (args m c).hg (ix1 d) := by
  refine Eq.trans ?_ (V_hg m c _)
  blk_ext [iblk, idx t]

theorem blk_w (t : Fin cfg0.N) (j e : Fin 2048) : iblk m c 6 t (ix2 j e) = (args m c).w (ix2 j e) := by
  refine Eq.trans ?_ (V_w m c _)
  blk_ext [iblk, idx t]

theorem blk_mod (t : Fin cfg0.N) (k : Fin 2) (y : Fin 12288) : iblk m c 7 t (ix3 0 k y) = V m c main_v4 (ix3 (bt t) k y) := by
  blk_ext [iblk, idx t, bt]

theorem blk_g (t : Fin cfg0.N) (e : Fin 2048) : iblk m c 8 t (ix2 0 e) = (args m c).g (ix1 e) := by
  refine Eq.trans ?_ (V_g m c _)
  blk_ext [iblk, idx t]

theorem blk_wq (t : Fin cfg0.N) (j : Fin 2048) (e : Fin 1024) : iblk m c 9 t (ix2 j e) = (args m c).wq (ix2 j e) := by
  refine Eq.trans ?_ (V_wq m c _)
  blk_ext [iblk, idx t]

end Cert.OutProof

end
-- ==== Proof.OutValue.lean ====
/- What the output projection's call leaves in its three arrays. -/
module

public import proofs.«01_k».proof.Proof.OutArray

@[expose] public section

set_option maxRecDepth 16384

noncomputable section

namespace Cert.OutProof

open Cert.OutIdeal Cert.OutIdeal.Gen Idealize.ShloMosaic Idealize.ShloMosaic.TcCoe Cert.OutSpec

variable (m : (ℓ : Loc nD τ sig) → Buf (Elt Ideal) ℓ) (c : Dev nD) (t : Fin cfg0.N)

/-- The tile of rows of a point, as the body reads it. -/
theorem coord : ∀ t : Fin cfg0.N, ((grid0.coords t) 1).val = t.val % 65 :=
  (by decide +kernel : ∀ t : Fin grid0.N, _)

theorem mod_at (r : Fin 256) (k : Fin 6) :
    modB (t.val % 65) (iblk m c 7 t) r k = (args m c).mod (bt t) (row t r) k := by
  funext e
  have h : t.val % 65 = 0 ↔ (row t r).val < 256 := by simp only [row]; omega
  unfold modB Args.mod
  rw [blk_mod, blk_mod, V_mc, V_md]
  exact if_congr h rfl rfl

theorem res_at (r : Fin 256) :
    resB (iblk m c 0 t) (iblk m c 1 t) (iblk m c 2 t) (iblk m c 3 t) (iblk m c 4 t) (iblk m c 5 t) (iblk m c 6 t) (iblk m c 7 t) (t.val % 65) r
      = (args m c).res (bt t) (row t r) := by
  funext e
  unfold resB Args.res mixB headB Args.head
  simp only [mod_at, blk_x, blk_a, blk_b, blk_o, blk_z, blk_hg, blk_w]
  rfl

theorem second_at (r : Fin 256) :
    normed (resB (iblk m c 0 t) (iblk m c 1 t) (iblk m c 2 t) (iblk m c 3 t) (iblk m c 4 t) (iblk m c 5 t) (iblk m c 6 t) (iblk m c 7 t) (t.val % 65) r)
        (fun e => iblk m c 8 t (ix2 0 e)) (modB (t.val % 65) (iblk m c 7 t) r 4) (modB (t.val % 65) (iblk m c 7 t) r 3)
      = (args m c).second (bt t) (row t r) := by
  unfold Args.second
  simp only [res_at, mod_at, blk_g]
  rfl

/-- An index of a block, by its row and its column. -/
theorem eq_row {n : ℕ} (y : (Shape.mk 3 ![1, 256, n]).Idx) : ∃ (r : Fin 256) (e : Fin n), y = ix3 0 r e :=
  ⟨y 1, y 2, by
    funext a
    match a with
    | ⟨0, _⟩ => exact Fin.ext (by have h : (y 0).val < 1 := (y 0).isLt; show (y 0).val = 0; omega)
    | ⟨1, _⟩ => rfl
    | ⟨2, _⟩ => rfl⟩

/-- The place in a result of an index of a block. -/
theorem emb10 (r : Fin 256) (e : Fin 2048) : (win0_10.blk t).view.emb (ix3 0 r e : S1x256x2048.Idx) = (ix3 (bt t) (row t r) e : S2x16640x2048.Idx) := by
  funext a
  match a with
  | ⟨0, _⟩ => exact Fin.ext (by blk_simp [idx t, bt]; rfl)
  | ⟨1, _⟩ => exact Fin.ext (by blk_simp [idx t, row]; dsimp only; omega)
  | ⟨2, _⟩ => exact Fin.ext (by blk_simp [idx t])

theorem emb11 (r : Fin 256) (e : Fin 2048) : (win0_11.blk t).view.emb (ix3 0 r e : S1x256x2048.Idx) = (ix3 (bt t) (row t r) e : S2x16640x2048.Idx) := by
  funext a
  match a with
  | ⟨0, _⟩ => exact Fin.ext (by blk_simp [idx t, bt]; rfl)
  | ⟨1, _⟩ => exact Fin.ext (by blk_simp [idx t, row]; dsimp only; omega)
  | ⟨2, _⟩ => exact Fin.ext (by blk_simp [idx t])

theorem emb12 (r : Fin 256) (e : Fin 1024) : (win0_12.blk t).view.emb (ix3 0 r e : S1x256x1024.Idx) = (ix3 (bt t) (row t r) e : S2x16640x1024.Idx) := by
  funext a
  match a with
  | ⟨0, _⟩ => exact Fin.ext (by blk_simp [idx t, bt]; rfl)
  | ⟨1, _⟩ => exact Fin.ext (by blk_simp [idx t, row]; dsimp only; omega)
  | ⟨2, _⟩ => exact Fin.ext (by blk_simp [idx t])

theorem small : ((grid0.coords t) 1).val < 65 := by
  rw [coord]
  omega

/-- The residual rows. -/
theorem point10 (y : S1x256x2048.Idx) :
    out0_10 (F := Ideal) (grid0.coords t) (iblk m c 0 t) (iblk m c 1 t) (iblk m c 2 t) (iblk m c 3 t) (iblk m c 4 t) (iblk m c 5 t)
      (iblk m c 6 t) (iblk m c 7 t) (iblk m c 8 t) (iblk m c 9 t) y = (args m c).out1 ((win0_10.blk t).view.emb y) := by
  obtain ⟨r, e, rfl⟩ := eq_row y
  refine Eq.trans ?_ (congrArg (args m c).out1 (emb10 t r e)).symm
  refine (out10_apply _ _ _ _ _ _ _ _ _ _ _ (small t) r e).trans ?_
  rw [coord, res_at]
  rfl

theorem final10 : (dats m 0 c).arrAt 10 cfg0.N = (args m c).out1 := by
  refine (dats m 0 c).arrAt_eq_of_covers 10 _ (by decide +kernel) fun t hf y => ?_
  blk_simp
  rw [after0_10]
  exact point10 m c t y

/-- The rows normalised, scaled and shifted. -/
theorem point11 (y : S1x256x2048.Idx) :
    out0_11 (F := Ideal) (grid0.coords t) (iblk m c 0 t) (iblk m c 1 t) (iblk m c 2 t) (iblk m c 3 t) (iblk m c 4 t) (iblk m c 5 t)
      (iblk m c 6 t) (iblk m c 7 t) (iblk m c 8 t) (iblk m c 9 t) y = (args m c).out2 ((win0_11.blk t).view.emb y) := by
  obtain ⟨r, e, rfl⟩ := eq_row y
  refine Eq.trans ?_ (congrArg (args m c).out2 (emb11 t r e)).symm
  refine (out11_apply _ _ _ _ _ _ _ _ _ _ _ (small t) r e).trans ?_
  rw [coord, second_at]
  rfl

theorem final11 : (dats m 0 c).arrAt 11 cfg0.N = (args m c).out2 := by
  refine (dats m 0 c).arrAt_eq_of_covers 11 _ (by decide +kernel) fun t hf y => ?_
  blk_simp
  rw [after0_11]
  exact point11 m c t y

/-- The queries. -/
theorem point12 (y : S1x256x1024.Idx) :
    out0_12 (F := Ideal) (grid0.coords t) (iblk m c 0 t) (iblk m c 1 t) (iblk m c 2 t) (iblk m c 3 t) (iblk m c 4 t) (iblk m c 5 t)
      (iblk m c 6 t) (iblk m c 7 t) (iblk m c 8 t) (iblk m c 9 t) y = (args m c).out3 ((win0_12.blk t).view.emb y) := by
  obtain ⟨r, e, rfl⟩ := eq_row y
  refine Eq.trans ?_ (congrArg (args m c).out3 (emb12 t r e)).symm
  refine (out12_apply _ _ _ _ _ _ _ _ _ _ _ (small t) r e).trans ?_
  simp only [coord, second_at, blk_wq]
  rfl

theorem final12 : (dats m 0 c).arrAt 12 cfg0.N = (args m c).out3 := by
  refine (dats m 0 c).arrAt_eq_of_covers 12 _ (by decide +kernel) fun t hf y => ?_
  blk_simp
  rw [after0_12]
  exact point12 m c t y

end Cert.OutProof

end
-- ==== Proof.OutJoin.lean ====
/- Arrays joined along an axis, read at an index, and the product of a joined row. -/
module

public import proofs.«01_k».proof.Proof.OutSpec
public import Idealize.ShloMosaic.Lib.Pointwise

@[expose] public section

set_option maxRecDepth 16384

noncomputable section

namespace Cert.OutRefProof

open Cert.OutRefIdeal Idealize.ShloMosaic Cert.OutSpec

theorem join_ctx (x : S2x256x1024.Idx → EReal) (y z : S2x256x512.Idx → EReal) (h) (b : Fin 2) (r : Fin 256) (j : Fin 2048) :
    concatenate S2x256x2048 2 [⟨S2x256x1024, x⟩, ⟨S2x256x512, y⟩, ⟨S2x256x512, z⟩] h (ix3 b r j)
      = if h : j.val < 1024 then x (ix3 b r ⟨j.val, h⟩) else if h : j.val - 1024 < 512 then y (ix3 b r ⟨j.val - 1024, h⟩) else z (ix3 b r ⟨j.val - 1024 - 512, by omega⟩) := by
  pointwise

theorem join_lat (x : S2x16384x1024.Idx → EReal) (y z : S2x16384x512.Idx → EReal) (h) (b : Fin 2) (r : Fin 16384) (j : Fin 2048) :
    concatenate S2x16384x2048 2 [⟨S2x16384x1024, x⟩, ⟨S2x16384x512, y⟩, ⟨S2x16384x512, z⟩] h (ix3 b r j)
      = if h : j.val < 1024 then x (ix3 b r ⟨j.val, h⟩) else if h : j.val - 1024 < 512 then y (ix3 b r ⟨j.val - 1024, h⟩) else z (ix3 b r ⟨j.val - 1024 - 512, by omega⟩) := by
  pointwise

theorem join_rows (x : S2x256x2048.Idx → EReal) (y : S2x16384x2048.Idx → EReal) (h) (b : Fin 2) (r : Fin 16640) (j : Fin 2048) :
    concatenate S2x16640x2048 1 [⟨S2x256x2048, x⟩, ⟨S2x16384x2048, y⟩] h (ix3 b r j)
      = if h : r.val < 256 then x (ix3 b ⟨r.val, h⟩ j) else y (ix3 b ⟨r.val - 256, by omega⟩ j) := by
  pointwise
theorem join_query (x : S2x256x1024.Idx → EReal) (y : S2x16384x1024.Idx → EReal) (h) (b : Fin 2) (r : Fin 16640) (j : Fin 1024) :
    concatenate S2x16640x1024 1 [⟨S2x256x1024, x⟩, ⟨S2x16384x1024, y⟩] h (ix3 b r j)
      = if h : r.val < 256 then x (ix3 b ⟨r.val, h⟩ j) else y (ix3 b ⟨r.val - 256, by omega⟩ j) := by
  pointwise

/-- A sum over 512 columns is one over the four heads and their columns. -/
theorem sum_heads (g : Fin 512 → EReal) : ∑ j, g j = ∑ h : Fin 4, ∑ d : Fin 128, g (col h d) := by
  rw [← Fintype.sum_prod_type' (fun h d => g (col h d)), ← (finProdFinEquiv (m := 4) (n := 128)).sum_comp g]
  exact Finset.sum_congr rfl fun x _ => congrArg g (Fin.ext (by simp [col, finProdFinEquiv]; omega))

/-- The product of a row made of three groups of heads. -/
theorem mix_join (f w : Fin 2048 → EReal) (a : Fin 1024 → EReal) (b : Fin 512 → EReal) (o : Fin 4 → Fin 128 → EReal)
    (ha : ∀ j : Fin 1024, f ⟨j.val, by omega⟩ = a j) (hb : ∀ j : Fin 512, f ⟨1024 + j.val, by omega⟩ = b j)
    (ho : ∀ (h : Fin 4) (d : Fin 128), f ⟨1536 + 128 * h.val + d.val, by omega⟩ = o h d) :
    ∑ j, f j * w j = mix a b o w := by
  have s1 := Fin.sum_univ_add (a := 1024) (b := 1024) fun j => f j * w j
  have s2 := Fin.sum_univ_add (a := 512) (b := 512) fun j => f (Fin.natAdd 1024 j) * w (Fin.natAdd 1024 j)
  have s3 := sum_heads fun j => f (Fin.natAdd 1024 (Fin.natAdd 512 j)) * w (Fin.natAdd 1024 (Fin.natAdd 512 j))
  refine s1.trans ?_
  rw [s2, s3, ← add_assoc]
  unfold mix
  refine congrArg₂ _ (congrArg₂ _ (Finset.sum_congr rfl fun j _ => ?_) (Finset.sum_congr rfl fun j _ => ?_))
    (Finset.sum_congr rfl fun h _ => Finset.sum_congr rfl fun d _ => ?_)
  · rw [← ha j]
    rfl
  · rw [← hb j]
    rfl
  · have e : (Fin.natAdd 1024 (Fin.natAdd 512 (col h d)) : Fin 2048) = ⟨1536 + 128 * h.val + d.val, by omega⟩ :=
      Fin.ext (by simp [col]; omega)
    rw [e, ho]

end Cert.OutRefProof

end
-- ==== Proof.OutRef.lean ====
/- The reference of the output projection is the specification of `OutSpec`. -/
module

public import proofs.«01_k».proof.Proof.OutJoin
public import proofs.«01_k».proof.Proof.Gen.OutRefIdeal.Read

@[expose] public section

set_option maxRecDepth 16384

noncomputable section

namespace Cert.OutRefProof

open Cert.OutRefIdeal Cert.OutRefIdeal.Gen Cert.OutRefIdeal.Read Idealize.ShloMosaic.ValueIdx Cert.OutSpec
open Idealize.ShloMosaic hiding ix1 ix2 ix3 ix4 ix5 eq_ix1 eq_ix2 eq_ix3 eq_ix4 eq_ix5

variable (A : Args)

/-- A row of the context, and a latent row. -/
abbrev up (x : Fin 256) : Fin 16640 := x.castLE (by norm_num)
abbrev lat (x : Fin 16384) : Fin 16640 := ⟨256 + x.val, by omega⟩

/-- The modulation of a row of the context, and of a latent row. -/
theorem mod_up (b : Fin 2) (r : Fin 256) (k : Fin 6) (e : Fin 2048) : A.mod b (up r) k e = A.mc (ix1 (part k e)) := if_pos r.isLt
theorem mod_lat (b : Fin 2) (r : Fin 16384) (k : Fin 6) (e : Fin 2048) : A.mod b (lat r) k e = A.md (ix2 b (part k e)) :=
  if_neg (by simp [lat])

/-- The two directions added, in the context. -/
theorem ctx_sum (b : Fin 2) (r : Fin 256) (j : Fin 512) :
    val_main_v14 (F := Ideal) A.o (ix3 b r j) = A.o (ix4 b 0 (up r) j) + A.o (ix4 b 1 (up r) j) := by
  have e0 : idx_main_v3 (idx_main_v4 (ix3 b r j)) = ix4 b 0 (up r) j := by
    funext a
    match a with
    | ⟨0, _⟩ => exact Fin.ext (by simp [ix3, ix4] <;> omega)
    | ⟨1, _⟩ => exact Fin.ext (by simp [ix3, ix4] <;> omega)
    | ⟨2, _⟩ => exact Fin.ext (by simp [ix3, ix4] <;> omega)
    | ⟨3, _⟩ => exact Fin.ext (by simp [ix3, ix4] <;> omega)
  have e1 : idx_main_v5 (idx_main_v6 (ix3 b r j)) = ix4 b 1 (up r) j := by
    funext a
    match a with
    | ⟨0, _⟩ => exact Fin.ext (by simp [ix3, ix4] <;> omega)
    | ⟨1, _⟩ => exact Fin.ext (by simp [ix3, ix4] <;> omega)
    | ⟨2, _⟩ => exact Fin.ext (by simp [ix3, ix4] <;> omega)
    | ⟨3, _⟩ => exact Fin.ext (by simp [ix3, ix4] <;> omega)
  rw [val_main_v14_apply, val_main_v4_apply, val_main_v3_apply, val_main_v6_apply, val_main_v5_apply, e0, e1]
  rfl

theorem ctx_heads (b : Fin 2) (h : Fin 4) (r : Fin 256) (d : Fin 128) :
    val_main_v16 (F := Ideal) A.o (ix4 b h r d) = A.o (ix4 b 0 (up r) (col h d)) + A.o (ix4 b 1 (up r) (col h d)) := by
  have e : idx_main_v15 (idx_main_v16 (ix4 b h r d)) = ix3 b r (col h d) := by
    funext a
    match a with
    | ⟨0, _⟩ => exact Fin.ext (by simp [ix3, ix4, col] <;> omega)
    | ⟨1, _⟩ => exact Fin.ext (by simp [ix3, ix4, col] <;> omega)
    | ⟨2, _⟩ => exact Fin.ext (by simp [ix3, ix4, col] <;> omega)
  rw [val_main_v16_apply, val_main_v15_apply, e, ctx_sum]

/-- The inverse root of the mean square of a head. -/
theorem ctx_root (b : Fin 2) (h : Fin 4) (r : Fin 256) :
    val_main_v24 (F := Ideal) A.o (ix4 b h r (0 : Fin 1))
      = rms ((1 / 128 : ℝ) : EReal) (fun d => A.o (ix4 b 0 (up r) (col h d)) + A.o (ix4 b 1 (up r) (col h d))) := by
  have e : ∀ d : Fin 128, idx_main_v18 (idx_main_v19 (ix4 b h r (0 : Fin 1))) d = ix4 b h r d := fun d => eq_ix4 _
  rw [val_main_v24_apply, val_main_v23_apply, val_main_v21_apply, val_main_v22_apply, val_main_v20_apply, val_main_v19_apply, val_main_v18_apply, val_main_cst_apply, val_main_cst_0_apply, val_main_cst_1_apply]
  simp only [e, val_main_v17_apply, ctx_heads, Ideal.ofBits_def, Ideal.ofBits_zero_f32, zero_add, size128_eq, Ideal.hostDivf_def]
  rw [Ideal.div_coe (by norm_num)]
  rfl

theorem ctx_head (b : Fin 2) (h : Fin 4) (r : Fin 256) (d : Fin 128) :
    val_main_v32 (F := Ideal) A.o A.z A.hg (ix4 b h r d) = A.head b (up r) h d := by
  have e : idx_main_v7 (idx_main_v30 (idx_main_v31 (ix4 b h r d))) = ix3 b (up r) (col h d) := by
    funext a
    match a with
    | ⟨0, _⟩ => exact Fin.ext (by simp [ix3, ix4, col] <;> omega)
    | ⟨1, _⟩ => exact Fin.ext (by simp [ix3, ix4, col] <;> omega)
    | ⟨2, _⟩ => exact Fin.ext (by simp [ix3, ix4, col] <;> omega)
  rw [val_main_v32_apply, val_main_v29_apply, val_main_v26_apply, val_main_v25_apply, val_main_v28_apply, val_main_v27_apply, val_main_v31_apply, val_main_v30_apply, val_main_v7_apply, e, ctx_heads,
    show idx_main_v25 (ix4 b h r d) = ix4 b h r (0 : Fin 1) from eq_ix4 _, ctx_root,
    show idx_main_v27 (idx_main_v28 (ix4 b h r d)) = ix1 d from eq_ix1 _]
  rfl

theorem ctx_merge (b : Fin 2) (r : Fin 256) (h : Fin 4) (d : Fin 128) :
    val_main_v34 (F := Ideal) A.o A.z A.hg (ix3 b r (col h d)) = A.head b (up r) h d := by
  have e : idx_main_v33 (idx_main_v34 (ix3 b r (col h d))) = ix4 b h r d := by
    funext a
    match a with
    | ⟨0, _⟩ => exact Fin.ext (by simp [ix3, ix4, col] <;> omega)
    | ⟨1, _⟩ => exact Fin.ext (by simp [ix3, ix4, col] <;> omega)
    | ⟨2, _⟩ => exact Fin.ext (by simp [ix3, ix4, col] <;> omega)
    | ⟨3, _⟩ => exact Fin.ext (by simp [ix3, ix4, col] <;> omega)
  rw [val_main_v34_apply, val_main_v33_apply, e, ctx_head]

/-- A row of the three groups of heads times a column of the matrix. -/
theorem ctx_mix (b : Fin 2) (r : Fin 256) (e : Fin 2048) :
    val_main_v36 (F := Ideal) A.a A.b A.o A.z A.hg A.w (ix3 b r e)
      = mix (fun j => A.a (ix3 b (up r) j)) (fun j => A.b (ix3 b (up r) j)) (A.head b (up r)) (fun j => A.w (ix2 j e)) := by
  rw [val_main_v36_apply]
  refine Eq.trans (Finset.sum_congr rfl fun j _ => ?_)
    (mix_join (fun j => val_main_v35 (F := Ideal) A.a A.b A.o A.z A.hg (ix3 b r j)) (fun j => A.w (ix2 j e)) _ _ _ (fun j => ?_) (fun j => ?_) (fun h d => ?_))
  · rw [show lidx_main_v36 (ix3 b r e) j = ix3 b r j from eq_ix3 _, show ridx_main_v36 (ix3 b r e) j = ix2 j e from eq_ix2 _]
  · refine (join_ctx _ _ _ _ b r _).trans ((dif_pos j.isLt).trans ?_)
    rw [val_main_v1_apply]
    refine congrArg A.a ?_
    funext a
    match a with
    | ⟨0, _⟩ => exact Fin.ext (by simp [ix3, Idealize.ShloMosaic.ix3] <;> omega)
    | ⟨1, _⟩ => exact Fin.ext (by simp [ix3, Idealize.ShloMosaic.ix3] <;> omega)
    | ⟨2, _⟩ => exact Fin.ext (by simp [ix3, Idealize.ShloMosaic.ix3] <;> omega)
  · refine (join_ctx _ _ _ _ b r _).trans ((dif_neg (by simp)).trans ((dif_pos (by simp)).trans ?_))
    rw [val_main_v2_apply]
    refine congrArg A.b ?_
    funext a
    match a with
    | ⟨0, _⟩ => exact Fin.ext (by simp [ix3, Idealize.ShloMosaic.ix3] <;> omega)
    | ⟨1, _⟩ => exact Fin.ext (by simp [ix3, Idealize.ShloMosaic.ix3] <;> omega)
    | ⟨2, _⟩ => exact Fin.ext (by simp [ix3, Idealize.ShloMosaic.ix3] <;> omega)
  · refine (join_ctx _ _ _ _ b r _).trans ((dif_neg (by dsimp only; omega)).trans ((dif_neg (by dsimp only; omega)).trans ?_))
    refine Eq.trans (congrArg _ ?_) (ctx_merge A b r h d)
    funext a
    match a with
    | ⟨0, _⟩ => exact Fin.ext (by simp [ix3, Idealize.ShloMosaic.ix3, col] <;> omega)
    | ⟨1, _⟩ => exact Fin.ext (by simp [ix3, Idealize.ShloMosaic.ix3, col] <;> omega)
    | ⟨2, _⟩ => exact Fin.ext (by simp [ix3, Idealize.ShloMosaic.ix3, col] <;> omega)

/-- The gated residual. -/
theorem ctx_res (b : Fin 2) (r : Fin 256) (e : Fin 2048) :
    val_main_v40 (F := Ideal) A.x A.a A.b A.o A.z A.hg A.w A.mc (ix3 b r e) = A.res b (up r) e := by
  have e2 : idx_main_v10 (idx_main_v37 (idx_main_v38 (ix3 b r e))) = ix1 (part 2 e) := by
    funext a
    match a with
    | ⟨0, _⟩ => exact Fin.ext (by simp [ix1, ix3, part] <;> omega)
  have e0 : idx_main_v0 (ix3 b r e) = ix3 b (up r) e := by
    funext a
    match a with
    | ⟨0, _⟩ => exact Fin.ext (by simp [ix3] <;> omega)
    | ⟨1, _⟩ => exact Fin.ext (by simp [ix3] <;> omega)
    | ⟨2, _⟩ => exact Fin.ext (by simp [ix3] <;> omega)
  rw [val_main_v40_apply, val_main_v0_apply, val_main_v39_apply, val_main_v38_apply, val_main_v37_apply, val_main_v10_apply, e0, e2, ctx_mix, Args.res, mod_up]
  rfl

theorem ctx_root2 (b : Fin 2) (r : Fin 256) :
    val_main_v48 (F := Ideal) A.x A.a A.b A.o A.z A.hg A.w A.mc (ix3 b r (0 : Fin 1)) = rms ((1 / 2048 : ℝ) : EReal) (A.res b (up r)) := by
  have e : ∀ j : Fin 2048, idx_main_v42 (idx_main_v43 (ix3 b r (0 : Fin 1))) j = ix3 b r j := fun j => eq_ix3 _
  rw [val_main_v48_apply, val_main_v47_apply, val_main_v45_apply, val_main_v46_apply, val_main_v44_apply, val_main_v43_apply, val_main_v42_apply, val_main_cst_2_apply, val_main_cst_3_apply, val_main_cst_4_apply]
  simp only [e, val_main_v41_apply, ctx_res, Ideal.ofBits_def, Ideal.ofBits_zero_f32, zero_add, size2048_eq, Ideal.hostDivf_def]
  rw [Ideal.div_coe (by norm_num)]
  rfl

/-- The row normalised, scaled and shifted. -/
theorem ctx_second (b : Fin 2) (r : Fin 256) (e : Fin 2048) :
    val_main_v61 (F := Ideal) A.x A.a A.b A.o A.z A.hg A.w A.mc A.g (ix3 b r e) = A.second b (up r) e := by
  have e4 : idx_main_v12 (idx_main_v56 (idx_main_v57 (ix3 b r e))) = ix1 (part 4 e) := by
    funext a
    match a with
    | ⟨0, _⟩ => exact Fin.ext (by simp [ix1, ix3, part] <;> omega)
  have e3 : idx_main_v11 (idx_main_v59 (idx_main_v60 (ix3 b r e))) = ix1 (part 3 e) := by
    funext a
    match a with
    | ⟨0, _⟩ => exact Fin.ext (by simp [ix1, ix3, part] <;> omega)
  rw [val_main_v61_apply, val_main_v58_apply, val_main_v53_apply, val_main_v50_apply, val_main_v49_apply, val_main_v52_apply, val_main_v51_apply, val_main_v57_apply, val_main_v56_apply, val_main_v55_apply, val_main_v54_apply, val_main_v12_apply, val_main_v60_apply, val_main_v59_apply, val_main_v11_apply, e3, e4,
    val_main_cst_5_apply, ctx_res, show idx_main_v49 (ix3 b r e) = ix3 b r (0 : Fin 1) from eq_ix3 _, ctx_root2,
    show idx_main_v51 (idx_main_v52 (ix3 b r e)) = ix1 e from eq_ix1 _, Args.second, normed, mod_up, mod_up, Ideal.ofBits_def, one_eq]
  rfl

/-- The queries. -/
theorem ctx_query (b : Fin 2) (r : Fin 256) (e : Fin 1024) :
    val_main_v62 (F := Ideal) A.x A.a A.b A.o A.z A.hg A.w A.mc A.g A.wq (ix3 b r e) = A.query b (up r) e := by
  rw [val_main_v62_apply, Args.query]
  refine Finset.sum_congr rfl fun j _ => ?_
  rw [show lidx_main_v62 (ix3 b r e) j = ix3 b r j from eq_ix3 _, ctx_second, show ridx_main_v62 (ix3 b r e) j = ix2 j e from eq_ix2 _]

/-- The two directions added, in the latent rows. -/
theorem lat_sum (b : Fin 2) (r : Fin 16384) (j : Fin 512) :
    val_main_v78 (F := Ideal) A.o (ix3 b r j) = A.o (ix4 b 0 (lat r) j) + A.o (ix4 b 1 (lat r) j) := by
  have e0 : idx_main_v66 (idx_main_v67 (ix3 b r j)) = ix4 b 0 (lat r) j := by
    funext a
    match a with
    | ⟨0, _⟩ => exact Fin.ext (by simp [ix3, ix4] <;> omega)
    | ⟨1, _⟩ => exact Fin.ext (by simp [ix3, ix4] <;> omega)
    | ⟨2, _⟩ => exact Fin.ext (by simp [ix3, ix4] <;> omega)
    | ⟨3, _⟩ => exact Fin.ext (by simp [ix3, ix4] <;> omega)
  have e1 : idx_main_v68 (idx_main_v69 (ix3 b r j)) = ix4 b 1 (lat r) j := by
    funext a
    match a with
    | ⟨0, _⟩ => exact Fin.ext (by simp [ix3, ix4] <;> omega)
    | ⟨1, _⟩ => exact Fin.ext (by simp [ix3, ix4] <;> omega)
    | ⟨2, _⟩ => exact Fin.ext (by simp [ix3, ix4] <;> omega)
    | ⟨3, _⟩ => exact Fin.ext (by simp [ix3, ix4] <;> omega)
  rw [val_main_v78_apply, val_main_v67_apply, val_main_v66_apply, val_main_v69_apply, val_main_v68_apply, e0, e1]
  rfl

theorem lat_heads (b : Fin 2) (h : Fin 4) (r : Fin 16384) (d : Fin 128) :
    val_main_v80 (F := Ideal) A.o (ix4 b h r d) = A.o (ix4 b 0 (lat r) (col h d)) + A.o (ix4 b 1 (lat r) (col h d)) := by
  have e : idx_main_v79 (idx_main_v80 (ix4 b h r d)) = ix3 b r (col h d) := by
    funext a
    match a with
    | ⟨0, _⟩ => exact Fin.ext (by simp [ix3, ix4, col] <;> omega)
    | ⟨1, _⟩ => exact Fin.ext (by simp [ix3, ix4, col] <;> omega)
    | ⟨2, _⟩ => exact Fin.ext (by simp [ix3, ix4, col] <;> omega)
  rw [val_main_v80_apply, val_main_v79_apply, e, lat_sum]

/-- The inverse root of the mean square of a head. -/
theorem lat_root (b : Fin 2) (h : Fin 4) (r : Fin 16384) :
    val_main_v88 (F := Ideal) A.o (ix4 b h r (0 : Fin 1))
      = rms ((1 / 128 : ℝ) : EReal) (fun d => A.o (ix4 b 0 (lat r) (col h d)) + A.o (ix4 b 1 (lat r) (col h d))) := by
  have e : ∀ d : Fin 128, idx_main_v82 (idx_main_v83 (ix4 b h r (0 : Fin 1))) d = ix4 b h r d := fun d => eq_ix4 _
  rw [val_main_v88_apply, val_main_v87_apply, val_main_v85_apply, val_main_v86_apply, val_main_v84_apply, val_main_v83_apply, val_main_v82_apply, val_main_cst_6_apply, val_main_cst_7_apply, val_main_cst_8_apply]
  simp only [e, val_main_v81_apply, lat_heads, Ideal.ofBits_def, Ideal.ofBits_zero_f32, zero_add, size128_eq, Ideal.hostDivf_def]
  rw [Ideal.div_coe (by norm_num)]
  rfl

theorem lat_head (b : Fin 2) (h : Fin 4) (r : Fin 16384) (d : Fin 128) :
    val_main_v96 (F := Ideal) A.o A.z A.hg (ix4 b h r d) = A.head b (lat r) h d := by
  have e : idx_main_v70 (idx_main_v94 (idx_main_v95 (ix4 b h r d))) = ix3 b (lat r) (col h d) := by
    funext a
    match a with
    | ⟨0, _⟩ => exact Fin.ext (by simp [ix3, ix4, col] <;> omega)
    | ⟨1, _⟩ => exact Fin.ext (by simp [ix3, ix4, col] <;> omega)
    | ⟨2, _⟩ => exact Fin.ext (by simp [ix3, ix4, col] <;> omega)
  rw [val_main_v96_apply, val_main_v93_apply, val_main_v90_apply, val_main_v89_apply, val_main_v92_apply, val_main_v91_apply, val_main_v95_apply, val_main_v94_apply, val_main_v70_apply, e, lat_heads,
    show idx_main_v89 (ix4 b h r d) = ix4 b h r (0 : Fin 1) from eq_ix4 _, lat_root,
    show idx_main_v91 (idx_main_v92 (ix4 b h r d)) = ix1 d from eq_ix1 _]
  rfl

theorem lat_merge (b : Fin 2) (r : Fin 16384) (h : Fin 4) (d : Fin 128) :
    val_main_v98 (F := Ideal) A.o A.z A.hg (ix3 b r (col h d)) = A.head b (lat r) h d := by
  have e : idx_main_v97 (idx_main_v98 (ix3 b r (col h d))) = ix4 b h r d := by
    funext a
    match a with
    | ⟨0, _⟩ => exact Fin.ext (by simp [ix3, ix4, col] <;> omega)
    | ⟨1, _⟩ => exact Fin.ext (by simp [ix3, ix4, col] <;> omega)
    | ⟨2, _⟩ => exact Fin.ext (by simp [ix3, ix4, col] <;> omega)
    | ⟨3, _⟩ => exact Fin.ext (by simp [ix3, ix4, col] <;> omega)
  rw [val_main_v98_apply, val_main_v97_apply, e, lat_head]

/-- A row of the three groups of heads times a column of the matrix. -/
theorem lat_mix (b : Fin 2) (r : Fin 16384) (e : Fin 2048) :
    val_main_v100 (F := Ideal) A.a A.b A.o A.z A.hg A.w (ix3 b r e)
      = mix (fun j => A.a (ix3 b (lat r) j)) (fun j => A.b (ix3 b (lat r) j)) (A.head b (lat r)) (fun j => A.w (ix2 j e)) := by
  rw [val_main_v100_apply]
  refine Eq.trans (Finset.sum_congr rfl fun j _ => ?_)
    (mix_join (fun j => val_main_v99 (F := Ideal) A.a A.b A.o A.z A.hg (ix3 b r j)) (fun j => A.w (ix2 j e)) _ _ _ (fun j => ?_) (fun j => ?_) (fun h d => ?_))
  · rw [show lidx_main_v100 (ix3 b r e) j = ix3 b r j from eq_ix3 _, show ridx_main_v100 (ix3 b r e) j = ix2 j e from eq_ix2 _]
  · refine (join_lat _ _ _ _ b r _).trans ((dif_pos j.isLt).trans ?_)
    rw [val_main_v64_apply]
    refine congrArg A.a ?_
    funext a
    match a with
    | ⟨0, _⟩ => exact Fin.ext (by simp [ix3, Idealize.ShloMosaic.ix3] <;> omega)
    | ⟨1, _⟩ => exact Fin.ext (by simp [ix3, Idealize.ShloMosaic.ix3] <;> omega)
    | ⟨2, _⟩ => exact Fin.ext (by simp [ix3, Idealize.ShloMosaic.ix3] <;> omega)
  · refine (join_lat _ _ _ _ b r _).trans ((dif_neg (by simp)).trans ((dif_pos (by simp)).trans ?_))
    rw [val_main_v65_apply]
    refine congrArg A.b ?_
    funext a
    match a with
    | ⟨0, _⟩ => exact Fin.ext (by simp [ix3, Idealize.ShloMosaic.ix3] <;> omega)
    | ⟨1, _⟩ => exact Fin.ext (by simp [ix3, Idealize.ShloMosaic.ix3] <;> omega)
    | ⟨2, _⟩ => exact Fin.ext (by simp [ix3, Idealize.ShloMosaic.ix3] <;> omega)
  · refine (join_lat _ _ _ _ b r _).trans ((dif_neg (by dsimp only; omega)).trans ((dif_neg (by dsimp only; omega)).trans ?_))
    refine Eq.trans (congrArg _ ?_) (lat_merge A b r h d)
    funext a
    match a with
    | ⟨0, _⟩ => exact Fin.ext (by simp [ix3, Idealize.ShloMosaic.ix3, col] <;> omega)
    | ⟨1, _⟩ => exact Fin.ext (by simp [ix3, Idealize.ShloMosaic.ix3, col] <;> omega)
    | ⟨2, _⟩ => exact Fin.ext (by simp [ix3, Idealize.ShloMosaic.ix3, col] <;> omega)

/-- The gated residual. -/
theorem lat_res (b : Fin 2) (r : Fin 16384) (e : Fin 2048) :
    val_main_v103 (F := Ideal) A.x A.a A.b A.o A.z A.hg A.w A.md (ix3 b r e) = A.res b (lat r) e := by
  have e2 : idx_main_v71 (idx_main_v74 (idx_main_v101 (ix3 b r e))) = ix2 b (part 2 e) := by
    funext a
    match a with
    | ⟨0, _⟩ => exact Fin.ext (by simp [ix2, ix3, part] <;> omega)
    | ⟨1, _⟩ => exact Fin.ext (by simp [ix2, ix3, part] <;> omega)
  have e0 : idx_main_v63 (ix3 b r e) = ix3 b (lat r) e := by
    funext a
    match a with
    | ⟨0, _⟩ => exact Fin.ext (by simp [ix3] <;> omega)
    | ⟨1, _⟩ => exact Fin.ext (by simp [ix3] <;> omega)
    | ⟨2, _⟩ => exact Fin.ext (by simp [ix3] <;> omega)
  rw [val_main_v103_apply, val_main_v63_apply, val_main_v102_apply, val_main_v101_apply, val_main_v74_apply, val_main_v71_apply, e0, e2, lat_mix, Args.res, mod_lat]
  rfl

theorem lat_root2 (b : Fin 2) (r : Fin 16384) :
    val_main_v111 (F := Ideal) A.x A.a A.b A.o A.z A.hg A.w A.md (ix3 b r (0 : Fin 1)) = rms ((1 / 2048 : ℝ) : EReal) (A.res b (lat r)) := by
  have e : ∀ j : Fin 2048, idx_main_v105 (idx_main_v106 (ix3 b r (0 : Fin 1))) j = ix3 b r j := fun j => eq_ix3 _
  rw [val_main_v111_apply, val_main_v110_apply, val_main_v108_apply, val_main_v109_apply, val_main_v107_apply, val_main_v106_apply, val_main_v105_apply, val_main_cst_9_apply, val_main_cst_10_apply, val_main_cst_11_apply]
  simp only [e, val_main_v104_apply, lat_res, Ideal.ofBits_def, Ideal.ofBits_zero_f32, zero_add, size2048_eq, Ideal.hostDivf_def]
  rw [Ideal.div_coe (by norm_num)]
  rfl

/-- The row normalised, scaled and shifted. -/
theorem lat_second (b : Fin 2) (r : Fin 16384) (e : Fin 2048) :
    val_main_v122 (F := Ideal) A.x A.a A.b A.o A.z A.hg A.w A.md A.g (ix3 b r e) = A.second b (lat r) e := by
  have e4 : idx_main_v71 (idx_main_v76 (idx_main_v119 (ix3 b r e))) = ix2 b (part 4 e) := by
    funext a
    match a with
    | ⟨0, _⟩ => exact Fin.ext (by simp [ix2, ix3, part] <;> omega)
    | ⟨1, _⟩ => exact Fin.ext (by simp [ix2, ix3, part] <;> omega)
  have e3 : idx_main_v71 (idx_main_v75 (idx_main_v121 (ix3 b r e))) = ix2 b (part 3 e) := by
    funext a
    match a with
    | ⟨0, _⟩ => exact Fin.ext (by simp [ix2, ix3, part] <;> omega)
    | ⟨1, _⟩ => exact Fin.ext (by simp [ix2, ix3, part] <;> omega)
  rw [val_main_v122_apply, val_main_v120_apply, val_main_v116_apply, val_main_v113_apply, val_main_v112_apply, val_main_v115_apply, val_main_v114_apply, val_main_v119_apply, val_main_v118_apply, val_main_v117_apply, val_main_v76_apply,
    val_main_v121_apply, val_main_v75_apply, val_main_v71_apply, val_main_v71_apply, e3, e4,
    val_main_cst_12_apply, lat_res, show idx_main_v112 (ix3 b r e) = ix3 b r (0 : Fin 1) from eq_ix3 _, lat_root2,
    show idx_main_v114 (idx_main_v115 (ix3 b r e)) = ix1 e from eq_ix1 _, Args.second, normed, mod_lat, mod_lat, Ideal.ofBits_def, one_eq]
  rfl

/-- The queries. -/
theorem lat_query (b : Fin 2) (r : Fin 16384) (e : Fin 1024) :
    val_main_v123 (F := Ideal) A.x A.a A.b A.o A.z A.hg A.w A.md A.g A.wq (ix3 b r e) = A.query b (lat r) e := by
  rw [val_main_v123_apply, Args.query]
  refine Finset.sum_congr rfl fun j _ => ?_
  rw [show lidx_main_v123 (ix3 b r e) j = ix3 b r j from eq_ix3 _, lat_second, show ridx_main_v123 (ix3 b r e) j = ix2 j e from eq_ix2 _]

/-- The first result. -/
theorem ref_out1 : val_main_v124 (F := Ideal) A.x A.a A.b A.o A.z A.hg A.w A.md A.mc = A.out1 := by
  funext i
  obtain ⟨b, r, e, rfl⟩ : ∃ (b : Fin 2) (r : Fin 16640) (e : Fin 2048), i = ix3 b r e := ⟨_, _, _, eq_ix3 i⟩
  refine (join_rows _ _ _ b r e).trans ?_
  by_cases h : r.val < 256
  · exact (dif_pos h).trans (ctx_res A b ⟨r.val, h⟩ e)
  · have hr : lat ⟨r.val - 256, by omega⟩ = r := Fin.ext (by simp only [lat]; omega)
    exact (dif_neg h).trans ((lat_res A b ⟨r.val - 256, by omega⟩ e).trans (congrArg (fun r => A.res b r e) hr))

/-- The second result. -/
theorem ref_out2 : val_main_v126 (F := Ideal) A.x A.a A.b A.o A.z A.hg A.w A.md A.mc A.g = A.out2 := by
  funext i
  obtain ⟨b, r, e, rfl⟩ : ∃ (b : Fin 2) (r : Fin 16640) (e : Fin 2048), i = ix3 b r e := ⟨_, _, _, eq_ix3 i⟩
  rw [val_main_v126_apply, val_main_v125]
  change concatenate _ _ _ _ (ix3 b r e) = _
  refine (join_rows _ _ _ b r e).trans ?_
  by_cases h : r.val < 256
  · exact (dif_pos h).trans (ctx_second A b ⟨r.val, h⟩ e)
  · have hr : lat ⟨r.val - 256, by omega⟩ = r := Fin.ext (by simp only [lat]; omega)
    exact (dif_neg h).trans ((lat_second A b ⟨r.val - 256, by omega⟩ e).trans (congrArg (fun r => A.second b r e) hr))

/-- The third result. -/
theorem ref_out3 : val_main_v127 (F := Ideal) A.x A.a A.b A.o A.z A.hg A.w A.md A.mc A.g A.wq = A.out3 := by
  funext i
  obtain ⟨b, r, e, rfl⟩ : ∃ (b : Fin 2) (r : Fin 16640) (e : Fin 1024), i = ix3 b r e := ⟨_, _, _, eq_ix3 i⟩
  refine (join_query _ _ _ b r e).trans ?_
  by_cases h : r.val < 256
  · exact (dif_pos h).trans (ctx_query A b ⟨r.val, h⟩ e)
  · have hr : lat ⟨r.val - 256, by omega⟩ = r := Fin.ext (by simp only [lat]; omega)
    exact (dif_neg h).trans ((lat_query A b ⟨r.val - 256, by omega⟩ e).trans (congrArg (fun r => A.query b r e) hr))

end Cert.OutRefProof

end
-- ==== Proof.OutClaims.lean ====
/- The claims about the output projection. -/
module

public import proofs.«01_k».proof.Defs
public import proofs.«01_k».proof.Proof.Gen.Out.Frame
public import proofs.«01_k».proof.Proof.Gen.OutIdeal.Frame
public import proofs.«01_k».proof.Proof.Gen.OutRefIdeal.Run
public import proofs.«01_k».proof.Proof.Gen.OutRefIdeal.Read
public import proofs.«01_k».proof.Proof.OutValue
public import proofs.«01_k».proof.Proof.OutRef
public import proofs.«01_k».proof.Proof.Gen.OutIdeal.Value
public import Idealize.ShloMosaic.Lib.Quiescent

@[expose] public section

set_option maxRecDepth 16384

noncomputable section

namespace Cert.OutProof

open Idealize.ShloMosaic Idealize.ShloMosaic.TcCoe Idealize.SL.Sem

attribute [local instance] Cert.Out.Gen.facts Cert.OutIdeal.Gen.facts Cert.OutRefIdeal.Gen.facts

theorem quiescent_kernel : Cert.quiescent_Out := fun m ρ _ => Cert.Out.Gen.frame m ρ

theorem quiescent_ideal : Cert.quiescent_OutIdeal := fun m ρ _ => Cert.OutIdeal.Gen.frame m ρ

theorem quiescent_reference : Cert.quiescent_OutRefIdeal := fun m ρ _ =>
  (θ_run Cert.OutRefIdeal.defs _ _).mono (fun r h => ⟨fun c => (h c).2.2.2, sem_eq_zero_of_no_sems (by decide) r.2⟩)
    (Cert.OutRefIdeal.Value.run (F := Ideal) m ρ)

theorem algebraic : Cert.algebraic_OutIdeal_OutRefIdeal := by
  intro m ρ m' ρ' hpre hagree
  refine ⟨fun c => (Cert.OutIdeal.Gen.dats m 0 c).arrAt 10 Cert.OutIdeal.cfg0.N, fun c => (Cert.OutIdeal.Gen.dats m 0 c).arrAt 11 Cert.OutIdeal.cfg0.N,
    fun c => (Cert.OutIdeal.Gen.dats m 0 c).arrAt 12 Cert.OutIdeal.cfg0.N, Cert.OutIdeal.Value.run_blocks m ρ, ?_⟩
  refine (θ_run Cert.OutRefIdeal.defs _ _).mono
    (fun _ h c => ⟨(h c).1.trans ?_, (h c).2.1.trans ?_, (h c).2.2.1.trans ?_, (h c).2.2.2⟩) (Cert.OutRefIdeal.Value.run (F := Ideal) m' ρ')
  all_goals obtain ⟨e0, e1, e2, e3, e4, e5, e6, e7, e8, e9, e10⟩ := hagree c
  · rw [Cert.OutRefIdeal.Read.val_main_v124_eq m' c, e0, e1, e2, e3, e4, e5, e6, e7, e8]
    exact (Cert.OutRefProof.ref_out1 (args m c)).trans (final10 m c).symm
  · rw [Cert.OutRefIdeal.Read.val_main_v126_eq m' c, e0, e1, e2, e3, e4, e5, e6, e7, e8, e9]
    exact (Cert.OutRefProof.ref_out2 (args m c)).trans (final11 m c).symm
  · rw [Cert.OutRefIdeal.Read.val_main_v127_eq m' c, e0, e1, e2, e3, e4, e5, e6, e7, e8, e9, e10]
    exact (Cert.OutRefProof.ref_out3 (args m c)).trans (final12 m c).symm

end Cert.OutProof

end
-- ==== Proof.InSame.lean ====
/- The input projection's kernel as printed runs as its idealized print does: their programs are the same ones. -/
module

public import proofs.«01_k».proof.Defs
public import proofs.«01_k».proof.Proof.Gen.In
public import proofs.«01_k».proof.Proof.Gen.InIdeal

@[expose] public section

set_option maxRecDepth 100000
set_option maxHeartbeats 0

namespace Cert.InProof

open Idealize.ShloMosaic Idealize.ShloMosaic.TcCoe Idealize.SL.Sem

variable {F : FTy → Type} [FloatOps F]

/-- The kernel bodies are the same. -/
theorem defs0_same : Cert.In.defs₀ (F := F) = Cert.InIdeal.defs₀ (F := F) := by
  unfold Cert.In.defs₀ Cert.InIdeal.defs₀
  refine congrArg Defs.onTc (funext fun l => funext fun a => ?_)
  match l, a with
  | ⟨0, _⟩, (t, s) => rfl
  | ⟨n + 1, h⟩, _ => exact absurd h (Nat.not_lt.2 (Nat.le_add_left _ _))

/-- So what holds of every run of the idealized print holds of every run of the kernel. -/
theorem run_same (s : MemSt Cert.InIdeal.nD Cert.InIdeal.τ Cert.InIdeal.sig (Elt F)) (Q)
    (h : θ_run (Cert.InIdeal.defs (F := F)) (onTc (τ := Cert.InIdeal.τ) (Cert.InIdeal.main (F := F))) s Q) :
    θ_run (Cert.In.defs (F := F)) (onTc (τ := Cert.In.τ) (Cert.In.main (F := F))) s Q := by
  have e : Cert.In.defs (F := F) = Cert.InIdeal.defs (F := F) := congrArg (Pipeline.defs (Cert.InIdeal.pcfgs (F := F))) defs0_same
  rw [e]
  exact h

end Cert.InProof
-- ==== Proof.InSpec.lean ====
/- What the input projection computes for the recurrence, row by row: a row is normalised and modulated,
   and multiplied by the columns of one matrix. -/
module

public import proofs.«01_k».proof.InRefIdeal
public import proofs.«01_k».proof.Proof.OutSpec

@[expose] public section

noncomputable section

namespace Cert.InSpec

open Cert.InRefIdeal Idealize.ShloMosaic Idealize.ShloMosaic.ValueIdx
open Cert.OutSpec (normed part)

/-- The arguments read: the rows, the modulation of the latent rows and of the context's, the norm's gain, the
matrix, and the lower bounds of the two directions' forget gates. -/
structure Args where
  x : S2x16640x2048.Idx → EReal
  md : S2x12288.Idx → EReal
  mc : S12288.Idx → EReal
  g : S2048.Idx → EReal
  w : S2048x5632.Idx → EReal
  lf : S512.Idx → EReal
  lb : S512.Idx → EReal

variable (A : Args)

/-- The modulation of row `r`: the context's for the first 256 rows. -/
def Args.mod (b : Fin 2) (r : Fin 16640) (k : Fin 6) (e : Fin 2048) : EReal :=
  if r.val < 256 then A.mc (ix1 (part k e)) else A.md (ix2 b (part k e))

/-- The row that is projected. -/
def Args.first (b : Fin 2) (r : Fin 16640) : Fin 2048 → EReal :=
  normed (fun e => A.x (ix3 b r e)) (fun e => A.g (ix1 e)) (A.mod b r 1) (A.mod b r 0)

/-- Column `e` of tile `k` of the columns of the matrix. -/
def column (k : Fin 11) (e : Fin 512) : Fin 5632 := ⟨512 * k.val + e.val, by omega⟩

/-- The projection of a row by a column of a tile. -/
def Args.proj (k : Fin 11) (b : Fin 2) (r : Fin 16640) (e : Fin 512) : EReal :=
  ∑ j : Fin 2048, A.first b r j * A.w (ix2 j (column k e))

/-- A number times its logistic. -/
def silu (z : EReal) : EReal := z * Ideal.div 1 (1 + Ideal.exp (-z))

/-- Column `n` of heads of numbers from number `o` on, each of 128 numbers followed by as many ones. -/
def beside (f : Fin 512 → EReal) (o n : ℕ) : EReal :=
  if h : n / 128 % 2 = 0 ∧ o + 128 * (n / 256) + n % 128 < 512 then f ⟨o + 128 * (n / 256) + n % 128, h.2⟩ else 1

/-- The values of the two attentions. -/
def Args.values2 : S2x16640x512.Idx → EReal := fun i => beside (A.proj 2 (i 0) (i 1)) 256 (i 2).val
def Args.values4 : S2x16640x1024.Idx → EReal := fun i => beside (A.proj 5 (i 0) (i 1)) 0 (i 2).val

theorem bf16_one_eq : Ideal.ofBits .bf16 0x3F80#16 = 1 := by
  simp [Ideal.ofBits, Ideal.ieee, -EReal.coe_mul]
  norm_num

/-- The recurrence's queries, its values and its output gate. -/
def Args.query : S2x16640x512.Idx → EReal := fun i => silu (A.proj 6 (i 0) (i 1) (i 2))
def Args.value : S2x16640x512.Idx → EReal := fun i => A.proj 9 (i 0) (i 1) (i 2)
def Args.gate : S2x16640x512.Idx → EReal := fun i => silu (A.proj 10 (i 0) (i 1) (i 2))

/-- A gate's key and the logarithm of its forgetting, from its lower bound. -/
def key (l z : EReal) : EReal := (1 - l) * Ideal.div 1 (1 + Ideal.exp (- -z))
def forget (l z : EReal) : EReal := Ideal.log (l + (1 - l) * Ideal.div 1 (1 + Ideal.exp (-z)))

/-- The recurrence's keys, and the logarithms of its forget gates, forward and backward. -/
def Args.keys : S2x2x16640x512.Idx → EReal := fun i =>
  if (i 1).val = 0 then key (A.lf (ix1 (i 3))) (A.proj 7 (i 0) (i 2) (i 3)) else key (A.lb (ix1 (i 3))) (A.proj 8 (i 0) (i 2) (i 3))
def Args.logs : S2x2x16640x512.Idx → EReal := fun i =>
  if (i 1).val = 0 then forget (A.lf (ix1 (i 3))) (A.proj 7 (i 0) (i 2) (i 3)) else forget (A.lb (ix1 (i 3))) (A.proj 8 (i 0) (i 2) (i 3))

theorem logistic_one : Ideal.div 1 (1 + 0) = 1 := by rw [add_zero]; simp [Ideal.div]
theorem logistic_none : Ideal.div 1 (1 + ⊤) = 0 := by
  rw [EReal.add_top_of_ne_bot (by decide)]; simp [Ideal.div]
theorem logistic_coe (x : ℝ) : Ideal.div 1 (1 + Ideal.exp (x : EReal)) = ((1 / (1 + Real.exp x) : ℝ) : EReal) := by
  have h : (1 + Real.exp x : ℝ) ≠ 0 := by positivity
  rw [Ideal.exp_coe, ← EReal.coe_one, ← EReal.coe_add, Ideal.div_coe h]
  norm_cast
  rw [one_mul]

theorem minus_abs (x : ℝ) : (0 : EReal) - max (x : EReal) (-x) = ((-|x| : ℝ) : EReal) := by
  rw [zero_sub, ← EReal.coe_neg]
  rcases le_total 0 x with h | h
  · rw [max_eq_left (by exact_mod_cast (by linarith : -x ≤ x)), abs_of_nonneg h, EReal.coe_neg]
  · rw [max_eq_right (by exact_mod_cast (by linarith : x ≤ -x)), abs_of_nonpos h, EReal.coe_neg, EReal.coe_neg, EReal.coe_neg]

/-- The logistic of the negation, from the exponential of minus the absolute value. -/
theorem logistic_neg (z : EReal) :
    (if 0 ≤ z then Ideal.exp (0 - max z (-z)) else 1) * Ideal.div 1 (1 + Ideal.exp (0 - max z (-z))) = Ideal.div 1 (1 + Ideal.exp (- -z)) := by
  induction z with
  | bot => simp [logistic_one]
  | top => simp [logistic_none, logistic_one]
  | coe x =>
    rw [minus_abs, logistic_coe, neg_neg, logistic_coe, Ideal.exp_coe]
    by_cases h : 0 ≤ x
    · rw [if_pos (by exact_mod_cast h), ← EReal.coe_mul, abs_of_nonneg h, Real.exp_neg]
      congr 1
      have := Real.exp_pos x
      field_simp
      ring
    · rw [if_neg (by exact_mod_cast h), one_mul, abs_of_nonpos (by linarith), neg_neg]

/-- The logistic, from the exponential of minus the absolute value. -/
theorem logistic_pos (z : EReal) :
    (if 0 ≤ z then 1 else Ideal.exp (0 - max z (-z))) * Ideal.div 1 (1 + Ideal.exp (0 - max z (-z))) = Ideal.div 1 (1 + Ideal.exp (-z)) := by
  induction z with
  | bot => simp [logistic_none, logistic_one]
  | top => simp [logistic_one]
  | coe x =>
    rw [minus_abs, logistic_coe, ← EReal.coe_neg, logistic_coe, Ideal.exp_coe]
    by_cases h : 0 ≤ x
    · rw [if_pos (by exact_mod_cast h), one_mul, abs_of_nonneg h]
    · rw [if_neg (by exact_mod_cast h), ← EReal.coe_mul, abs_of_nonpos (by linarith), neg_neg, Real.exp_neg]
      congr 1
      have := Real.exp_pos x
      field_simp
      try ring
end Cert.InSpec

end
-- ==== Proof.InBeside.lean ====
/- Buffers written piece by piece, and the values of heads that the input projection writes beside columns of ones. -/
module

public import proofs.«01_k».proof.Proof.Gen.InIdeal.Launch
public import proofs.«01_k».proof.Proof.Gen.InIdeal.Skeleton
public import proofs.«01_k».proof.Proof.Gen.InIdeal.Frame
public import Idealize.ShloMosaic.Lib.VecWindow
public import Idealize.ShloMosaic.Lib.ValueLayout
public import Idealize.ShloMosaic.Lib.Pointwise

@[expose] public section

set_option maxRecDepth 16384

noncomputable section

namespace Cert.InProof

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Where every piece written holds the values of `G` at its indices, an index some piece covers reads `G`. -/
theorem read_pieces {sig : RefSig} {κ : Kind} {sp : Space} {s : Shape} {e : EltTy} {Val : EltTy → Type} (v : View sig κ sp s e)
    (f : v.ty.Contents Val) (G : s.Idx → Val e) (y : s.Idx) :
    ∀ L : List (View.Piece Val s e), (∀ p ∈ L, ∀ x, p.2 x = G (p.1.emb x)) → (∃ p ∈ L, y ∈ p.1.set) →
      v.read Val (v.writes Val f L) y = G y := by
  intro L
  induction L with
  | nil => rintro - ⟨_, h, _⟩; cases h
  | cons p L ih =>
    intro hG hy
    obtain ⟨r, w⟩ := p
    by_cases h : y ∈ r.set
    · obtain ⟨x, rfl⟩ : ∃ x, r.emb x = y := r.exists_idx_of_mem h
      rw [View.read_writes_cons_emb]
      exact hG _ List.mem_cons_self x
    · have h' : y ∉ Finset.univ.map r.emb := by rwa [Rect.map_emb_univ]
      rw [View.writes_cons, View.read_slice_write_of_not_mem r _ _ _ h']
      refine ih (fun p hp => hG p (List.mem_cons_of_mem _ hp)) ?_
      obtain ⟨p, hp, hy⟩ := hy
      rcases List.mem_cons.mp hp with rfl | hp
      · exact absurd hy h
      · exact ⟨p, hp, hy⟩

/-- A load of a whole buffer reads its contents. -/
theorem load_all {sp : Space} {s : Shape} {e : EltTy} {m : Memref sig .tc sp s e} (hm : m.IsWhole) (x : s.Idx → Elt F e)
    {off : Fin s.rank → ℕ} (inb : ∀ a, off a + s.size a ≤ s.size a) :
    m.view.readAt (Elt F) (Rect.unit off s.size inb).toLoadRect (hm.unread x) = x :=
  funext fun y => (congrFun (hm.read_unread x) _).trans (congrArg x (Rect.emb_unit_full inb y))

/-- A part of a buffer filled at once. -/
theorem load_filled {sig : RefSig} {κ : Kind} {sp : Space} {s : Shape} {e : EltTy} {Val : EltTy → Type} [∀ e, Nonempty (Val e)] (v : View sig κ sp s e)
    {off : Fin s.rank → ℕ} (inb : ∀ a, off a + s.size a ≤ s.size a) (w : (Rect.unit off s.size inb).shape.Idx → Val e)
    (L : List (View.Piece Val s e)) (B : LoadRect s) : v.readCov (⟨Rect.unit off s.size inb, w⟩ :: L) B = fun y => w (B.idx y) :=
  funext fun y => congrFun (View.read_writes_full v v.junk inb w L) (B.idx y)

/-- Columns of a tile filled at once. -/
theorem part_cols {sig : RefSig} {κ : Kind} {sp : Space} {Val : EltTy → Type} [∀ e, Nonempty (Val e)] (v : View sig κ sp S640x512 .f32)
    {off : Fin 2 → ℕ} (inb : ∀ a, off a + S640x512.size a ≤ S640x512.size a) (z : S640x512.Idx → Val .f32) (L : List (View.Piece Val S640x512 .f32))
    {j : ℕ} (inb' : ∀ a, ![0, j] a + S640x128.size a ≤ S640x512.size a) (hj : j + 128 ≤ 512) (r : Fin 640) (e : Fin 128) :
    v.readCov (⟨Rect.unit (s := S640x512) off S640x512.size inb, z⟩ :: L) (Rect.unit (s := S640x512) ![0, j] S640x128.size inb').toLoadRect (ix2 r e)
      = z (ix2 r ⟨j + e.val, by omega⟩) := by
  rw [load_filled]
  refine congrArg z (funext fun a => Fin.ext ?_)
  match a with
  | ⟨0, _⟩ => show 0 + 1 * r.val = r.val; omega
  | ⟨1, _⟩ => show j + 1 * e.val = j + e.val; omega

/-- Column `n` of heads of values from column `o` on, each beside as many columns of ones. -/
def besideAt (z : FVec F S640x512 .f32) (o n : ℕ) (r : Fin 640) : F .bf16 :=
  if h : n / 128 % 2 = 0 ∧ o + 128 * (n / 256) + n % 128 < 512
  then truncf .bf16 z bitsLt_bf16_f32 (ix2 r ⟨o + 128 * (n / 256) + n % 128, h.2⟩)
  else Scalar.ofBits .bf16 0x3F80#16

/-- Four heads of values, each beside ones. -/
def beside4 (z : FVec F S640x512 .f32) : Vec F S1x640x1024 .bf16 := fun y => besideAt z 0 (y 2).val (y 1)

/-- Two heads of values, from the second half of a tile. -/
def beside2 (z : FVec F S640x512 .f32) : Vec F S1x640x512 .bf16 := fun y => besideAt z 256 (y 2).val (y 1)

/-- A piece of ones. -/
theorem besideAt_ones (z : FVec F S640x512 .f32) (o k : ℕ) (hk : k % 256 = 128) (x : S1x640x128.Idx) (r) :
    k0_pay69 (F := F) x = besideAt z o (k + 1 * (x 2).val) r := by
  have h2 : (x 2).val < 128 := (x 2).isLt
  unfold besideAt k0_pay69 k0_pay67
  rw [dif_neg (by omega)]
  rfl

/-- A piece of values. -/
theorem besideAt_values (z : FVec F S640x512 .f32) (w : Vec F S640x128 .f32) (o k j : ℕ) (hk : k % 256 = 0) (hj : j = o + k / 2) (hb : j + 128 ≤ 512) (x : S1x640x128.Idx) (r : Fin 640)
    (hr : r.val = (x 1).val) (hw : ∀ (r : Fin 640) (e : Fin 128), w (ix2 r e) = z (ix2 r ⟨j + e.val, by omega⟩)) :
    k0_pay68 (F := F) w x = besideAt z o (k + 1 * (x 2).val) r := by
  have h2 : (x 2).val < 128 := (x 2).isLt
  unfold besideAt k0_pay68
  rw [dif_pos ⟨by omega, by omega⟩]
  obtain rfl : r = x 1 := Fin.ext hr
  have e : x = ix3 0 (x 1) (x 2) := by
    funext a
    match a with
    | ⟨0, _⟩ => exact Subsingleton.elim (α := Fin 1) _ _
    | ⟨1, _⟩ => rfl
    | ⟨2, _⟩ => rfl
  refine (congrArg (shapeCast S1x640x128 (truncf .bf16 w bitsLt_bf16_f32) shapeCasts_S640x128_S1x640x128) e).trans ?_
  refine (ValueIdx.shapeCast_ab_1ab_apply _ _ _ _ _).trans ?_
  refine congrArg (FloatOps.truncf _ _) ((hw (x 1) (x 2)).trans (congrArg (fun n => z (ix2 (x 1) n)) (Fin.ext ?_)))
  show j + (x 2).val = o + 128 * ((k + 1 * (x 2).val) / 256) + (k + 1 * (x 2).val) % 128
  omega

end Cert.InProof

end
-- ==== Proof.InRun.lean ====
/- The input projection's body, one column tile at a time: what each of the eleven tiles reads, writes and leaves. -/
module

public import proofs.«01_k».proof.Proof.InBeside

@[expose] public section

set_option maxRecDepth 16384

noncomputable section

namespace Cert.InProof

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the proof owns. -/
abbrev Res (F : FTy → Type) [FloatOps F] := MT nD τ sig Unit (Elt F) ℕ (UR sig nD τ) ℕ

/-- Which column tile each conditional of the body asks for. -/
theorem conds (i : grid0.Coords) :
    (((Scalar.cmpi .ne (Scalar.extui (Scalar.cmpi .eq (BitVec.ofNat 32 (i 2).val) 0#32)) 0#32) = 1#1) ↔ (i 2).val = 0)
    ∧ (k0_cond2 i = 1#1 ↔ (i 2).val < 2) ∧ (k0_cond3 i = 1#1 ↔ (i 2).val = 2)
    ∧ (k0_cond4 i = 1#1 ↔ (i 2).val = 3) ∧ (k0_cond5 i = 1#1 ↔ (i 2).val = 4)
    ∧ (k0_cond6 i = 1#1 ↔ (i 2).val = 5) ∧ (k0_cond7 i = 1#1 ↔ (i 2).val = 6)
    ∧ (k0_cond8 i = 1#1 ↔ (i 2).val = 7) ∧ (k0_cond9 i = 1#1 ↔ (i 2).val = 8)
    ∧ (k0_cond10 i = 1#1 ↔ (i 2).val = 9) ∧ (k0_cond11 i = 1#1 ↔ (i 2).val = 10) := by
  unfold k0_cond2 k0_cond3 k0_cond4 k0_cond5 k0_cond6 k0_cond7 k0_cond8 k0_cond9 k0_cond10 k0_cond11
  have h : (i 2).val < 11 := (i 2).isLt
  generalize (i 2).val = j at h ⊢
  have hj : j = 0 ∨ j = 1 ∨ j = 2 ∨ j = 3 ∨ j = 4 ∨ j = 5 ∨ j = 6 ∨ j = 7 ∨ j = 8 ∨ j = 9 ∨ j = 10 := by omega
  rcases hj with rfl | rfl | rfl | rfl | rfl | rfl | rfl | rfl | rfl | rfl | rfl <;> decide

/-- A proposition where a number fact holds, its negation elsewhere. -/
abbrev holds (q : Prop) [Decidable q] (p : Prop) : Prop := if q then p else ¬p

theorem holds_of {q : Prop} [Decidable q] {p : Prop} (h : p ↔ q) : holds q p := by
  unfold holds; split <;> simp_all

/-- Which conditionals hold at the column tile `k`. -/
theorem taken (i : grid0.Coords) (k : ℕ) (hk : (i 2).val = k) :
    holds (k = 0) ((Scalar.cmpi .ne (Scalar.extui (Scalar.cmpi .eq (BitVec.ofNat 32 (i 2).val) 0#32)) 0#32) = 1#1)
    ∧ holds (k < 2) (k0_cond2 i = 1#1) ∧ holds (k = 2) (k0_cond3 i = 1#1)
    ∧ holds (k = 3) (k0_cond4 i = 1#1) ∧ holds (k = 4) (k0_cond5 i = 1#1)
    ∧ holds (k = 5) (k0_cond6 i = 1#1) ∧ holds (k = 6) (k0_cond7 i = 1#1)
    ∧ holds (k = 7) (k0_cond8 i = 1#1) ∧ holds (k = 8) (k0_cond9 i = 1#1)
    ∧ holds (k = 9) (k0_cond10 i = 1#1) ∧ holds (k = 10) (k0_cond11 i = 1#1) := by
  obtain ⟨c1, c2, c3, c4, c5, c6, c7, c8, c9, c10, c11⟩ := conds i
  subst hk
  exact ⟨holds_of c1, holds_of c2, holds_of c3, holds_of c4, holds_of c5, holds_of c6, holds_of c7, holds_of c8,
    holds_of c9, holds_of c10, holds_of c11⟩

/-- A buffer of this core at some contents. -/
abbrev any (c : Dev nD) {sp : Space} {s : Shape} {e : EltTy} (m : Memref sig .tc sp s e) : sProp (Res F) :=
  iprop(∃ d, owns (c : Thread nD τ) m fullShare d)

/-- A buffer of this core at the contents `d`. -/
abbrev at_ (c : Dev nD) {sp : Space} {s : Shape} {e : EltTy} (m : Memref sig .tc sp s e) (d : s.Idx → Elt F e) : sProp (Res F) :=
  owns (c : Thread nD τ) m fullShare d

theorem at_of_unread (c : Dev nD) {sp : Space} {s : Shape} {e : EltTy} {m : Memref sig .tc sp s e} (hm : m.IsWhole)
    (x : s.Idx → Elt F e) :
    (iprop(m.view.loc (c : Thread nD τ) ↦[m.view.set]{fullShare} hm.unread x) : sProp (Res F))
      ⊢ iprop(∃ f, ⌜m.view.read (Elt F) f = x⌝ ∗ m.view.loc (c : Thread nD τ) ↦[m.view.set]{fullShare} f) := by
  iintro H
  iexists _; isplitr; swap; · iexact H
  ipureintro; exact hm.read_unread _

/-- A load of part of a whole buffer reads its contents there. -/
theorem load_part {sp : Space} {s : Shape} {e : EltTy} {m : Memref sig .tc sp s e} (hm : m.IsWhole) (x : s.Idx → Elt F e)
    (B : LoadRect s) : m.view.readAt (Elt F) B (hm.unread x) = fun y => x (B.idx y) :=
  funext fun y => congrFun (hm.read_unread x) _

theorem any_of (c : Dev nD) {sp : Space} {s : Shape} {e : EltTy} {m : Memref sig .tc sp s e} (f) :
    (iprop(m.view.loc (c : Thread nD τ) ↦[m.view.set]{fullShare} f) : sProp (Res F))
      ⊢ iprop(∃ d, ∃ f, ⌜m.view.read (Elt F) f = d⌝ ∗ m.view.loc (c : Thread nD τ) ↦[m.view.set]{fullShare} f) := by
  iintro H
  iexists _, _; isplitr; swap; · iexact H
  ipureintro; rfl

section Run
variable (c : Dev nD) (i : grid0.Coords)
  (arg3 : Memref sig .tc .vmem S1x640x2048 .f32) (harg3 : arg3.IsWhole)
  (arg4 : Memref sig .tc .vmem S1x2x12288 .f32) (harg4 : arg4.IsWhole)
  (arg5 : Memref sig .tc .vmem S1x2048 .f32) (harg5 : arg5.IsWhole)
  (arg6 : Memref sig .tc .vmem S1x2048x512 .bf16) (harg6 : arg6.IsWhole)
  (arg7 : Memref sig .tc .vmem S640x128 .f32) (harg7 : arg7.IsWhole)
  (arg8 : Memref sig .tc .vmem S640x128 .f32) (harg8 : arg8.IsWhole)
  (arg9 : Memref sig .tc .vmem S640x128 .f32) (harg9 : arg9.IsWhole)
  (arg10 : Memref sig .tc .vmem S640x128 .f32) (harg10 : arg10.IsWhole)
  (arg11 : Memref sig .tc .vmem S640x128 .f32) (harg11 : arg11.IsWhole)
  (arg12 : Memref sig .tc .vmem S640x128 .f32) (harg12 : arg12.IsWhole)
  (arg13 : Memref sig .tc .vmem S1x128 .f32) (harg13 : arg13.IsWhole)
  (arg14 : Memref sig .tc .vmem S1x128 .f32) (harg14 : arg14.IsWhole)
  (arg15 : Memref sig .tc .vmem S1x128 .f32) (harg15 : arg15.IsWhole)
  (arg16 : Memref sig .tc .vmem S1x128 .f32) (harg16 : arg16.IsWhole)
  (arg17 : Memref sig .tc .vmem S1x512 .f32) (harg17 : arg17.IsWhole)
  (arg18 : Memref sig .tc .vmem S1x512 .f32) (harg18 : arg18.IsWhole)
  (arg19 : Memref sig .tc .vmem S1x4x640x128 .bf16) (harg19 : arg19.IsWhole)
  (arg20 : Memref sig .tc .vmem S1x640x256 .bf16) (harg20 : arg20.IsWhole)
  (arg21 : Memref sig .tc .vmem S1x640x512 .bf16) (harg21 : arg21.IsWhole)
  (arg22 : Memref sig .tc .vmem S1x4x640x128 .bf16) (harg22 : arg22.IsWhole)
  (arg23 : Memref sig .tc .vmem S1x640x512 .bf16) (harg23 : arg23.IsWhole)
  (arg24 : Memref sig .tc .vmem S1x640x1024 .bf16) (harg24 : arg24.IsWhole)
  (arg25 : Memref sig .tc .vmem S1x640x512 .bf16) (harg25 : arg25.IsWhole)
  (arg26 : Memref sig .tc .vmem S1x1x640x512 .bf16) (harg26 : arg26.IsWhole)
  (arg27 : Memref sig .tc .vmem S1x1x640x512 .f32) (harg27 : arg27.IsWhole)
  (arg28 : Memref sig .tc .vmem S1x640x512 .bf16) (harg28 : arg28.IsWhole)
  (arg29 : Memref sig .tc .vmem S1x640x512 .bf16) (harg29 : arg29.IsWhole)
  (arg30 : Memref sig .tc .vmem S640x2048 .bf16) (harg30 : arg30.IsWhole)
  (arg31 : Memref sig .tc .vmem S640x512 .f32) (harg31 : arg31.IsWhole)

/-- A row of the two modulation rows' buffer. -/
abbrev rowOf (k : Fin 2) (x1 : Vec F S1x2x12288 .f32) : Vec F S1x1x12288 .f32 :=
  fun y => x1 ((Rect.unit (s := S1x2x12288) ![0, k.val, 0] S1x1x12288.size (by have := k.isLt; intro a; fin_cases a <;> simp <;> omega)).toLoadRect.idx y)

/-- The normalised and modulated rows the body keeps for its column tiles. -/
abbrev rows (i : grid0.Coords) (x0 : Vec F S1x640x2048 .f32) (x1 : Vec F S1x2x12288 .f32) (x2 : Vec F S1x2048 .f32) : Vec F S640x2048 .bf16 :=
  k0_pay75 (k0_pay19 (BitVec.ofNat 32 (i 1).val) x0 (rowOf 0 x1) (rowOf 1 x1) x2) (k0_pay20 (rowOf 1 x1))
    (k0_pay21 (BitVec.ofNat 32 (i 1).val)) (k0_pay22 (rowOf 0 x1))

/-- The printed body on any whole staging buffers. -/
abbrev body : Prog (TpuEff nD τ sig (Elt F) Λ₀ .tc) PUnit :=
  cc0_in_proj (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31

variable {i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31}

set_option maxHeartbeats 4000000 in
/-- Tile 1 writes queries of the grouped heads. -/
theorem run1 (hk : (i 2).val = 1) (x3 : Vec F S1x2048x512 .bf16) (h : Vec F S640x2048 .bf16) (x4 : Vec F S640x128 .f32) (x5 : Vec F S640x128 .f32) (x6 : Vec F S640x128 .f32) (x10 : Vec F S1x128 .f32) (E : Set ℕ) (K : PUnit → sProp (Res F)) :
    iprop(at_ c arg6 x3 ∗ at_ c arg30 h ∗ at_ c arg7 x4 ∗ at_ c arg8 x5 ∗ at_ c arg9 x6 ∗ at_ c arg13 x10 ∗ any c arg31 ∗ any c arg19
        ∗ (iprop(at_ c arg6 x3 ∗ at_ c arg30 h ∗ at_ c arg7 x4 ∗ at_ c arg8 x5 ∗ at_ c arg9 x6 ∗ at_ c arg13 x10 ∗ any c arg31 ∗ any c arg19) -∗ K ⟨⟩))
      ⊢ wp frame (wpE (defs₀ (F := F)) Variants.none c none) E (body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  obtain ⟨n1, n2, n3, n4, n5, n6, n7, n8, n9, n10, n11⟩ := taken i 1 hk
  unfold body
  simp only [cc0_in_proj_eq_skeleton]; unfold cc0_in_proj_skel
  simp only [k0_part17_eq_skeleton, k0_part2_eq_skeleton, k0_part3_eq_skeleton, k0_part4_eq_skeleton]
  unfold any at_ owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg6.eq_unread hf0; obtain rfl := harg30.eq_unread hf1; obtain rfl := harg7.eq_unread hf2; obtain rfl := harg8.eq_unread hf3; obtain rfl := harg9.eq_unread hf4; obtain rfl := harg13.eq_unread hf5
  sl_exec (disch := first | sl_exact n1 | sl_exact n2 | sl_exact n3 | sl_exact n4 | sl_exact n5 | sl_exact n6 | sl_exact n7 | sl_exact n8 | sl_exact n9 | sl_exact n10 | sl_exact n11)
  sl_step
  iapply Hk
  isplitl [H0]; · iapply (at_of_unread c harg6 x3); iexact H0
  isplitl [H1]; · iapply (at_of_unread c harg30 h); iexact H1
  isplitl [H2]; · iapply (at_of_unread c harg7 x4); iexact H2
  isplitl [H3]; · iapply (at_of_unread c harg8 x5); iexact H3
  isplitl [H4]; · iapply (at_of_unread c harg9 x6); iexact H4
  isplitl [H5]; · iapply (at_of_unread c harg13 x10); iexact H5
  isplitl [H6]; · iapply (any_of c _); iexact H6
  iapply (any_of c _); iexact H7

set_option maxHeartbeats 4000000 in
/-- Tile 2 writes keys and values of the grouped heads. -/
theorem run2 (hk : (i 2).val = 2) (x3 : Vec F S1x2048x512 .bf16) (h : Vec F S640x2048 .bf16) (x4 : Vec F S640x128 .f32) (x5 : Vec F S640x128 .f32) (x6 : Vec F S640x128 .f32) (x11 : Vec F S1x128 .f32) (E : Set ℕ) (K : PUnit → sProp (Res F)) :
    iprop(at_ c arg6 x3 ∗ at_ c arg30 h ∗ at_ c arg7 x4 ∗ at_ c arg8 x5 ∗ at_ c arg9 x6 ∗ at_ c arg14 x11 ∗ any c arg31 ∗ any c arg20 ∗ any c arg21
        ∗ (iprop(at_ c arg6 x3 ∗ at_ c arg30 h ∗ at_ c arg7 x4 ∗ at_ c arg8 x5 ∗ at_ c arg9 x6 ∗ at_ c arg14 x11 ∗ any c arg31 ∗ any c arg20 ∗ at_ c arg21 (beside2 (k0_pay76 h x3))) -∗ K ⟨⟩))
      ⊢ wp frame (wpE (defs₀ (F := F)) Variants.none c none) E (body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  obtain ⟨n1, n2, n3, n4, n5, n6, n7, n8, n9, n10, n11⟩ := taken i 2 hk
  unfold body
  simp only [cc0_in_proj_eq_skeleton]; unfold cc0_in_proj_skel
  simp only [k0_part17_eq_skeleton, k0_part5_eq_skeleton, k0_part6_eq_skeleton]
  unfold any at_ owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg6.eq_unread hf0; obtain rfl := harg30.eq_unread hf1; obtain rfl := harg7.eq_unread hf2; obtain rfl := harg8.eq_unread hf3; obtain rfl := harg9.eq_unread hf4; obtain rfl := harg14.eq_unread hf5
  sl_exec (disch := first | sl_exact n1 | sl_exact n2 | sl_exact n3 | sl_exact n4 | sl_exact n5 | sl_exact n6 | sl_exact n7 | sl_exact n8 | sl_exact n9 | sl_exact n10 | sl_exact n11)
  sl_step
  iapply Hk
  isplitl [H0]; · iapply (at_of_unread c harg6 x3); iexact H0
  isplitl [H1]; · iapply (at_of_unread c harg30 h); iexact H1
  isplitl [H2]; · iapply (at_of_unread c harg7 x4); iexact H2
  isplitl [H3]; · iapply (at_of_unread c harg8 x5); iexact H3
  isplitl [H4]; · iapply (at_of_unread c harg9 x6); iexact H4
  isplitl [H5]; · iapply (at_of_unread c harg14 x11); iexact H5
  isplitl [H6]; · iapply (any_of c _); iexact H6
  isplitl [H7]; · iapply (any_of c _); iexact H7
  iexists _; isplitr; swap; · iexact H8
  ipureintro
  funext y
  refine read_pieces _ _ (beside2 (k0_pay76 h x3)) y _ ?_ ?_
  rotate_left
  · exact View.cover_of_tiledL (s := S1x640x512) _ S1x640x128.size (by sl_kernel_rfl) y
  simp only [List.forall_mem_cons]
  clear hk n1 n2 n3 n4 n5 n6 n7 n8 n9 n10 n11
  unfold run2.sl.r_1 run2.sl.v117
  unfold run2.sl.v109 run2.sl.H6_1; rw [load_all, load_all]
  refine ⟨?_, ?_, ?_, ?_, fun _ h => nomatch h⟩
  · exact fun x => besideAt_ones (k0_pay76 h x3) 256 384 (by decide) x _
  · exact fun x => besideAt_values (k0_pay76 h x3) _ 256 256 384 (by decide) (by decide) (by decide) x _ (by show 0 + 1 * _ = _; omega) fun r e => part_cols _ _ _ _ _ (by decide) r e
  · exact fun x => besideAt_ones (k0_pay76 h x3) 256 128 (by decide) x _
  · exact fun x => besideAt_values (k0_pay76 h x3) _ 256 0 256 (by decide) (by decide) (by decide) x _ (by show 0 + 1 * _ = _; omega) fun r e => part_cols _ _ _ _ _ (by decide) r e

set_option maxHeartbeats 4000000 in
/-- Tile 3 writes queries of the differential heads. -/
theorem run3 (hk : (i 2).val = 3) (x3 : Vec F S1x2048x512 .bf16) (h : Vec F S640x2048 .bf16) (x7 : Vec F S640x128 .f32) (x8 : Vec F S640x128 .f32) (x9 : Vec F S640x128 .f32) (x12 : Vec F S1x128 .f32) (E : Set ℕ) (K : PUnit → sProp (Res F)) :
    iprop(at_ c arg6 x3 ∗ at_ c arg30 h ∗ at_ c arg10 x7 ∗ at_ c arg11 x8 ∗ at_ c arg12 x9 ∗ at_ c arg15 x12 ∗ any c arg31 ∗ any c arg22
        ∗ (iprop(at_ c arg6 x3 ∗ at_ c arg30 h ∗ at_ c arg10 x7 ∗ at_ c arg11 x8 ∗ at_ c arg12 x9 ∗ at_ c arg15 x12 ∗ any c arg31 ∗ any c arg22) -∗ K ⟨⟩))
      ⊢ wp frame (wpE (defs₀ (F := F)) Variants.none c none) E (body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  obtain ⟨n1, n2, n3, n4, n5, n6, n7, n8, n9, n10, n11⟩ := taken i 3 hk
  unfold body
  simp only [cc0_in_proj_eq_skeleton]; unfold cc0_in_proj_skel
  simp only [k0_part17_eq_skeleton, k0_part11_eq_skeleton, k0_part7_eq_skeleton, k0_part8_eq_skeleton, k0_part9_eq_skeleton, k0_part10_eq_skeleton]
  unfold any at_ owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg6.eq_unread hf0; obtain rfl := harg30.eq_unread hf1; obtain rfl := harg10.eq_unread hf2; obtain rfl := harg11.eq_unread hf3; obtain rfl := harg12.eq_unread hf4; obtain rfl := harg15.eq_unread hf5
  sl_exec (disch := first | sl_exact n1 | sl_exact n2 | sl_exact n3 | sl_exact n4 | sl_exact n5 | sl_exact n6 | sl_exact n7 | sl_exact n8 | sl_exact n9 | sl_exact n10 | sl_exact n11)
  sl_step
  iapply Hk
  isplitl [H0]; · iapply (at_of_unread c harg6 x3); iexact H0
  isplitl [H1]; · iapply (at_of_unread c harg30 h); iexact H1
  isplitl [H2]; · iapply (at_of_unread c harg10 x7); iexact H2
  isplitl [H3]; · iapply (at_of_unread c harg11 x8); iexact H3
  isplitl [H4]; · iapply (at_of_unread c harg12 x9); iexact H4
  isplitl [H5]; · iapply (at_of_unread c harg15 x12); iexact H5
  isplitl [H6]; · iapply (any_of c _); iexact H6
  iapply (any_of c _); iexact H7

set_option maxHeartbeats 4000000 in
/-- Tile 4 writes keys of the differential heads. -/
theorem run4 (hk : (i 2).val = 4) (x3 : Vec F S1x2048x512 .bf16) (h : Vec F S640x2048 .bf16) (x7 : Vec F S640x128 .f32) (x8 : Vec F S640x128 .f32) (x9 : Vec F S640x128 .f32) (x13 : Vec F S1x128 .f32) (E : Set ℕ) (K : PUnit → sProp (Res F)) :
    iprop(at_ c arg6 x3 ∗ at_ c arg30 h ∗ at_ c arg10 x7 ∗ at_ c arg11 x8 ∗ at_ c arg12 x9 ∗ at_ c arg16 x13 ∗ any c arg31 ∗ any c arg23
        ∗ (iprop(at_ c arg6 x3 ∗ at_ c arg30 h ∗ at_ c arg10 x7 ∗ at_ c arg11 x8 ∗ at_ c arg12 x9 ∗ at_ c arg16 x13 ∗ any c arg31 ∗ any c arg23) -∗ K ⟨⟩))
      ⊢ wp frame (wpE (defs₀ (F := F)) Variants.none c none) E (body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  obtain ⟨n1, n2, n3, n4, n5, n6, n7, n8, n9, n10, n11⟩ := taken i 4 hk
  unfold body
  simp only [cc0_in_proj_eq_skeleton]; unfold cc0_in_proj_skel
  simp only [k0_part17_eq_skeleton, k0_part12_eq_skeleton, k0_part13_eq_skeleton, k0_part14_eq_skeleton, k0_part15_eq_skeleton]
  unfold any at_ owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg6.eq_unread hf0; obtain rfl := harg30.eq_unread hf1; obtain rfl := harg10.eq_unread hf2; obtain rfl := harg11.eq_unread hf3; obtain rfl := harg12.eq_unread hf4; obtain rfl := harg16.eq_unread hf5
  sl_exec (disch := first | sl_exact n1 | sl_exact n2 | sl_exact n3 | sl_exact n4 | sl_exact n5 | sl_exact n6 | sl_exact n7 | sl_exact n8 | sl_exact n9 | sl_exact n10 | sl_exact n11)
  sl_step
  iapply Hk
  isplitl [H0]; · iapply (at_of_unread c harg6 x3); iexact H0
  isplitl [H1]; · iapply (at_of_unread c harg30 h); iexact H1
  isplitl [H2]; · iapply (at_of_unread c harg10 x7); iexact H2
  isplitl [H3]; · iapply (at_of_unread c harg11 x8); iexact H3
  isplitl [H4]; · iapply (at_of_unread c harg12 x9); iexact H4
  isplitl [H5]; · iapply (at_of_unread c harg16 x13); iexact H5
  isplitl [H6]; · iapply (any_of c _); iexact H6
  iapply (any_of c _); iexact H7

set_option maxHeartbeats 4000000 in
/-- Tile 5 writes values of the differential heads. -/
theorem run5 (hk : (i 2).val = 5) (x3 : Vec F S1x2048x512 .bf16) (h : Vec F S640x2048 .bf16) (E : Set ℕ) (K : PUnit → sProp (Res F)) :
    iprop(at_ c arg6 x3 ∗ at_ c arg30 h ∗ any c arg31 ∗ any c arg24
        ∗ (iprop(at_ c arg6 x3 ∗ at_ c arg30 h ∗ any c arg31 ∗ at_ c arg24 (beside4 (k0_pay76 h x3))) -∗ K ⟨⟩))
      ⊢ wp frame (wpE (defs₀ (F := F)) Variants.none c none) E (body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  obtain ⟨n1, n2, n3, n4, n5, n6, n7, n8, n9, n10, n11⟩ := taken i 5 hk
  unfold body
  simp only [cc0_in_proj_eq_skeleton]; unfold cc0_in_proj_skel
  simp only [k0_part17_eq_skeleton, k0_part16_eq_skeleton]
  unfold any at_ owns
  iintro ⟨⟨%f0, %hf0, H0⟩, ⟨%f1, %hf1, H1⟩, ⟨%d2, %f2, -, H2⟩, ⟨%d3, %f3, -, H3⟩, Hk⟩
  obtain rfl := harg6.eq_unread hf0; obtain rfl := harg30.eq_unread hf1
  sl_exec (disch := first | sl_exact n1 | sl_exact n2 | sl_exact n3 | sl_exact n4 | sl_exact n5 | sl_exact n6 | sl_exact n7 | sl_exact n8 | sl_exact n9 | sl_exact n10 | sl_exact n11)
  sl_step
  iapply Hk
  isplitl [H0]; · iapply (at_of_unread c harg6 x3); iexact H0
  isplitl [H1]; · iapply (at_of_unread c harg30 h); iexact H1
  isplitl [H2]; · iapply (any_of c _); iexact H2
  iexists _; isplitr; swap; · iexact H3
  ipureintro
  funext y
  refine read_pieces _ _ (beside4 (k0_pay76 h x3)) y _ ?_ ?_
  rotate_left
  · exact View.cover_of_tiledL (s := S1x640x1024) _ S1x640x128.size (by sl_kernel_rfl) y
  unfold run5.sl.r run5.sl.v65 run5.sl.v57 run5.sl.v49 run5.sl.v41
  simp only [List.forall_mem_cons]
  clear hk n1 n2 n3 n4 n5 n6 n7 n8 n9 n10 n11
  unfold run5.sl.H2_1; rw [load_all, load_all]
  refine ⟨?_, ?_, ?_, ?_, ?_, ?_, ?_, ?_, fun _ h => nomatch h⟩
  · exact fun x => besideAt_ones (k0_pay76 h x3) 0 896 (by decide) x _
  · exact fun x => besideAt_values (k0_pay76 h x3) _ 0 768 384 (by decide) (by decide) (by decide) x _ (by show 0 + 1 * _ = _; omega) fun r e => part_cols _ _ _ _ _ (by decide) r e
  · exact fun x => besideAt_ones (k0_pay76 h x3) 0 640 (by decide) x _
  · exact fun x => besideAt_values (k0_pay76 h x3) _ 0 512 256 (by decide) (by decide) (by decide) x _ (by show 0 + 1 * _ = _; omega) fun r e => part_cols _ _ _ _ _ (by decide) r e
  · exact fun x => besideAt_ones (k0_pay76 h x3) 0 384 (by decide) x _
  · exact fun x => besideAt_values (k0_pay76 h x3) _ 0 256 128 (by decide) (by decide) (by decide) x _ (by show 0 + 1 * _ = _; omega) fun r e => part_cols _ _ _ _ _ (by decide) r e
  · exact fun x => besideAt_ones (k0_pay76 h x3) 0 128 (by decide) x _
  · exact fun x => besideAt_values (k0_pay76 h x3) _ 0 0 0 (by decide) (by decide) (by decide) x _ (by show 0 + 1 * _ = _; omega) fun r e => part_cols _ _ _ _ _ (by decide) r e

set_option maxHeartbeats 4000000 in
/-- Tile 6 writes the recurrence's queries. -/
theorem run6 (hk : (i 2).val = 6) (x3 : Vec F S1x2048x512 .bf16) (h : Vec F S640x2048 .bf16) (E : Set ℕ) (K : PUnit → sProp (Res F)) :
    iprop(at_ c arg6 x3 ∗ at_ c arg30 h ∗ any c arg31 ∗ any c arg25
        ∗ (iprop(at_ c arg6 x3 ∗ at_ c arg30 h ∗ any c arg31 ∗ at_ c arg25 (k0_pay1 (k0_pay76 h x3))) -∗ K ⟨⟩))
      ⊢ wp frame (wpE (defs₀ (F := F)) Variants.none c none) E (body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  obtain ⟨n1, n2, n3, n4, n5, n6, n7, n8, n9, n10, n11⟩ := taken i 6 hk
  unfold body
  simp only [cc0_in_proj_eq_skeleton]; unfold cc0_in_proj_skel
  simp only [k0_part17_eq_skeleton]
  unfold any at_ owns
  iintro ⟨⟨%f0, %hf0, H0⟩, ⟨%f1, %hf1, H1⟩, ⟨%d2, %f2, -, H2⟩, ⟨%d3, %f3, -, H3⟩, Hk⟩
  obtain rfl := harg6.eq_unread hf0; obtain rfl := harg30.eq_unread hf1
  sl_exec (disch := first | sl_exact n1 | sl_exact n2 | sl_exact n3 | sl_exact n4 | sl_exact n5 | sl_exact n6 | sl_exact n7 | sl_exact n8 | sl_exact n9 | sl_exact n10 | sl_exact n11)
  sl_step
  iapply Hk
  isplitl [H0]; · iapply (at_of_unread c harg6 x3); iexact H0
  isplitl [H1]; · iapply (at_of_unread c harg30 h); iexact H1
  isplitl [H2]; · iapply (any_of c _); iexact H2
  iexists _; isplitr; swap; · iexact H3
  ipureintro
  rw [View.read_writes_full]; unfold run6.sl.v40 run6.sl.H2_1; rw [View.readCov_full, load_all, load_all]

set_option maxHeartbeats 4000000 in
/-- Tile 7 writes the forward gates. -/
theorem run7 (hk : (i 2).val = 7) (x3 : Vec F S1x2048x512 .bf16) (h : Vec F S640x2048 .bf16) (x14 : Vec F S1x512 .f32) (E : Set ℕ) (K : PUnit → sProp (Res F)) :
    iprop(at_ c arg6 x3 ∗ at_ c arg30 h ∗ at_ c arg17 x14 ∗ any c arg31 ∗ any c arg26 ∗ any c arg27
        ∗ (iprop(at_ c arg6 x3 ∗ at_ c arg30 h ∗ at_ c arg17 x14 ∗ any c arg31 ∗ at_ c arg26 (k0_pay6 (k0_pay76 h x3) x14) ∗ at_ c arg27 (k0_pay7 (k0_pay76 h x3) x14)) -∗ K ⟨⟩))
      ⊢ wp frame (wpE (defs₀ (F := F)) Variants.none c none) E (body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  obtain ⟨n1, n2, n3, n4, n5, n6, n7, n8, n9, n10, n11⟩ := taken i 7 hk
  unfold body
  simp only [cc0_in_proj_eq_skeleton]; unfold cc0_in_proj_skel
  simp only [k0_part17_eq_skeleton]
  unfold any at_ owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg6.eq_unread hf0; obtain rfl := harg30.eq_unread hf1; obtain rfl := harg17.eq_unread hf2
  sl_exec (disch := first | sl_exact n1 | sl_exact n2 | sl_exact n3 | sl_exact n4 | sl_exact n5 | sl_exact n6 | sl_exact n7 | sl_exact n8 | sl_exact n9 | sl_exact n10 | sl_exact n11)
  sl_step
  iapply Hk
  isplitl [H0]; · iapply (at_of_unread c harg6 x3); iexact H0
  isplitl [H1]; · iapply (at_of_unread c harg30 h); iexact H1
  isplitl [H2]; · iapply (at_of_unread c harg17 x14); iexact H2
  isplitl [H3]; · iapply (any_of c _); iexact H3
  isplitl [H4]
  · iexists _; isplitr; swap; · iexact H4
    ipureintro
    rw [View.read_writes_full]; unfold run7.sl.v40 run7.sl.H3_1; rw [View.readCov_full, load_all, load_all, load_all]
  iexists _; isplitr; swap; · iexact H5
  ipureintro
  rw [View.read_writes_full]; unfold run7.sl.v40 run7.sl.H3_1; rw [View.readCov_full, load_all, load_all, load_all]

set_option maxHeartbeats 4000000 in
/-- Tile 8 writes the backward gates. -/
theorem run8 (hk : (i 2).val = 8) (x3 : Vec F S1x2048x512 .bf16) (h : Vec F S640x2048 .bf16) (x15 : Vec F S1x512 .f32) (E : Set ℕ) (K : PUnit → sProp (Res F)) :
    iprop(at_ c arg6 x3 ∗ at_ c arg30 h ∗ at_ c arg18 x15 ∗ any c arg31 ∗ any c arg26 ∗ any c arg27
        ∗ (iprop(at_ c arg6 x3 ∗ at_ c arg30 h ∗ at_ c arg18 x15 ∗ any c arg31 ∗ at_ c arg26 (k0_pay12 (k0_pay76 h x3) x15) ∗ at_ c arg27 (k0_pay13 (k0_pay76 h x3) x15)) -∗ K ⟨⟩))
      ⊢ wp frame (wpE (defs₀ (F := F)) Variants.none c none) E (body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  obtain ⟨n1, n2, n3, n4, n5, n6, n7, n8, n9, n10, n11⟩ := taken i 8 hk
  unfold body
  simp only [cc0_in_proj_eq_skeleton]; unfold cc0_in_proj_skel
  simp only [k0_part17_eq_skeleton]
  unfold any at_ owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg6.eq_unread hf0; obtain rfl := harg30.eq_unread hf1; obtain rfl := harg18.eq_unread hf2
  sl_exec (disch := first | sl_exact n1 | sl_exact n2 | sl_exact n3 | sl_exact n4 | sl_exact n5 | sl_exact n6 | sl_exact n7 | sl_exact n8 | sl_exact n9 | sl_exact n10 | sl_exact n11)
  sl_step
  iapply Hk
  isplitl [H0]; · iapply (at_of_unread c harg6 x3); iexact H0
  isplitl [H1]; · iapply (at_of_unread c harg30 h); iexact H1
  isplitl [H2]; · iapply (at_of_unread c harg18 x15); iexact H2
  isplitl [H3]; · iapply (any_of c _); iexact H3
  isplitl [H4]
  · iexists _; isplitr; swap; · iexact H4
    ipureintro
    rw [View.read_writes_full]; unfold run8.sl.v40 run8.sl.H3_1; rw [View.readCov_full, load_all, load_all, load_all]
  iexists _; isplitr; swap; · iexact H5
  ipureintro
  rw [View.read_writes_full]; unfold run8.sl.v40 run8.sl.H3_1; rw [View.readCov_full, load_all, load_all, load_all]

set_option maxHeartbeats 4000000 in
/-- Tile 9 writes the recurrence's values. -/
theorem run9 (hk : (i 2).val = 9) (x3 : Vec F S1x2048x512 .bf16) (h : Vec F S640x2048 .bf16) (E : Set ℕ) (K : PUnit → sProp (Res F)) :
    iprop(at_ c arg6 x3 ∗ at_ c arg30 h ∗ any c arg31 ∗ any c arg28
        ∗ (iprop(at_ c arg6 x3 ∗ at_ c arg30 h ∗ any c arg31 ∗ at_ c arg28 (k0_pay14 (k0_pay76 h x3))) -∗ K ⟨⟩))
      ⊢ wp frame (wpE (defs₀ (F := F)) Variants.none c none) E (body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  obtain ⟨n1, n2, n3, n4, n5, n6, n7, n8, n9, n10, n11⟩ := taken i 9 hk
  unfold body
  simp only [cc0_in_proj_eq_skeleton]; unfold cc0_in_proj_skel
  simp only [k0_part17_eq_skeleton]
  unfold any at_ owns
  iintro ⟨⟨%f0, %hf0, H0⟩, ⟨%f1, %hf1, H1⟩, ⟨%d2, %f2, -, H2⟩, ⟨%d3, %f3, -, H3⟩, Hk⟩
  obtain rfl := harg6.eq_unread hf0; obtain rfl := harg30.eq_unread hf1
  sl_exec (disch := first | sl_exact n1 | sl_exact n2 | sl_exact n3 | sl_exact n4 | sl_exact n5 | sl_exact n6 | sl_exact n7 | sl_exact n8 | sl_exact n9 | sl_exact n10 | sl_exact n11)
  sl_step
  iapply Hk
  isplitl [H0]; · iapply (at_of_unread c harg6 x3); iexact H0
  isplitl [H1]; · iapply (at_of_unread c harg30 h); iexact H1
  isplitl [H2]; · iapply (any_of c _); iexact H2
  iexists _; isplitr; swap; · iexact H3
  ipureintro
  rw [View.read_writes_full]; unfold run9.sl.v40 run9.sl.H2_1; rw [View.readCov_full, load_all, load_all]

set_option maxHeartbeats 4000000 in
/-- Tile 10 writes the recurrence's output gates. -/
theorem run10 (hk : (i 2).val = 10) (x3 : Vec F S1x2048x512 .bf16) (h : Vec F S640x2048 .bf16) (E : Set ℕ) (K : PUnit → sProp (Res F)) :
    iprop(at_ c arg6 x3 ∗ at_ c arg30 h ∗ any c arg31 ∗ any c arg29
        ∗ (iprop(at_ c arg6 x3 ∗ at_ c arg30 h ∗ any c arg31 ∗ at_ c arg29 (k0_pay15 (k0_pay76 h x3))) -∗ K ⟨⟩))
      ⊢ wp frame (wpE (defs₀ (F := F)) Variants.none c none) E (body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  obtain ⟨n1, n2, n3, n4, n5, n6, n7, n8, n9, n10, n11⟩ := taken i 10 hk
  unfold body
  simp only [cc0_in_proj_eq_skeleton]; unfold cc0_in_proj_skel
  simp only [k0_part17_eq_skeleton]
  unfold any at_ owns
  iintro ⟨⟨%f0, %hf0, H0⟩, ⟨%f1, %hf1, H1⟩, ⟨%d2, %f2, -, H2⟩, ⟨%d3, %f3, -, H3⟩, Hk⟩
  obtain rfl := harg6.eq_unread hf0; obtain rfl := harg30.eq_unread hf1
  sl_exec (disch := first | sl_exact n1 | sl_exact n2 | sl_exact n3 | sl_exact n4 | sl_exact n5 | sl_exact n6 | sl_exact n7 | sl_exact n8 | sl_exact n9 | sl_exact n10 | sl_exact n11)
  sl_step
  iapply Hk
  isplitl [H0]; · iapply (at_of_unread c harg6 x3); iexact H0
  isplitl [H1]; · iapply (at_of_unread c harg30 h); iexact H1
  isplitl [H2]; · iapply (any_of c _); iexact H2
  iexists _; isplitr; swap; · iexact H3
  ipureintro
  rw [View.read_writes_full]; unfold run10.sl.v40 run10.sl.H2_1; rw [View.readCov_full, load_all, load_all]

set_option maxHeartbeats 4000000 in
/-- Tile 0 normalises and modulates the rows, and writes queries of the grouped heads. -/
theorem run0 (hk : (i 2).val = 0) (x0 : Vec F S1x640x2048 .f32) (x1 : Vec F S1x2x12288 .f32) (x2 : Vec F S1x2048 .f32) (x3 : Vec F S1x2048x512 .bf16) (x4 : Vec F S640x128 .f32) (x5 : Vec F S640x128 .f32) (x6 : Vec F S640x128 .f32) (x10 : Vec F S1x128 .f32) (E : Set ℕ) (K : PUnit → sProp (Res F)) :
    iprop(at_ c arg3 x0 ∗ at_ c arg4 x1 ∗ at_ c arg5 x2 ∗ at_ c arg6 x3 ∗ at_ c arg7 x4 ∗ at_ c arg8 x5 ∗ at_ c arg9 x6 ∗ at_ c arg13 x10 ∗ any c arg30 ∗ any c arg31 ∗ any c arg19
        ∗ (iprop(at_ c arg3 x0 ∗ at_ c arg4 x1 ∗ at_ c arg5 x2 ∗ at_ c arg6 x3 ∗ at_ c arg7 x4 ∗ at_ c arg8 x5 ∗ at_ c arg9 x6 ∗ at_ c arg13 x10 ∗ at_ c arg30 (rows i x0 x1 x2) ∗ any c arg31 ∗ any c arg19) -∗ K ⟨⟩))
      ⊢ wp frame (wpE (defs₀ (F := F)) Variants.none c none) E (body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  obtain ⟨n1, n2, n3, n4, n5, n6, n7, n8, n9, n10, n11⟩ := taken i 0 hk
  unfold body
  simp only [cc0_in_proj_eq_skeleton]; unfold cc0_in_proj_skel
  simp only [k0_part17_eq_skeleton, k0_part1_eq_skeleton, k0_part2_eq_skeleton, k0_part3_eq_skeleton, k0_part4_eq_skeleton]
  unfold any at_ owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg13.eq_unread hf7
  sl_exec (disch := first | sl_exact n1 | sl_exact n2 | sl_exact n3 | sl_exact n4 | sl_exact n5 | sl_exact n6 | sl_exact n7 | sl_exact n8 | sl_exact n9 | sl_exact n10 | sl_exact n11)
  sl_step
  iapply Hk
  isplitl [H0]; · iapply (at_of_unread c harg3 x0); iexact H0
  isplitl [H1]; · iapply (at_of_unread c harg4 x1); iexact H1
  isplitl [H2]; · iapply (at_of_unread c harg5 x2); iexact H2
  isplitl [H3]; · iapply (at_of_unread c harg6 x3); iexact H3
  isplitl [H4]; · iapply (at_of_unread c harg7 x4); iexact H4
  isplitl [H5]; · iapply (at_of_unread c harg8 x5); iexact H5
  isplitl [H6]; · iapply (at_of_unread c harg9 x6); iexact H6
  isplitl [H7]; · iapply (at_of_unread c harg13 x10); iexact H7
  isplitl [H8]
  · iexists _; isplitr; swap; · iexact H8
    ipureintro
    unfold run0.sl.H8_1; rw [View.read_writes_full]; unfold run0.sl.r run0.sl.r_1 run0.sl.r_2 run0.sl.r_3; rw [load_all, load_all]
    rw [load_part, load_part]; rfl
  isplitl [H9]; · iapply (any_of c _); iexact H9
  iapply (any_of c _); iexact H10

end Run
end Cert.InProof
end
end
-- ==== Proof.InBlock.lean ====
/- What the input projection computes at one grid point, element by element on the extended reals. -/
module

public import proofs.«01_k».proof.Proof.InSpec
public import proofs.«01_k».proof.Proof.InRun
public import Idealize.ShloMosaic.Lib.Pointwise

@[expose] public section

set_option maxRecDepth 16384

noncomputable section

namespace Cert.InProof

open Cert.InIdeal Cert.InIdeal.Gen Idealize.ShloMosaic Idealize.ShloMosaic.TcCoe Cert.InSpec
open Cert.OutSpec (normed part rms inv2048_eq one_eq)

/-- Part `k` of the modulation of row `r` of the tile `n` of rows. -/
def modB (n : ℕ) (x1 : Vec Ideal S1x2x12288 .f32) (r : Fin 640) (k : Fin 6) (e : Fin 2048) : EReal :=
  if 640 * n + r.val < 256 then x1 (ix3 0 0 (part k e)) else x1 (ix3 0 1 (part k e))

theorem rowOf_apply (k : Fin 2) (x1 : Vec Ideal S1x2x12288 .f32) (y : Fin 12288) : rowOf k x1 (ix3 0 0 y) = x1 (ix3 0 k y) := by
  refine congrArg x1 ?_
  funext a
  match a with
  | ⟨0, _⟩ => rfl
  | ⟨1, _⟩ => exact Fin.ext (show k.val + 1 * 0 = k.val by omega)
  | ⟨2, _⟩ => exact Fin.ext (show 0 + 1 * y.val = y.val by omega)

theorem mask_apply (n : ℕ) (hn : n < 26) (r : Fin 640) :
    k0_pay16 (BitVec.ofNat 32 n) (ix2 r 0) = if 640 * n + r.val < 256 then 1#1 else 0#1 := by
  have h : ∀ (n : Fin 26) (r : Fin 640), IntOp.cmpi .slt (BitVec.ofNat 32 n.val * 640#32 + BitVec.ofNat 32 r.val) 256#32
      = if 640 * n.val + r.val < 256 then 1#1 else 0#1 := by decide +kernel
  unfold k0_pay16
  pointwise
  exact h ⟨_, hn⟩ r

variable (i : grid0.Coords) (x0 : Vec Ideal S1x640x2048 .f32) (x1 : Vec Ideal S1x2x12288 .f32) (x2 : Vec Ideal S1x2048 .f32)

theorem rows_apply (hi : (i 1).val < 26) (r : Fin 640) (e : Fin 2048) :
    rows i x0 x1 x2 (ix2 r e)
      = normed (fun e => x0 (ix3 0 r e)) (fun e => x2 (ix2 0 e)) (modB (i 1).val x1 r 1) (modB (i 1).val x1 r 0) e := by
  have hm := mask_apply (i 1).val hi r
  have h0 := rowOf_apply 0 x1
  have h1 := rowOf_apply 1 x1
  have p0 : part 0 e = ⟨e.val, by omega⟩ := Fin.ext (by simp [part])
  have p1 : part 1 e = ⟨2048 + e.val, by omega⟩ := Fin.ext (by simp [part])
  unfold rows
  generalize rowOf 0 x1 = y0 at h0 ⊢
  generalize rowOf 1 x1 = y1 at h1 ⊢
  unfold k0_pay75 k0_pay19 k0_pay20 k0_pay21 k0_pay22 k0_pay17 k0_pay18 modB normed rms
  generalize k0_pay16 (BitVec.ofNat 32 (i 1).val) = mask at hm ⊢
  simp only [← h0, ← h1, p0, p1]
  pointwise
  simp only [hm, inv2048_eq, one_eq]
  split_ifs <;> rfl

theorem acc_apply (h : Vec Ideal S640x2048 .bf16) (w : Vec Ideal S1x2048x512 .bf16) (r : Fin 640) (e : Fin 512) :
    k0_pay76 (F := Ideal) h w (ix2 r e) = ∑ j : Fin 2048, h (ix2 r j) * w (ix3 0 j e) := by
  unfold k0_pay76
  pointwise

theorem silu_apply (z : Vec Ideal S640x512 .f32) (r : Fin 640) (e : Fin 512) : k0_pay1 (F := Ideal) z (ix3 0 r e) = silu (z (ix2 r e)) := by
  unfold k0_pay1 silu
  pointwise
  simp only [one_eq, Ideal.ofBits_zero_f32, zero_sub]

theorem gate_apply (z : Vec Ideal S640x512 .f32) (r : Fin 640) (e : Fin 512) : k0_pay15 (F := Ideal) z (ix3 0 r e) = silu (z (ix2 r e)) :=
  silu_apply z r e

theorem value_apply (z : Vec Ideal S640x512 .f32) (r : Fin 640) (e : Fin 512) : k0_pay14 (F := Ideal) z (ix3 0 r e) = z (ix2 r e) := by
  unfold k0_pay14
  pointwise

theorem key_apply (z : Vec Ideal S640x512 .f32) (l : Vec Ideal S1x512 .f32) (r : Fin 640) (e : Fin 512) :
    k0_pay6 (F := Ideal) z l (ix4 0 0 r e) = key (l (ix2 0 e)) (z (ix2 r e)) := by
  unfold k0_pay6 k0_pay5 k0_pay4 k0_pay3 k0_pay2 key
  rw [← logistic_neg]
  pointwise
  rfl

theorem key_backward (z : Vec Ideal S640x512 .f32) (l : Vec Ideal S1x512 .f32) (r : Fin 640) (e : Fin 512) :
    k0_pay12 (F := Ideal) z l (ix4 0 0 r e) = key (l (ix2 0 e)) (z (ix2 r e)) :=
  key_apply z l r e

theorem forget_apply (z : Vec Ideal S640x512 .f32) (l : Vec Ideal S1x512 .f32) (r : Fin 640) (e : Fin 512) :
    k0_pay7 (F := Ideal) z l (ix4 0 0 r e) = forget (l (ix2 0 e)) (z (ix2 r e)) := by
  unfold k0_pay7 k0_pay5 k0_pay4 k0_pay3 k0_pay2 forget
  rw [← logistic_pos]
  pointwise
  rfl

theorem forget_backward (z : Vec Ideal S640x512 .f32) (l : Vec Ideal S1x512 .f32) (r : Fin 640) (e : Fin 512) :
    k0_pay13 (F := Ideal) z l (ix4 0 0 r e) = forget (l (ix2 0 e)) (z (ix2 r e)) :=
  forget_apply z l r e

theorem besideAt_apply (z : Vec Ideal S640x512 .f32) (f : Fin 512 → EReal) (o n : ℕ) (r : Fin 640) (hz : ∀ e, z (ix2 r e) = f e) :
    besideAt (F := Ideal) z o n r = beside f o n := by
  unfold besideAt beside
  split
  · exact hz _
  · exact bf16_one_eq

end Cert.InProof

end
-- ==== Proof.InFrame.lean ====
/- The input projection's pipeline: what each point finds and leaves, and the run of the whole grid. -/
module

public import proofs.«01_k».proof.Proof.InRun
public import Idealize.ShloMosaic.Lib.Pipeline.TableIdle
public import Idealize.ShloMosaic.Lib.Claim

@[expose] public section

set_option maxRecDepth 16384

noncomputable section

namespace Cert.InProof

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]
variable (m : (ℓ : Loc nD τ sig) → Buf (Elt F) ℓ) (ρ : Dev nD → PrngReg)

theorem points : cfg0.N = 572 := N_0

/-- The column tile of a point is its position modulo eleven. -/
theorem tile : ∀ t : Fin cfg0.N, ((grid0.coords t) 2).val = t.val % 11 :=
  (by decide +kernel : ∀ t : Fin grid0.N, ((grid0.coords t) 2).val = t.val % 11)

/-- The point of column tile `k` in the block of rows of point `t`. -/
def base (t : Fin cfg0.N) (k : Fin 11) : Fin cfg0.N :=
  ⟨11 * (t.val / 11) + k.val, by
    have := t.isLt; have := k.isLt; have h : cfg0.N = 572 := points; omega⟩

theorem base_self (t : Fin cfg0.N) (k : Fin 11) (h : t.val % 11 = k.val) : base t k = t :=
  Fin.ext (by show 11 * (t.val / 11) + k.val = t.val; omega)

theorem base_congr (t u : Fin cfg0.N) (k : Fin 11) (h : t.val / 11 = u.val / 11) : base t k = base u k :=
  Fin.ext (by show 11 * (t.val / 11) + k.val = 11 * (u.val / 11) + k.val; rw [h])

/-- The rows a block of points keeps, from the inputs at its first point. -/
def rowsAt (c : Dev nD) (t : Fin cfg0.N) : Vec F S640x2048 .bf16 :=
  rows (grid0.coords (base t 0)) (iblk m c 0 (base t 0)) (iblk m c 1 (base t 0)) (iblk m c 2 (base t 0))

theorem rowsAt_congr (c : Dev nD) (t u : Fin cfg0.N) (h : t.val / 11 = u.val / 11) : rowsAt m c t = rowsAt m c u := by
  unfold rowsAt; rw [base_congr t u 0 h]

/-- The projection of a block's rows on the columns of tile `k`. -/
def accAt (c : Dev nD) (t : Fin cfg0.N) (k : Fin 11) : FVec F S640x512 .f32 :=
  k0_pay76 (rowsAt m c t) (iblk m c 3 (base t k))

theorem accAt_congr (c : Dev nD) (t u : Fin cfg0.N) (k : Fin 11) (h : t.val / 11 = u.val / 11) : accAt m c t k = accAt m c u k := by
  unfold accAt; rw [rowsAt_congr m c t u h, base_congr t u k h]

/-- The keys of a block's gates, forward until tile 7 and backward from tile 8 on. -/
def gateKeys (c : Dev nD) (t : Fin cfg0.N) : Vec F S1x1x640x512 .bf16 :=
  if t.val % 11 ≤ 7 then k0_pay6 (accAt m c t 7) (iblk m c 14 (base t 7)) else k0_pay12 (accAt m c t 8) (iblk m c 15 (base t 8))

theorem gateKeys_same (c : Dev nD) (t u : Fin cfg0.N) (h : t.val / 11 = u.val / 11) (ht : 8 ≤ t.val % 11) (hu : 8 ≤ u.val % 11) :
    gateKeys m c t = gateKeys m c u := by
  unfold gateKeys; rw [if_neg (by omega), if_neg (by omega), accAt_congr m c t u 8 h, base_congr t u 8 h]

theorem gateKeys_forward (c : Dev nD) (t : Fin cfg0.N) (h : t.val % 11 = 7) :
    gateKeys m c t = k0_pay6 (k0_pay76 (rowsAt m c t) (iblk m c 3 t)) (iblk m c 14 t) := by
  unfold gateKeys accAt; rw [if_pos (by omega), base_self t 7 h]

theorem gateKeys_backward (c : Dev nD) (t : Fin cfg0.N) (h : t.val % 11 = 8) :
    gateKeys m c t = k0_pay12 (k0_pay76 (rowsAt m c t) (iblk m c 3 t)) (iblk m c 15 t) := by
  unfold gateKeys accAt; rw [if_neg (by omega), base_self t 8 h]

/-- The logarithms of a block's gates, forward until tile 7 and backward from tile 8 on. -/
def gateLogs (c : Dev nD) (t : Fin cfg0.N) : Vec F S1x1x640x512 .f32 :=
  if t.val % 11 ≤ 7 then k0_pay7 (accAt m c t 7) (iblk m c 14 (base t 7)) else k0_pay13 (accAt m c t 8) (iblk m c 15 (base t 8))

theorem gateLogs_same (c : Dev nD) (t u : Fin cfg0.N) (h : t.val / 11 = u.val / 11) (ht : 8 ≤ t.val % 11) (hu : 8 ≤ u.val % 11) :
    gateLogs m c t = gateLogs m c u := by
  unfold gateLogs; rw [if_neg (by omega), if_neg (by omega), accAt_congr m c t u 8 h, base_congr t u 8 h]

theorem gateLogs_forward (c : Dev nD) (t : Fin cfg0.N) (h : t.val % 11 = 7) :
    gateLogs m c t = k0_pay7 (k0_pay76 (rowsAt m c t) (iblk m c 3 t)) (iblk m c 14 t) := by
  unfold gateLogs accAt; rw [if_pos (by omega), base_self t 7 h]

theorem gateLogs_backward (c : Dev nD) (t : Fin cfg0.N) (h : t.val % 11 = 8) :
    gateLogs m c t = k0_pay13 (k0_pay76 (rowsAt m c t) (iblk m c 3 t)) (iblk m c 15 t) := by
  unfold gateLogs accAt; rw [if_neg (by omega), base_self t 8 h]

/-- What the kept rows' buffer holds before position `n`: from a block's second point on, the block's rows. -/
def keeps (c : Dev nD) (n : ℕ) (d : Vec F S640x2048 .bf16) : Prop :=
  ∀ hn : n < cfg0.N, n % 11 ≠ 0 → d = rowsAt m c ⟨n, hn⟩

theorem keeps_next (c : Dev nD) (t : Fin cfg0.N) : keeps m c (t.val + 1) (rowsAt m c t) := fun hn h =>
  rowsAt_congr m c t ⟨t.val + 1, hn⟩ (by show t.val / 11 = (t.val + 1) / 11; omega)

/-- The outputs nothing is said of. -/
abbrev forgotten : Fin 27 → Bool := fun
  | 0 => false
  | 1 => false
  | 2 => false
  | 3 => false
  | 4 => false
  | 5 => false
  | 6 => false
  | 7 => false
  | 8 => false
  | 9 => false
  | 10 => false
  | 11 => false
  | 12 => false
  | 13 => false
  | 14 => false
  | 15 => false
  | 16 => true
  | 17 => true
  | 18 => false
  | 19 => true
  | 20 => true
  | 21 => false
  | 22 => false
  | 23 => false
  | 24 => false
  | 25 => false
  | 26 => false
  | ⟨_ + 27, h⟩ => absurd h (Nat.not_lt.2 (Nat.le_add_left _ _))

/-- The pipeline's proof data: inputs stay, the claimed outputs hold their tile's value, the kept rows are tracked. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => fun _ => Classical.choice inferInstance
    | ⟨17, _⟩ => fun _ => Classical.choice inferInstance
    | ⟨18, _⟩ => beside2 (accAt m c t 2)
    | ⟨19, _⟩ => fun _ => Classical.choice inferInstance
    | ⟨20, _⟩ => fun _ => Classical.choice inferInstance
    | ⟨21, _⟩ => beside4 (accAt m c t 5)
    | ⟨22, _⟩ => k0_pay1 (accAt m c t 6)
    | ⟨23, _⟩ => gateKeys m c t
    | ⟨24, _⟩ => gateLogs m c t
    | ⟨25, _⟩ => k0_pay14 (accAt m c t 9)
    | ⟨26, _⟩ => k0_pay15 (accAt m c t 10)
    | ⟨_ + 27, h⟩ => absurd h (Nat.not_lt.2 (Nat.le_add_left _ _))
  Φ n := iprop(((∃ d, ⌜keeps m c n.val d⌝ ∗ owns (c : Thread nD τ) (Memref.whole cc0_scratch0) fullShare d)
    ∗ (∃ d, owns (c : Thread nD τ) (Memref.whole cc0_scratch1) fullShare d)) ∗ (∃ r, prngReg c r))
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_18 (c : Dev nD) (t : Fin cfg0.N) : (dats m 0 c).after 18 t = beside2 (accAt m c t 2) := by dsimp only [dats]
theorem after_21 (c : Dev nD) (t : Fin cfg0.N) : (dats m 0 c).after 21 t = beside4 (accAt m c t 5) := by dsimp only [dats]
theorem after_23 (c : Dev nD) (t : Fin cfg0.N) : (dats m 0 c).after 23 t = gateKeys m c t := by dsimp only [dats]
theorem after_24 (c : Dev nD) (t : Fin cfg0.N) : (dats m 0 c).after 24 t = gateLogs m c t := by dsimp only [dats]
theorem after_22 (c : Dev nD) (t : Fin cfg0.N) : (dats m 0 c).after 22 t = k0_pay1 (accAt m c t 6) := by dsimp only [dats]
theorem after_25 (c : Dev nD) (t : Fin cfg0.N) : (dats m 0 c).after 25 t = k0_pay14 (accAt m c t 9) := by dsimp only [dats]
theorem after_26 (c : Dev nD) (t : Fin cfg0.N) : (dats m 0 c).after 26 t = k0_pay15 (accAt m c t 10) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d

/-- A claimed output: the column tiles `l` and `k` of each block write it, and after each it is written back, the second time at
the block's last point. -/
structure Once (c : Dev nD) (w : Fin cfg0.W) (l k : Fin 11) : Prop where
  isOut : (cfg0.win w).isOut = true
  uncut : ∀ (i : cfg0.grid.Coords) a, (cfg0.win w).clip i a = none
  le : l ≤ k
  idle : ∀ t : Fin cfg0.N, cfg0.idle w (cfg0.grid.coords t) = !decide (t.val % 11 = l.val ∨ t.val % 11 = k.val)
  flush : ∀ t : Fin cfg0.N, (cfg0.win w).flush t = decide (t.val % 11 = 10 ∨ (t.val % 11 = l.val ∧ l.val ≠ k.val))
  same : ∀ t u : Fin cfg0.N, t.val / 11 = u.val / 11 → k.val ≤ t.val % 11 → k.val ≤ u.val % 11 → (dats m 0 c).after w t = (dats m 0 c).after w u

/-- What the body finds in a claimed output's buffer: anything until its last tile is written, that tile from then on. -/
theorem Once.before {c : Dev nD} {w : Fin cfg0.W} {l k : Fin 11} (o : Once m c w l k) (t : Fin cfg0.N) (h : k.val < t.val % 11) (d) :
    (dats m 0 c).before w t d = (dats m 0 c).after w t := by
  have le : l.val ≤ k.val := o.le
  have fr : ∀ n, n ≤ cfg0.N → cfg0.fresh w n = decide (n % 11 ≤ k.val) :=
    Cfg.fresh_tab cfg0 w (fun n => decide (n % 11 ≤ k.val)) (by simp) fun u => by
      rw [o.flush, o.idle, Bool.eq_iff_iff]
      have := k.isLt
      simp only [Bool.or_eq_true, Bool.and_eq_true, Bool.not_eq_true', decide_eq_true_eq, decide_eq_false_iff_not]
      omega
  rw [(dats m 0 c).before_out_traj w o.isOut o.uncut (fun u hu hi hf => by
      rw [fr _ u.isLt.le, decide_eq_false_iff_not] at hf
      exact o.same u _ (by show u.val / 11 = (u.val - 1) / 11; omega) (by omega) (by show k.val ≤ (u.val - 1) % 11; omega)) t.val t rfl d,
    fr _ t.isLt.le, decide_eq_false (by omega), if_neg Bool.false_ne_true]
  exact o.same _ t (by show (t.val - 1) / 11 = t.val / 11; omega) (by show k.val ≤ (t.val - 1) % 11; omega) (by omega)

/-- A point of another tile leaves a claimed output's buffer as it finds it. -/
theorem Once.pass {c : Dev nD} {w : Fin cfg0.W} {l k : Fin 11} (o : Once m c w l k) (t : Fin cfg0.N) (hl : t.val % 11 ≠ l.val) (h : t.val % 11 ≠ k.val) :
    iprop(∃ d, owns (c : Thread nD τ) ((cfg0.win w).stage (cfg0.slots t w)) fullShare ((dats m 0 c).before w t d))
      ⊢ ((dats m 0 c).leavesExact w t : sProp (Res F)) := by
  unfold Dat.leavesExact
  rw [o.idle, o.flush, decide_eq_false (show ¬(t.val % 11 = l.val ∨ t.val % 11 = k.val) by omega)]
  by_cases h10 : t.val % 11 = 10
  · rw [decide_eq_true (Or.inl h10)]; simp only [Bool.not_false]
    iintro ⟨%d, H⟩
    rw [o.before m t (by have := k.isLt; omega) d]
    iexact H
  · rw [decide_eq_false (by omega)]; exact .rfl

/-- A point of its tiles leaves a claimed output's buffer at its value. -/
theorem Once.store {c : Dev nD} {w : Fin cfg0.W} {l k : Fin 11} (o : Once m c w l k) (t : Fin cfg0.N) (h : t.val % 11 = l.val ∨ t.val % 11 = k.val) :
    owns (c : Thread nD τ) ((cfg0.win w).stage (cfg0.slots t w)) fullShare ((dats m 0 c).after w t)
      ⊢ ((dats m 0 c).leavesExact w t : sProp (Res F)) := by
  unfold Dat.leavesExact
  rw [o.idle, decide_eq_true h]
  exact .rfl

theorem flush_of {w : Fin cfg0.W} (k : Fin 11) (h : ∀ t : Fin cfg0.N, (cfg0.win w).flush t = true ↔ t.val % 11 = 10) (t : Fin cfg0.N) :
    (cfg0.win w).flush t = decide (t.val % 11 = 10 ∨ (t.val % 11 = k.val ∧ k.val ≠ k.val)) := by
  rw [Bool.eq_iff_iff, h, decide_eq_true_eq]; omega

theorem idle_of {p : Prop} [Decidable p] {b : Bool} {q : Prop} [Decidable q] (hb : b = !decide p) (h : p ↔ q) : b = !decide (q ∨ q) := by
  rw [hb, decide_eq_decide.mpr (h.trans (or_self_iff).symm)]

theorem idle_two {p p' : Prop} [Decidable p] [Decidable p'] {b : Bool} {q q' : Prop} [Decidable q] [Decidable q'] (hb : b = (!decide p && !decide p'))
    (h : p ↔ q) (h' : p' ↔ q') : b = !decide (q ∨ q') := by
  rw [hb, ← Bool.not_or, ← Bool.decide_or, decide_eq_decide.mpr (or_congr h h')]

theorem flush_gates : ∀ t : Fin cfg0.N, win0_23.flush t = decide (t.val % 11 = 10 ∨ (t.val % 11 = 7 ∧ 7 ≠ 8))
    ∧ win0_24.flush t = decide (t.val % 11 = 10 ∨ (t.val % 11 = 7 ∧ 7 ≠ 8)) :=
  (by decide +kernel : ∀ t : Fin grid0.N, _)

/-- The conditionals, read at a point. -/
theorem asks (t : Fin cfg0.N) : (k0_cond3 (grid0.coords t) = 1#1 ↔ t.val % 11 = 2) ∧ (k0_cond6 (grid0.coords t) = 1#1 ↔ t.val % 11 = 5)
    ∧ (k0_cond8 (grid0.coords t) = 1#1 ↔ t.val % 11 = 7) ∧ (k0_cond9 (grid0.coords t) = 1#1 ↔ t.val % 11 = 8) ∧ (k0_cond7 (grid0.coords t) = 1#1 ↔ t.val % 11 = 6) ∧ (k0_cond10 (grid0.coords t) = 1#1 ↔ t.val % 11 = 9)
    ∧ (k0_cond11 (grid0.coords t) = 1#1 ↔ t.val % 11 = 10) := by
  obtain ⟨-, -, c3, -, -, c6, c7, c8, c9, c10, c11⟩ := conds (grid0.coords t)
  rw [c3, c6, c7, c8, c9, c10, c11, tile]; exact ⟨.rfl, .rfl, .rfl, .rfl, .rfl, .rfl, .rfl⟩

theorem once_18 (c : Dev nD) : Once m c 18 2 2 where
  isOut := rfl
  le := le_rfl
  uncut := fun _ _ => rfl
  idle := fun t => idle_of (p := k0_cond3 (grid0.coords t) = 1#1) rfl (asks t).1
  flush := flush_of 2 flush0_18
  same := fun t u h _ _ => by rw [after_18, after_18, accAt_congr m c t u 2 h]

theorem once_21 (c : Dev nD) : Once m c 21 5 5 where
  isOut := rfl
  le := le_rfl
  uncut := fun _ _ => rfl
  idle := fun t => idle_of (p := k0_cond6 (grid0.coords t) = 1#1) rfl (asks t).2.1
  flush := flush_of 5 flush0_21
  same := fun t u h _ _ => by rw [after_21, after_21, accAt_congr m c t u 5 h]

theorem once_22 (c : Dev nD) : Once m c 22 6 6 where
  isOut := rfl
  le := le_rfl
  uncut := fun _ _ => rfl
  idle := fun t => idle_of (p := k0_cond7 (grid0.coords t) = 1#1) rfl (asks t).2.2.2.2.1
  flush := flush_of 6 flush0_22
  same := fun t u h _ _ => by rw [after_22, after_22, accAt_congr m c t u 6 h]

theorem once_25 (c : Dev nD) : Once m c 25 9 9 where
  isOut := rfl
  le := le_rfl
  uncut := fun _ _ => rfl
  idle := fun t => idle_of (p := k0_cond10 (grid0.coords t) = 1#1) rfl (asks t).2.2.2.2.2.1
  flush := flush_of 9 flush0_25
  same := fun t u h _ _ => by rw [after_25, after_25, accAt_congr m c t u 9 h]

theorem once_26 (c : Dev nD) : Once m c 26 10 10 where
  isOut := rfl
  le := le_rfl
  uncut := fun _ _ => rfl
  idle := fun t => idle_of (p := k0_cond11 (grid0.coords t) = 1#1) rfl (asks t).2.2.2.2.2.2
  flush := flush_of 10 flush0_26
  same := fun t u h _ _ => by rw [after_26, after_26, accAt_congr m c t u 10 h]

theorem once_23 (c : Dev nD) : Once m c 23 7 8 where
  isOut := rfl
  uncut := fun _ _ => rfl
  le := by decide
  idle := fun t => idle_two (p := k0_cond8 (grid0.coords t) = 1#1) (p' := k0_cond9 (grid0.coords t) = 1#1) rfl (asks t).2.2.1 (asks t).2.2.2.1
  flush := fun t => (flush_gates t).1
  same := fun t u h ht hu => by rw [after_23, after_23, gateKeys_same m c t u h ht hu]

theorem once_24 (c : Dev nD) : Once m c 24 7 8 where
  isOut := rfl
  uncut := fun _ _ => rfl
  le := by decide
  idle := fun t => idle_two (p := k0_cond8 (grid0.coords t) = 1#1) (p' := k0_cond9 (grid0.coords t) = 1#1) rfl (asks t).2.2.1 (asks t).2.2.2.1
  flush := fun t => (flush_gates t).2
  same := fun t u h ht hu => by rw [after_24, after_24, gateLogs_same m c t u h ht hu]

/-- What the body is called with at point `t`, buffer by buffer. -/
def bodyPre (c : Dev nD) (t : Fin cfg0.N) : sProp (Res F) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare d)
    ∗ (∃ d, owns (c : Thread nD τ) (win0_17.stage (cfg0.slots t 17)) fullShare d)
    ∗ (∃ d, owns (c : Thread nD τ) (win0_18.stage (cfg0.slots t 18)) fullShare ((dats m 0 c).before 18 t d))
    ∗ (∃ d, owns (c : Thread nD τ) (win0_19.stage (cfg0.slots t 19)) fullShare d)
    ∗ (∃ d, owns (c : Thread nD τ) (win0_20.stage (cfg0.slots t 20)) fullShare d)
    ∗ (∃ d, owns (c : Thread nD τ) (win0_21.stage (cfg0.slots t 21)) fullShare ((dats m 0 c).before 21 t d))
    ∗ (∃ d, owns (c : Thread nD τ) (win0_22.stage (cfg0.slots t 22)) fullShare ((dats m 0 c).before 22 t d))
    ∗ (∃ d, owns (c : Thread nD τ) (win0_23.stage (cfg0.slots t 23)) fullShare ((dats m 0 c).before 23 t d))
    ∗ (∃ d, owns (c : Thread nD τ) (win0_24.stage (cfg0.slots t 24)) fullShare ((dats m 0 c).before 24 t d))
    ∗ (∃ d, owns (c : Thread nD τ) (win0_25.stage (cfg0.slots t 25)) fullShare ((dats m 0 c).before 25 t d))
    ∗ (∃ d, owns (c : Thread nD τ) (win0_26.stage (cfg0.slots t 26)) fullShare ((dats m 0 c).before 26 t d)))

/-- What it returns. -/
def bodyPost (c : Dev nD) (t : Fin cfg0.N) : sProp (Res F) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t)
    ∗ (∃ d, owns (c : Thread nD τ) (win0_16.stage (cfg0.slots t 16)) fullShare d)
    ∗ (∃ d, owns (c : Thread nD τ) (win0_17.stage (cfg0.slots t 17)) fullShare d)
    ∗ (dats m 0 c).leavesExact 18 t
    ∗ (∃ d, owns (c : Thread nD τ) (win0_19.stage (cfg0.slots t 19)) fullShare d)
    ∗ (∃ d, owns (c : Thread nD τ) (win0_20.stage (cfg0.slots t 20)) fullShare d)
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t)

/-- The invariant at a position: the kept rows' buffer, the accumulator and the generator register. -/
def carried (c : Dev nD) (n : ℕ) : sProp (Res F) :=
  iprop(((∃ d, ⌜keeps m c n d⌝ ∗ owns (c : Thread nD τ) (Memref.whole cc0_scratch0) fullShare d)
    ∗ (∃ d, owns (c : Thread nD τ) (Memref.whole cc0_scratch1) fullShare d)) ∗ (∃ r, prngReg c r))

set_option maxHeartbeats 4000000 in
/-- The body at any point of the grid, by its column tile. -/
theorem sound_body (c : Dev nD) (t : Fin cfg0.N) :
    bodyPre m c t ⊢ wp frame (wpE (defs₀ (F := F)) Variants.none c none) Set.univ (bodyAt0 t) (fun _ => bodyPost m c t) := by
  have hT := tile t
  have hlt : t.val % 11 < 11 := Nat.mod_lt _ (by decide)
  unfold bodyPre bodyPost bodyAt0
  simp only [before_0, after_0, before_1, after_1, before_2, after_2, before_3, after_3, before_4, after_4, before_5, after_5, before_6, after_6, before_7, after_7, before_8, after_8, before_9, after_9, before_10, after_10, before_11, after_11, before_12, after_12, before_13, after_13, before_14, after_14, before_15, after_15]
  rw [show (dats m 0 c).Φ t.succ = carried m c (t.val + 1) from rfl, show (dats m 0 c).Φ t.castSucc = carried m c t.val from rfl,
    show (dats m 0 c).owesAt () t.succ = (dats m 0 c).owesAt () t.castSucc from rfl]
  unfold carried
  iintro ⟨⟨⟨⟨%e, %he, HS⟩, HT⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, H16, H17, H18, H19, H20, H21, H22, H23, H24, H25, H26⟩
  obtain h | h | h | h | h | h | h | h | h | h | h : t.val % 11 = 0 ∨ t.val % 11 = 1 ∨ t.val % 11 = 2 ∨ t.val % 11 = 3 ∨ t.val % 11 = 4
      ∨ t.val % 11 = 5 ∨ t.val % 11 = 6 ∨ t.val % 11 = 7 ∨ t.val % 11 = 8 ∨ t.val % 11 = 9 ∨ t.val % 11 = 10 := by omega
  have hr : rows (grid0.coords t) (iblk m c 0 t) (iblk m c 1 t) (iblk m c 2 t) = rowsAt m c t := by
    unfold rowsAt; rw [base_self t 0 h]
  iapply (run0 c (hT.trans h) (iblk m c 0 t) (iblk m c 1 t) (iblk m c 2 t) (iblk m c 3 t) (iblk m c 4 t) (iblk m c 5 t) (iblk m c 6 t) (iblk m c 10 t) Set.univ _)
  iframe H0 H1 H2 H3 H4 H5 H6 H10 HT H16
  isplitl [HS]; · iexists _; iexact HS
  rw [hr]
  iintro ⟨H0, H1, H2, H3, H4, H5, H6, H10, HS, HT, H16⟩
  rotate_left
  obtain rfl := he t.isLt (by omega)
  iapply (run1 c (hT.trans h) (iblk m c 3 t) (rowsAt m c t) (iblk m c 4 t) (iblk m c 5 t) (iblk m c 6 t) (iblk m c 10 t) Set.univ _)
  iframe H3 HS H4 H5 H6 H10 HT H16
  iintro ⟨H3, HS, H4, H5, H6, H10, HT, H16⟩
  rotate_left
  obtain rfl := he t.isLt (by omega)
  iapply (run2 c (hT.trans h) (iblk m c 3 t) (rowsAt m c t) (iblk m c 4 t) (iblk m c 5 t) (iblk m c 6 t) (iblk m c 11 t) Set.univ _)
  iframe H3 HS H4 H5 H6 H11 HT H17
  isplitl [H18]; · icases H18 with ⟨%z, H18⟩; iexists _; iexact H18
  iintro ⟨H3, HS, H4, H5, H6, H11, HT, H17, H18⟩
  rotate_left
  obtain rfl := he t.isLt (by omega)
  iapply (run3 c (hT.trans h) (iblk m c 3 t) (rowsAt m c t) (iblk m c 7 t) (iblk m c 8 t) (iblk m c 9 t) (iblk m c 12 t) Set.univ _)
  iframe H3 HS H7 H8 H9 H12 HT H19
  iintro ⟨H3, HS, H7, H8, H9, H12, HT, H19⟩
  rotate_left
  obtain rfl := he t.isLt (by omega)
  iapply (run4 c (hT.trans h) (iblk m c 3 t) (rowsAt m c t) (iblk m c 7 t) (iblk m c 8 t) (iblk m c 9 t) (iblk m c 13 t) Set.univ _)
  iframe H3 HS H7 H8 H9 H13 HT H20
  iintro ⟨H3, HS, H7, H8, H9, H13, HT, H20⟩
  rotate_left
  obtain rfl := he t.isLt (by omega)
  iapply (run5 c (hT.trans h) (iblk m c 3 t) (rowsAt m c t)  Set.univ _)
  iframe H3 HS HT
  isplitl [H21]; · icases H21 with ⟨%z, H21⟩; iexists _; iexact H21
  iintro ⟨H3, HS, HT, H21⟩
  rotate_left
  obtain rfl := he t.isLt (by omega)
  iapply (run6 c (hT.trans h) (iblk m c 3 t) (rowsAt m c t)  Set.univ _)
  iframe H3 HS HT
  isplitl [H22]; · icases H22 with ⟨%z, H22⟩; iexists _; iexact H22
  iintro ⟨H3, HS, HT, H22⟩
  rotate_left
  obtain rfl := he t.isLt (by omega)
  iapply (run7 c (hT.trans h) (iblk m c 3 t) (rowsAt m c t) (iblk m c 14 t) Set.univ _)
  iframe H3 HS H14 HT
  isplitl [H23]; · icases H23 with ⟨%z, H23⟩; iexists _; iexact H23
  isplitl [H24]; · icases H24 with ⟨%z, H24⟩; iexists _; iexact H24
  iintro ⟨H3, HS, H14, HT, H23, H24⟩
  rotate_left
  obtain rfl := he t.isLt (by omega)
  iapply (run8 c (hT.trans h) (iblk m c 3 t) (rowsAt m c t) (iblk m c 15 t) Set.univ _)
  iframe H3 HS H15 HT
  isplitl [H23]; · icases H23 with ⟨%z, H23⟩; iexists _; iexact H23
  isplitl [H24]; · icases H24 with ⟨%z, H24⟩; iexists _; iexact H24
  iintro ⟨H3, HS, H15, HT, H23, H24⟩
  rotate_left
  obtain rfl := he t.isLt (by omega)
  iapply (run9 c (hT.trans h) (iblk m c 3 t) (rowsAt m c t)  Set.univ _)
  iframe H3 HS HT
  isplitl [H25]; · icases H25 with ⟨%z, H25⟩; iexists _; iexact H25
  iintro ⟨H3, HS, HT, H25⟩
  rotate_left
  obtain rfl := he t.isLt (by omega)
  iapply (run10 c (hT.trans h) (iblk m c 3 t) (rowsAt m c t)  Set.univ _)
  iframe H3 HS HT
  isplitl [H26]; · icases H26 with ⟨%z, H26⟩; iexists _; iexact H26
  iintro ⟨H3, HS, HT, H26⟩
  rotate_left
  all_goals
    isplitl [HS HT Hg]
    · iframe HT Hg
      iexists _; iframe HS
      ipureintro; exact keeps_next m c t
    iframe Ho H0 H1 H2 H3 H4 H5 H6 H7 H8 H9 H10 H11 H12 H13 H14 H15 H16 H17 H19 H20
    isplitl [H18]
    · first
        | iapply ((once_18 m c).pass m t (by rw [h]; decide) (by rw [h]; decide)); iexact H18
        | iapply ((once_18 m c).store m t (.inr h)); rw [after_18]; unfold accAt; rw [base_self t 2 h]; iexact H18
    isplitl [H21]
    · first
        | iapply ((once_21 m c).pass m t (by rw [h]; decide) (by rw [h]; decide)); iexact H21
        | iapply ((once_21 m c).store m t (.inr h)); rw [after_21]; unfold accAt; rw [base_self t 5 h]; iexact H21
    isplitl [H22]
    · first
        | iapply ((once_22 m c).pass m t (by rw [h]; decide) (by rw [h]; decide)); iexact H22
        | iapply ((once_22 m c).store m t (.inr h)); rw [after_22]; unfold accAt; rw [base_self t 6 h]; iexact H22
    isplitl [H23]
    · first
        | iapply ((once_23 m c).pass m t (by rw [h]; decide) (by rw [h]; decide)); iexact H23
        | iapply ((once_23 m c).store m t (.inl h)); rw [after_23, gateKeys_forward m c t h]; iexact H23
        | iapply ((once_23 m c).store m t (.inr h)); rw [after_23, gateKeys_backward m c t h]; iexact H23
    isplitl [H24]
    · first
        | iapply ((once_24 m c).pass m t (by rw [h]; decide) (by rw [h]; decide)); iexact H24
        | iapply ((once_24 m c).store m t (.inl h)); rw [after_24, gateLogs_forward m c t h]; iexact H24
        | iapply ((once_24 m c).store m t (.inr h)); rw [after_24, gateLogs_backward m c t h]; iexact H24
    isplitl [H25]
    · first
        | iapply ((once_25 m c).pass m t (by rw [h]; decide) (by rw [h]; decide)); iexact H25
        | iapply ((once_25 m c).store m t (.inr h)); rw [after_25]; unfold accAt; rw [base_self t 9 h]; iexact H25
    first
      | iapply ((once_26 m c).pass m t (by rw [h]; decide) (by rw [h]; decide)); iexact H26
      | iapply ((once_26 m c).store m t (.inr h)); rw [after_26]; unfold accAt; rw [base_self t 10 h]; iexact H26

theorem defs_row (t : Fin cfg0.N) :
    defs₀ (F := F) .tc cfg0.body (cfg0.bodyArgs t (cfg0.slots t)) = bodyAt0 t := by
  unfold defs₀; rw [Defs.onTc_tc]

/-- The pipeline's obligation on the body, at every point. -/
theorem obligation (c : Dev nD) :
    Pipeline.BodyObligation (dats (F := F) m 0 c) (defs₀ (F := F)) Variants.none () Set.univ forgotten := fun t => by
  rw [bigSep_W0, bigSep_W0, defs_row]
  exact triple_restated (sound_body m c t) rfl .rfl fun _ => .rfl

theorem scratch_eq (c : Dev nD) :
    (Pipeline.ΦA spec0 c : sProp (Res F))
      = iprop(((∃ d, owns (c : Thread nD τ) (Memref.whole cc0_scratch0) fullShare d)
        ∗ (∃ d, owns (c : Thread nD τ) (Memref.whole cc0_scratch1) fullShare d)) ∗ (∃ r, prngReg c r)) := by
  unfold Pipeline.ΦA; rw [scopedRest0_eq]; simp only [owns_whole]; try rfl

theorem enter (c : Dev nD) (n : ℕ) (h : n % 11 = 0) : (Pipeline.ΦA spec0 c : sProp (Res F)) ⊢ carried m c n := by
  rw [scratch_eq]; unfold carried
  iintro ⟨⟨⟨%d, HS⟩, HT⟩, Hg⟩
  iframe HT Hg
  iexists d; iframe HS
  ipureintro; exact fun _ hn => absurd h hn

theorem leave (c : Dev nD) (n : ℕ) : carried m c n ⊢ (Pipeline.ΦA spec0 c : sProp (Res F)) := by
  rw [scratch_eq]; unfold carried
  iintro ⟨⟨⟨%d, %hd, HS⟩, HT⟩, Hg⟩
  iframe HT Hg
  iexists d; iexact HS

/-- What the run leaves: each claimed output at its tiles' values, every argument as launched. -/
abbrev Post (r : PUnit × MemSt nD τ sig (Elt F)) : Prop :=
  Pipeline.RDat.FramePost cfg0 (fun c => (dats m 0 c).toRForget forgotten) (V m) r

set_option backward.isDefEq.respectTransparency.types false in
theorem run_quiescent : θ_run defs (onTc (τ := τ) (main (F := F))) (s₀ m ρ) (fun r => Post m r ∧ r.2.sem = fun _ => 0) :=
  Pipeline.θ_run_frame_track_forget (Q' := _) cfgs (dats m) (0 : Fin 1) launch0 defs₀ Variants.none forgotten m ρ main
    (hbody := fun c => (obligation m c).loose) (hshare := fun c => (dats m 0 c).share_full fun _ => rfl)
    (howed := fun _ _ => rfl) (V := V m) (hmain := hmain m Variants.none) (hA := A_eq m)
    (hin := fun c => enter m c 0 rfl) (hout := fun c => leave m c 572)

/-- Every argument is as launched. -/
theorem kept {r : PUnit × MemSt nD τ sig (Elt F)} (h : Post m r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) := by
  refine ⟨(Pipeline.RDat.FramePost.arr_in h c 0 rfl).trans ((A_eq m c 0).trans (V_main_arg0 m c)), ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c)⟩

end Cert.InProof
end
end
-- ==== Proof.InValue.lean ====
/- What the input projection's call leaves in the arrays of the recurrence's queries, values and output gate. -/
module

public import Idealize.ShloMosaic.Lib.Pipeline.ValueKit
public import Idealize.ShloMosaic.Lib.StableHlo.ReadAt
public import Idealize.ShloMosaic.Lib.Pointwise
public import proofs.«01_k».proof.Proof.InBlock
public import proofs.«01_k».proof.Proof.InFrame

@[expose] public section

set_option maxRecDepth 16384

noncomputable section

namespace Cert.InProof

open Cert.InIdeal Cert.InIdeal.Gen Idealize.ShloMosaic Idealize.ShloMosaic.TcCoe Cert.InSpec
open Cert.OutSpec (normed part)

variable (m : (ℓ : Loc nD τ sig) → Buf (Elt Ideal) ℓ) (c : Dev nD) (t : Fin cfg0.N)

/-- The arguments read, as launched. -/
def args : Args where
  x := m ((c : Thread nD τ).loc main_arg0)
  md := m ((c : Thread nD τ).loc main_arg1)
  mc := m ((c : Thread nD τ).loc main_arg2)
  g := m ((c : Thread nD τ).loc main_arg3)
  w := m ((c : Thread nD τ).loc main_arg4)
  lf := m ((c : Thread nD τ).loc main_arg13)
  lb := m ((c : Thread nD τ).loc main_arg14)

theorem V_x (i : S2x16640x2048.Idx) : V m c main_arg0 i = (args m c).x i := congrFun (V_main_arg0 m c) i

theorem V_g (e : Fin 2048) : V m c main_v42 (ix2 0 e) = (args m c).g (ix1 e) := by
  unfold V args
  after_reads_at

theorem V_lf (e : Fin 512) : V m c main_v53 (ix2 0 e) = (args m c).lf (ix1 e) := by
  unfold V args
  after_reads_at

theorem V_lb (e : Fin 512) : V m c main_v54 (ix2 0 e) = (args m c).lb (ix1 e) := by
  unfold V args
  after_reads_at

theorem V_w (k : Fin 11) (j : Fin 2048) (e : Fin 512) : V m c main_v41 (ix3 k j e) = (args m c).w (ix2 j (column k e)) := by
  unfold V args column
  after_reads_at
  exact congrArg (fun n => m (c, Proc.tc.devRef main_arg4) (ix2 j n)) (Fin.ext (by simp only []; omega))

theorem V_mc (b : Fin 2) (y : Fin 12288) : V m c main_v4 (ix3 b 0 y) = (args m c).mc (ix1 y) := by
  unfold V args
  after_reads_at

theorem V_md (b : Fin 2) (y : Fin 12288) : V m c main_v4 (ix3 b 1 y) = (args m c).md (ix2 b y) := by
  unfold V args
  after_reads_at

/-- The blocks of the point `t`: of one batch, 640 rows and one tile of columns. -/
theorem idx : ∀ t : Fin cfg0.N, win0_0.index t = ![t.val / 286, t.val / 11 % 26, 0] ∧ win0_1.index t = ![t.val / 286, 0, 0]
    ∧ win0_2.index t = ![0, 0] ∧ win0_3.index t = ![t.val % 11, 0, 0] ∧ win0_22.index t = ![t.val / 286, t.val / 11 % 26, 0]
    ∧ win0_14.index t = ![0, 0] ∧ win0_15.index t = ![0, 0]
    ∧ win0_23.index t = ![t.val / 286, if t.val % 11 ≤ 7 then 0 else 1, t.val / 11 % 26, 0]
    ∧ win0_24.index t = ![t.val / 286, if t.val % 11 ≤ 7 then 0 else 1, t.val / 11 % 26, 0]
    ∧ win0_18.index t = ![t.val / 286, t.val / 11 % 26, 0] ∧ win0_21.index t = ![t.val / 286, t.val / 11 % 26, 0]
    ∧ win0_25.index t = ![t.val / 286, t.val / 11 % 26, 0] ∧ win0_26.index t = ![t.val / 286, t.val / 11 % 26, 0] :=
  (by decide +kernel : ∀ t : Fin grid0.N, _)

theorem coord : ∀ t : Fin cfg0.N, ((grid0.coords t) 1).val = t.val / 11 % 26 :=
  (by decide +kernel : ∀ t : Fin grid0.N, _)

theorem lt_N : t.val < 572 := lt_of_lt_of_eq t.isLt points

/-- The batch of a point, and its rows. -/
def bt : Fin 2 := ⟨t.val / 286, by have := lt_N t; omega⟩
def row (r : Fin 640) : Fin 16640 := ⟨640 * (t.val / 11 % 26) + r.val, by omega⟩

theorem base_div (k : Fin 11) : (base t k).val / 11 = t.val / 11 := by
  show (11 * (t.val / 11) + k.val) / 11 = _
  omega

theorem bt_base (k : Fin 11) : bt (base t k) = bt t :=
  Fin.ext (by have := base_div t k; simp only [bt]; omega)

theorem row_base (k : Fin 11) : row (base t k) = row t := by
  have := base_div t k
  funext r
  exact Fin.ext (by simp only [row, this])

theorem blk_x (r : Fin 640) (e : Fin 2048) : iblk m c 0 t (ix3 0 r e) = (args m c).x (ix3 (bt t) (row t r) e) := by
  refine Eq.trans ?_ (V_x m c _)
  blk_ext [iblk, idx t, bt, row]

theorem blk_mod (k : Fin 2) (y : Fin 12288) : iblk m c 1 t (ix3 0 k y) = V m c main_v4 (ix3 (bt t) k y) := by
  blk_ext [iblk, idx t, bt]

theorem blk_g (e : Fin 2048) : iblk m c 2 t (ix2 0 e) = (args m c).g (ix1 e) := by
  refine Eq.trans ?_ (V_g m c _)
  blk_ext [iblk, idx t]

theorem blk_lf (e : Fin 512) : iblk m c 14 t (ix2 0 e) = (args m c).lf (ix1 e) := by
  refine Eq.trans ?_ (V_lf m c _)
  blk_ext [iblk, idx t]

theorem blk_lb (e : Fin 512) : iblk m c 15 t (ix2 0 e) = (args m c).lb (ix1 e) := by
  refine Eq.trans ?_ (V_lb m c _)
  blk_ext [iblk, idx t]

theorem blk_w (k : Fin 11) (j : Fin 2048) (e : Fin 512) : iblk m c 3 (base t k) (ix3 0 j e) = (args m c).w (ix2 j (column k e)) := by
  have h : (base t k).val % 11 = k.val := by
    show (11 * (t.val / 11) + k.val) % 11 = _
    omega
  refine Eq.trans ?_ (V_w m c _ _ _)
  blk_ext [iblk, idx (base t k), h]

theorem mod_at (r : Fin 640) (k : Fin 6) :
    modB (t.val / 11 % 26) (iblk m c 1 t) r k = (args m c).mod (bt t) (row t r) k := by
  funext e
  unfold modB Args.mod
  rw [blk_mod, blk_mod, V_mc, V_md]
  rfl

/-- The rows kept for a block of points. -/
theorem rowsAt_apply (r : Fin 640) (e : Fin 2048) : rowsAt m c t (ix2 r e) = (args m c).first (bt t) (row t r) e := by
  unfold rowsAt Args.first
  rw [rows_apply _ _ _ _ (by rw [coord]; omega), coord]
  simp only [mod_at, blk_x, blk_g, bt_base, row_base]
  rfl

/-- Their projection by the columns of tile `k`. -/
theorem accAt_apply (k : Fin 11) (r : Fin 640) (e : Fin 512) : accAt m c t k (ix2 r e) = (args m c).proj k (bt t) (row t r) e := by
  unfold accAt Args.proj
  rw [acc_apply]
  exact Finset.sum_congr rfl fun j _ => congrArg₂ _ (rowsAt_apply m c t r j) (blk_w m c t k j e)

/-- An index of a block, by its row and its column. -/
theorem eq_row (y : S1x640x512.Idx) : ∃ (r : Fin 640) (e : Fin 512), y = ix3 0 r e :=
  ⟨y 1, y 2, by
    funext a
    match a with
    | ⟨0, _⟩ => exact Fin.ext (by have h : (y 0).val < 1 := (y 0).isLt; show (y 0).val = 0; omega)
    | ⟨1, _⟩ => rfl
    | ⟨2, _⟩ => rfl⟩

theorem eq_wide_row (y : S1x640x1024.Idx) : ∃ (r : Fin 640) (e : Fin 1024), y = ix3 0 r e :=
  ⟨y 1, y 2, by
    funext a
    match a with
    | ⟨0, _⟩ => exact Fin.ext (by have h : (y 0).val < 1 := (y 0).isLt; show (y 0).val = 0; omega)
    | ⟨1, _⟩ => rfl
    | ⟨2, _⟩ => rfl⟩

/-- The values of the first attention. -/
theorem emb18 (r : Fin 640) (e : Fin 512) : (win0_18.blk t).view.emb (ix3 0 r e : S1x640x512.Idx) = (ix3 (bt t) (row t r) e : S2x16640x512.Idx) := by
  funext a
  match a with
  | ⟨0, _⟩ => exact Fin.ext (by blk_simp [idx t, bt]; rfl)
  | ⟨1, _⟩ => exact Fin.ext (by blk_simp [idx t, row]; dsimp only; omega)
  | ⟨2, _⟩ => exact Fin.ext (by blk_simp [idx t])

theorem final18 : (dats m 0 c).arrAt 18 cfg0.N = (args m c).values2 := by
  refine (dats m 0 c).arrAt_eq_of_covers 18 _ (by decide +kernel) fun t hf y => ?_
  blk_simp
  rw [after_18]
  obtain ⟨r, e, rfl⟩ := eq_row y
  refine Eq.trans ?_ (congrArg (args m c).values2 (emb18 t r e)).symm
  exact besideAt_apply _ _ _ _ _ fun e => accAt_apply m c t 2 r e

/-- The values of the second attention. -/
theorem emb21 (r : Fin 640) (e : Fin 1024) : (win0_21.blk t).view.emb (ix3 0 r e : S1x640x1024.Idx) = (ix3 (bt t) (row t r) e : S2x16640x1024.Idx) := by
  funext a
  match a with
  | ⟨0, _⟩ => exact Fin.ext (by blk_simp [idx t, bt]; rfl)
  | ⟨1, _⟩ => exact Fin.ext (by blk_simp [idx t, row]; dsimp only; omega)
  | ⟨2, _⟩ => exact Fin.ext (by blk_simp [idx t])

theorem final21 : (dats m 0 c).arrAt 21 cfg0.N = (args m c).values4 := by
  refine (dats m 0 c).arrAt_eq_of_covers 21 _ (by decide +kernel) fun t hf y => ?_
  blk_simp
  rw [after_21]
  obtain ⟨r, e, rfl⟩ := eq_wide_row y
  refine Eq.trans ?_ (congrArg (args m c).values4 (emb21 t r e)).symm
  exact besideAt_apply _ _ _ _ _ fun e => accAt_apply m c t 5 r e

/-- The direction of a point's gates. -/
def side : Fin 2 := ⟨if t.val % 11 ≤ 7 then 0 else 1, by split <;> omega⟩

theorem eq_gate_row (y : S1x1x640x512.Idx) : ∃ (r : Fin 640) (e : Fin 512), y = ix4 0 0 r e :=
  ⟨y 2, y 3, by
    funext a
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl
    | ⟨3, _⟩ => rfl⟩

/-- The recurrence's keys. -/
theorem emb23 (r : Fin 640) (e : Fin 512) :
    (win0_23.blk t).view.emb (ix4 0 0 r e : S1x1x640x512.Idx) = (ix4 (bt t) (side t) (row t r) e : S2x2x16640x512.Idx) := by
  funext a
  match a with
  | ⟨0, _⟩ => exact Fin.ext (by blk_simp [idx t, bt]; rfl)
  | ⟨1, _⟩ => exact Fin.ext (by blk_simp [idx t, side]; rfl)
  | ⟨2, _⟩ => exact Fin.ext (by blk_simp [idx t, row]; dsimp only; omega)
  | ⟨3, _⟩ => exact Fin.ext (by blk_simp [idx t])

theorem final23 : (dats m 0 c).arrAt 23 cfg0.N = (args m c).keys := by
  refine (dats m 0 c).arrAt_eq_of_covers 23 _ (by decide +kernel) fun t hf y => ?_
  blk_simp
  rw [after_23]
  obtain ⟨r, e, rfl⟩ := eq_gate_row y
  refine Eq.trans ?_ (congrArg (args m c).keys (emb23 t r e)).symm
  show _ = if (if t.val % 11 ≤ 7 then 0 else 1 : ℕ) = 0 then key ((args m c).lf (ix1 e)) ((args m c).proj 7 (bt t) (row t r) e)
    else key ((args m c).lb (ix1 e)) ((args m c).proj 8 (bt t) (row t r) e)
  unfold gateKeys
  by_cases h : t.val % 11 ≤ 7
  · rw [if_pos h, if_pos h, if_pos rfl, key_apply, accAt_apply, blk_lf]
  · rw [if_neg h, if_neg h, if_neg (by decide), key_backward, accAt_apply, blk_lb]

/-- The recurrence's logarithms of its forget gates. -/
theorem emb24 (r : Fin 640) (e : Fin 512) :
    (win0_24.blk t).view.emb (ix4 0 0 r e : S1x1x640x512.Idx) = (ix4 (bt t) (side t) (row t r) e : S2x2x16640x512.Idx) := by
  funext a
  match a with
  | ⟨0, _⟩ => exact Fin.ext (by blk_simp [idx t, bt]; rfl)
  | ⟨1, _⟩ => exact Fin.ext (by blk_simp [idx t, side]; rfl)
  | ⟨2, _⟩ => exact Fin.ext (by blk_simp [idx t, row]; dsimp only; omega)
  | ⟨3, _⟩ => exact Fin.ext (by blk_simp [idx t])

theorem final24 : (dats m 0 c).arrAt 24 cfg0.N = (args m c).logs := by
  refine (dats m 0 c).arrAt_eq_of_covers 24 _ (by decide +kernel) fun t hf y => ?_
  blk_simp
  rw [after_24]
  obtain ⟨r, e, rfl⟩ := eq_gate_row y
  refine Eq.trans ?_ (congrArg (args m c).logs (emb24 t r e)).symm
  show _ = if (if t.val % 11 ≤ 7 then 0 else 1 : ℕ) = 0 then forget ((args m c).lf (ix1 e)) ((args m c).proj 7 (bt t) (row t r) e)
    else forget ((args m c).lb (ix1 e)) ((args m c).proj 8 (bt t) (row t r) e)
  unfold gateLogs
  by_cases h : t.val % 11 ≤ 7
  · rw [if_pos h, if_pos h, if_pos rfl, forget_apply, accAt_apply, blk_lf]
  · rw [if_neg h, if_neg h, if_neg (by decide), forget_backward, accAt_apply, blk_lb]

/-- The recurrence's queries. -/
theorem emb22 (r : Fin 640) (e : Fin 512) : (win0_22.blk t).view.emb (ix3 0 r e : S1x640x512.Idx) = (ix3 (bt t) (row t r) e : S2x16640x512.Idx) := by
  funext a
  match a with
  | ⟨0, _⟩ => exact Fin.ext (by blk_simp [idx t, bt]; rfl)
  | ⟨1, _⟩ => exact Fin.ext (by blk_simp [idx t, row]; dsimp only; omega)
  | ⟨2, _⟩ => exact Fin.ext (by blk_simp [idx t])

theorem final22 : (dats m 0 c).arrAt 22 cfg0.N = (args m c).query := by
  refine (dats m 0 c).arrAt_eq_of_covers 22 _ (by decide +kernel) fun t hf y => ?_
  blk_simp
  rw [after_22]
  obtain ⟨r, e, rfl⟩ := eq_row y
  refine Eq.trans ?_ (congrArg (args m c).query (emb22 t r e)).symm
  rw [silu_apply, accAt_apply]
  rfl

/-- Its values. -/
theorem emb25 (r : Fin 640) (e : Fin 512) : (win0_25.blk t).view.emb (ix3 0 r e : S1x640x512.Idx) = (ix3 (bt t) (row t r) e : S2x16640x512.Idx) := by
  funext a
  match a with
  | ⟨0, _⟩ => exact Fin.ext (by blk_simp [idx t, bt]; rfl)
  | ⟨1, _⟩ => exact Fin.ext (by blk_simp [idx t, row]; dsimp only; omega)
  | ⟨2, _⟩ => exact Fin.ext (by blk_simp [idx t])

theorem final25 : (dats m 0 c).arrAt 25 cfg0.N = (args m c).value := by
  refine (dats m 0 c).arrAt_eq_of_covers 25 _ (by decide +kernel) fun t hf y => ?_
  blk_simp
  rw [after_25]
  obtain ⟨r, e, rfl⟩ := eq_row y
  refine Eq.trans ?_ (congrArg (args m c).value (emb25 t r e)).symm
  rw [value_apply, accAt_apply]
  rfl

/-- Its output gate. -/
theorem emb26 (r : Fin 640) (e : Fin 512) : (win0_26.blk t).view.emb (ix3 0 r e : S1x640x512.Idx) = (ix3 (bt t) (row t r) e : S2x16640x512.Idx) := by
  funext a
  match a with
  | ⟨0, _⟩ => exact Fin.ext (by blk_simp [idx t, bt]; rfl)
  | ⟨1, _⟩ => exact Fin.ext (by blk_simp [idx t, row]; dsimp only; omega)
  | ⟨2, _⟩ => exact Fin.ext (by blk_simp [idx t])

theorem final26 : (dats m 0 c).arrAt 26 cfg0.N = (args m c).gate := by
  refine (dats m 0 c).arrAt_eq_of_covers 26 _ (by decide +kernel) fun t hf y => ?_
  blk_simp
  rw [after_26]
  obtain ⟨r, e, rfl⟩ := eq_row y
  refine Eq.trans ?_ (congrArg (args m c).gate (emb26 t r e)).symm
  rw [gate_apply, accAt_apply]
  rfl

end Cert.InProof

end
-- ==== Proof.InRef.lean ====
/- The reference of the input projection is the specification of `InSpec`. -/
module

public import proofs.«01_k».proof.Proof.InSpec
public import proofs.«01_k».proof.Proof.OutJoin
public import proofs.«01_k».proof.Proof.Gen.InRefIdeal.Read

@[expose] public section

set_option maxRecDepth 16384

noncomputable section

namespace Cert.InRefProof

open Cert.InRefIdeal Cert.InRefIdeal.Gen Cert.InRefIdeal.Read Idealize.ShloMosaic.ValueIdx Cert.InSpec
open Idealize.ShloMosaic hiding ix1 ix2 ix3 ix4 ix5 eq_ix1 eq_ix2 eq_ix3 eq_ix4 eq_ix5
open Cert.OutSpec (normed part rms one_eq size2048_eq)

variable (A : Args)

/-- A row of the context, and a latent row. -/
abbrev up (x : Fin 256) : Fin 16640 := x.castLE (by norm_num)
abbrev lat (x : Fin 16384) : Fin 16640 := ⟨256 + x.val, by omega⟩

/-- The modulation of a row of the context, and of a latent row. -/
theorem mod_up (b : Fin 2) (r : Fin 256) (k : Fin 6) (e : Fin 2048) : A.mod b (up r) k e = A.mc (ix1 (part k e)) := if_pos r.isLt
theorem mod_lat (b : Fin 2) (r : Fin 16384) (k : Fin 6) (e : Fin 2048) : A.mod b (lat r) k e = A.md (ix2 b (part k e)) :=
  if_neg (by simp [lat])

theorem ctx_x (b : Fin 2) (r : Fin 256) (e : Fin 2048) : val_main_v0 (F := Ideal) A.x (ix3 b r e) = A.x (ix3 b (up r) e) := by
  rw [val_main_v0_apply]
  refine congrArg A.x ?_
  funext a
  match a with
  | ⟨0, _⟩ => exact Fin.ext (by simp [ix1, ix2, ix3] <;> omega)
  | ⟨1, _⟩ => exact Fin.ext (by simp [ix1, ix2, ix3] <;> omega)
  | ⟨2, _⟩ => exact Fin.ext (by simp [ix1, ix2, ix3] <;> omega)

theorem ctx_root (b : Fin 2) (r : Fin 256) :
    val_main_v14 (F := Ideal) A.x (ix3 b r (0 : Fin 1)) = rms ((1 / 2048 : ℝ) : EReal) (fun e => A.x (ix3 b (up r) e)) := by
  have e : ∀ j : Fin 2048, idx_main_v8 (idx_main_v9 (ix3 b r (0 : Fin 1))) j = ix3 b r j := fun j => eq_ix3 _
  rw [val_main_v14_apply, val_main_v13_apply, val_main_v11_apply, val_main_v12_apply, val_main_v10_apply, val_main_v9_apply, val_main_v8_apply, val_main_cst_apply, val_main_cst_0_apply, val_main_cst_1_apply]
  simp only [e, val_main_v7_apply, ctx_x, Ideal.ofBits_def, Ideal.ofBits_zero_f32, zero_add, size2048_eq, Ideal.hostDivf_def]
  rw [Ideal.div_coe (by norm_num)]
  rfl

/-- The row normalised, scaled and shifted. -/
theorem ctx_first (b : Fin 2) (r : Fin 256) (e : Fin 2048) :
    val_main_v27 (F := Ideal) A.x A.mc A.g (ix3 b r e) = A.first b (up r) e := by
  have e1 : idx_main_v2 (idx_main_v22 (idx_main_v23 (ix3 b r e))) = ix1 (part 1 e) := by
    funext a
    match a with
    | ⟨0, _⟩ => exact Fin.ext (by simp [ix1, ix2, ix3, part] <;> omega)
  have e0 : idx_main_v1 (idx_main_v25 (idx_main_v26 (ix3 b r e))) = ix1 (part 0 e) := by
    funext a
    match a with
    | ⟨0, _⟩ => exact Fin.ext (by simp [ix1, ix2, ix3, part] <;> omega)
  rw [val_main_v27_apply, val_main_v24_apply, val_main_v19_apply, val_main_v16_apply, val_main_v15_apply, val_main_v18_apply, val_main_v17_apply, val_main_v23_apply, val_main_v22_apply, val_main_v21_apply, val_main_v20_apply, val_main_v2_apply, val_main_v26_apply, val_main_v25_apply, val_main_v1_apply, e0, e1, val_main_cst_2_apply, ctx_x,
    show idx_main_v15 (ix3 b r e) = ix3 b r (0 : Fin 1) from eq_ix3 _, ctx_root,
    show idx_main_v17 (idx_main_v18 (ix3 b r e)) = ix1 e from eq_ix1 _, Args.first, normed, mod_up, mod_up, Ideal.ofBits_def, one_eq]
  rfl

theorem lat_x (b : Fin 2) (r : Fin 16384) (e : Fin 2048) : val_main_v28 (F := Ideal) A.x (ix3 b r e) = A.x (ix3 b (lat r) e) := by
  rw [val_main_v28_apply]
  refine congrArg A.x ?_
  funext a
  match a with
  | ⟨0, _⟩ => exact Fin.ext (by simp [ix1, ix2, ix3] <;> omega)
  | ⟨1, _⟩ => exact Fin.ext (by simp [ix1, ix2, ix3] <;> omega)
  | ⟨2, _⟩ => exact Fin.ext (by simp [ix1, ix2, ix3] <;> omega)

theorem lat_root (b : Fin 2) (r : Fin 16384) :
    val_main_v43 (F := Ideal) A.x (ix3 b r (0 : Fin 1)) = rms ((1 / 2048 : ℝ) : EReal) (fun e => A.x (ix3 b (lat r) e)) := by
  have e : ∀ j : Fin 2048, idx_main_v37 (idx_main_v38 (ix3 b r (0 : Fin 1))) j = ix3 b r j := fun j => eq_ix3 _
  rw [val_main_v43_apply, val_main_v42_apply, val_main_v40_apply, val_main_v41_apply, val_main_v39_apply, val_main_v38_apply, val_main_v37_apply, val_main_cst_3_apply, val_main_cst_4_apply, val_main_cst_5_apply]
  simp only [e, val_main_v36_apply, lat_x, Ideal.ofBits_def, Ideal.ofBits_zero_f32, zero_add, size2048_eq, Ideal.hostDivf_def]
  rw [Ideal.div_coe (by norm_num)]
  rfl

/-- The row normalised, scaled and shifted. -/
theorem lat_first (b : Fin 2) (r : Fin 16384) (e : Fin 2048) :
    val_main_v54 (F := Ideal) A.x A.md A.g (ix3 b r e) = A.first b (lat r) e := by
  have e1 : idx_main_v29 (idx_main_v31 (idx_main_v51 (ix3 b r e))) = ix2 b (part 1 e) := by
    funext a
    match a with
    | ⟨0, _⟩ => exact Fin.ext (by simp [ix1, ix2, ix3, part] <;> omega)
    | ⟨1, _⟩ => exact Fin.ext (by simp [ix1, ix2, ix3, part] <;> omega)
  have e0 : idx_main_v29 (idx_main_v30 (idx_main_v53 (ix3 b r e))) = ix2 b (part 0 e) := by
    funext a
    match a with
    | ⟨0, _⟩ => exact Fin.ext (by simp [ix1, ix2, ix3, part] <;> omega)
    | ⟨1, _⟩ => exact Fin.ext (by simp [ix1, ix2, ix3, part] <;> omega)
  rw [val_main_v54_apply, val_main_v52_apply, val_main_v48_apply, val_main_v45_apply, val_main_v44_apply, val_main_v47_apply, val_main_v46_apply, val_main_v51_apply, val_main_v50_apply, val_main_v49_apply, val_main_v31_apply, val_main_v53_apply, val_main_v30_apply, val_main_v29_apply, val_main_v29_apply, e0, e1, val_main_cst_6_apply, lat_x,
    show idx_main_v44 (ix3 b r e) = ix3 b r (0 : Fin 1) from eq_ix3 _, lat_root,
    show idx_main_v46 (idx_main_v47 (ix3 b r e)) = ix1 e from eq_ix1 _, Args.first, normed, mod_lat, mod_lat, Ideal.ofBits_def, one_eq]
  rfl

/-- The rows of both streams. -/
theorem all_first (b : Fin 2) (r : Fin 16640) (e : Fin 2048) :
    val_main_v55 (F := Ideal) A.x A.md A.mc A.g (ix3 b r e) = A.first b r e := by
  refine (Cert.OutRefProof.join_rows _ _ _ b r e).trans ?_
  by_cases h : r.val < 256
  · exact (dif_pos h).trans (ctx_first A b ⟨r.val, h⟩ e)
  · have hr : lat ⟨r.val - 256, by omega⟩ = r := Fin.ext (by simp only [lat]; omega)
    exact (dif_neg h).trans ((lat_first A b ⟨r.val - 256, by omega⟩ e).trans (congrArg (fun r => A.first b r e) hr))

/-- Every column of the projection. -/
theorem ref_proj (k : Fin 11) (b : Fin 2) (r : Fin 16640) (e : Fin 512) :
    val_main_v56 (F := Ideal) A.x A.md A.mc A.g A.w (ix3 b r (column k e)) = A.proj k b r e := by
  rw [val_main_v56_apply, Args.proj]
  refine Finset.sum_congr rfl fun j _ => ?_
  rw [show lidx_main_v56 (ix3 b r (column k e)) j = ix3 b r j from eq_ix3 _, all_first,
    show ridx_main_v56 (ix3 b r (column k e)) j = ix2 j (column k e) from eq_ix2 _]

theorem query_tile (b : Fin 2) (r : Fin 16640) (e : Fin 512) :
    val_main_v58 (F := Ideal) A.x A.md A.mc A.g A.w (ix3 b r e) = A.proj 6 b r e := by
  rw [val_main_v58_apply, val_main_v57_apply, ← ref_proj]
  refine congrArg _ ?_
  funext a
  match a with
  | ⟨0, _⟩ => exact Fin.ext (by simp [ix1, ix2, ix3, column] <;> omega)
  | ⟨1, _⟩ => exact Fin.ext (by simp [ix1, ix2, ix3, column] <;> omega)
  | ⟨2, _⟩ => exact Fin.ext (by simp [ix1, ix2, ix3, column] <;> omega)

theorem value_tile (b : Fin 2) (r : Fin 16640) (e : Fin 512) :
    val_main_v61 (F := Ideal) A.x A.md A.mc A.g A.w (ix3 b r e) = A.proj 9 b r e := by
  rw [val_main_v61_apply, val_main_v57_apply, ← ref_proj]
  refine congrArg _ ?_
  funext a
  match a with
  | ⟨0, _⟩ => exact Fin.ext (by simp [ix1, ix2, ix3, column] <;> omega)
  | ⟨1, _⟩ => exact Fin.ext (by simp [ix1, ix2, ix3, column] <;> omega)
  | ⟨2, _⟩ => exact Fin.ext (by simp [ix1, ix2, ix3, column] <;> omega)

theorem gate_tile (b : Fin 2) (r : Fin 16640) (e : Fin 512) :
    val_main_v62 (F := Ideal) A.x A.md A.mc A.g A.w (ix3 b r e) = A.proj 10 b r e := by
  rw [val_main_v62_apply, val_main_v57_apply, ← ref_proj]
  refine congrArg _ ?_
  funext a
  match a with
  | ⟨0, _⟩ => exact Fin.ext (by simp [ix1, ix2, ix3, column] <;> omega)
  | ⟨1, _⟩ => exact Fin.ext (by simp [ix1, ix2, ix3, column] <;> omega)
  | ⟨2, _⟩ => exact Fin.ext (by simp [ix1, ix2, ix3, column] <;> omega)

theorem ref_query : val_main_v64 (F := Ideal) A.x A.md A.mc A.g A.w = A.query := by
  funext i
  obtain ⟨b, r, e, rfl⟩ : ∃ (b : Fin 2) (r : Fin 16640) (e : Fin 512), i = ix3 b r e := ⟨_, _, _, eq_ix3 i⟩
  rw [val_main_v64_apply, val_main_v63_apply, val_main_call0_v5_apply, val_main_call0_v4_apply, val_main_call0_v3_apply, val_main_call0_v2_apply, val_main_call0_v1_apply, val_main_call0_v0_apply, val_main_call0_cst_apply, val_main_call0_cst_0_apply, query_tile, Ideal.ofBits_def, one_eq]
  rfl

theorem ref_value : val_main_v65 (F := Ideal) A.x A.md A.mc A.g A.w = A.value := by
  funext i
  obtain ⟨b, r, e, rfl⟩ : ∃ (b : Fin 2) (r : Fin 16640) (e : Fin 512), i = ix3 b r e := ⟨_, _, _, eq_ix3 i⟩
  rw [val_main_v65_apply, value_tile]
  rfl

theorem ref_gate : val_main_v67 (F := Ideal) A.x A.md A.mc A.g A.w = A.gate := by
  funext i
  obtain ⟨b, r, e, rfl⟩ : ∃ (b : Fin 2) (r : Fin 16640) (e : Fin 512), i = ix3 b r e := ⟨_, _, _, eq_ix3 i⟩
  rw [val_main_v67_apply, val_main_v66_apply, val_main_call1_v5_apply, val_main_call1_v4_apply, val_main_call1_v3_apply, val_main_call1_v2_apply, val_main_call1_v1_apply, val_main_call1_v0_apply, val_main_call1_cst_apply, val_main_call1_cst_0_apply, gate_tile, Ideal.ofBits_def, one_eq]
  rfl

/-- Heads joined with as many ones. -/
theorem join_ones2 (x y : S2x16640x2x128.Idx → EReal) (h) (b : Fin 2) (r : Fin 16640) (g : Fin 2) (j : Fin 256) :
    concatenate S2x16640x2x256 3 [⟨S2x16640x2x128, x⟩, ⟨S2x16640x2x128, y⟩] h (ix4 b r g j)
      = if h : j.val < 128 then x (ix4 b r g ⟨j.val, h⟩) else y (ix4 b r g ⟨j.val - 128, by omega⟩) := by
  pointwise
  rfl

theorem values_tile2 (b : Fin 2) (r : Fin 16640) (g : Fin 2) (d : Fin 128) :
    val_main_v71 (F := Ideal) A.x A.md A.mc A.g A.w (ix4 b r g d) = A.proj 2 b r ⟨256 + 128 * g.val + d.val, by omega⟩ := by
  rw [val_main_v71_apply, val_main_v70_apply, val_main_v68_apply, ← ref_proj]
  refine congrArg (val_main_v56 (F := Ideal) A.x A.md A.mc A.g A.w) ?_
  funext a
  match a with
  | ⟨0, _⟩ => exact Fin.ext (by simp [ix1, ix2, ix3, ix4, column] <;> omega)
  | ⟨1, _⟩ => exact Fin.ext (by simp [ix1, ix2, ix3, ix4, column] <;> omega)
  | ⟨2, _⟩ => exact Fin.ext (by simp [ix1, ix2, ix3, ix4, column] <;> omega)

theorem ref_values2 : val_main_v74 (F := Ideal) A.x A.md A.mc A.g A.w = A.values2 := by
  funext i
  obtain ⟨b, r, n, rfl⟩ : ∃ (b : Fin 2) (r : Fin 16640) (n : Fin 512), i = ix3 b r n := ⟨_, _, _, eq_ix3 i⟩
  have e : idx_main_v74 (ix3 b r n) = ix4 b r (⟨n.val / 256, by omega⟩ : Fin 2) (⟨n.val % 256, by omega⟩ : Fin 256) := by
    funext a
    match a with
    | ⟨0, _⟩ => exact Fin.ext (by simp [ix3, ix4] <;> omega)
    | ⟨1, _⟩ => exact Fin.ext (by simp [ix3, ix4] <;> omega)
    | ⟨2, _⟩ => exact Fin.ext (by simp [ix3, ix4] <;> omega)
    | ⟨3, _⟩ => exact Fin.ext (by simp [ix3, ix4] <;> omega)
  rw [val_main_v74_apply, e, val_main_v73]
  refine (join_ones2 _ _ _ b r _ _).trans ?_
  show _ = beside (A.proj 2 b r) 256 n.val
  unfold beside
  by_cases h : n.val % 256 < 128
  · rw [dif_pos h, dif_pos ⟨by omega, by omega⟩, values_tile2]
    exact congrArg (A.proj 2 b r) (Fin.ext (by simp only []; omega))
  · rw [dif_neg h, dif_neg (by omega)]
    exact bf16_one_eq

/-- Heads joined with as many ones. -/
theorem join_ones4 (x y : S2x16640x4x128.Idx → EReal) (h) (b : Fin 2) (r : Fin 16640) (g : Fin 4) (j : Fin 256) :
    concatenate S2x16640x4x256 3 [⟨S2x16640x4x128, x⟩, ⟨S2x16640x4x128, y⟩] h (ix4 b r g j)
      = if h : j.val < 128 then x (ix4 b r g ⟨j.val, h⟩) else y (ix4 b r g ⟨j.val - 128, by omega⟩) := by
  pointwise
  rfl

theorem values_tile4 (b : Fin 2) (r : Fin 16640) (g : Fin 4) (d : Fin 128) :
    val_main_v76 (F := Ideal) A.x A.md A.mc A.g A.w (ix4 b r g d) = A.proj 5 b r ⟨0 + 128 * g.val + d.val, by omega⟩ := by
  rw [val_main_v76_apply, val_main_v75_apply, val_main_v69_apply, ← ref_proj]
  refine congrArg (val_main_v56 (F := Ideal) A.x A.md A.mc A.g A.w) ?_
  funext a
  match a with
  | ⟨0, _⟩ => exact Fin.ext (by simp [ix1, ix2, ix3, ix4, column] <;> omega)
  | ⟨1, _⟩ => exact Fin.ext (by simp [ix1, ix2, ix3, ix4, column] <;> omega)
  | ⟨2, _⟩ => exact Fin.ext (by simp [ix1, ix2, ix3, ix4, column] <;> omega)

theorem ref_values4 : val_main_v79 (F := Ideal) A.x A.md A.mc A.g A.w = A.values4 := by
  funext i
  obtain ⟨b, r, n, rfl⟩ : ∃ (b : Fin 2) (r : Fin 16640) (n : Fin 1024), i = ix3 b r n := ⟨_, _, _, eq_ix3 i⟩
  have e : idx_main_v79 (ix3 b r n) = ix4 b r (⟨n.val / 256, by omega⟩ : Fin 4) (⟨n.val % 256, by omega⟩ : Fin 256) := by
    funext a
    match a with
    | ⟨0, _⟩ => exact Fin.ext (by simp [ix3, ix4] <;> omega)
    | ⟨1, _⟩ => exact Fin.ext (by simp [ix3, ix4] <;> omega)
    | ⟨2, _⟩ => exact Fin.ext (by simp [ix3, ix4] <;> omega)
    | ⟨3, _⟩ => exact Fin.ext (by simp [ix3, ix4] <;> omega)
  rw [val_main_v79_apply, e, val_main_v78]
  refine (join_ones4 _ _ _ b r _ _).trans ?_
  show _ = beside (A.proj 5 b r) 0 n.val
  unfold beside
  by_cases h : n.val % 256 < 128
  · rw [dif_pos h, dif_pos ⟨by omega, by omega⟩, values_tile4]
    exact congrArg (A.proj 5 b r) (Fin.ext (by simp only []; omega))
  · rw [dif_neg h, dif_neg (by omega)]
    exact bf16_one_eq

theorem forward_tile (b : Fin 2) (r : Fin 16640) (e : Fin 512) :
    val_main_v59 (F := Ideal) A.x A.md A.mc A.g A.w (ix3 b r e) = A.proj 7 b r e := by
  rw [val_main_v59_apply, val_main_v57_apply, ← ref_proj]
  refine congrArg _ ?_
  funext a
  match a with
  | ⟨0, _⟩ => exact Fin.ext (by simp [ix1, ix2, ix3, column] <;> omega)
  | ⟨1, _⟩ => exact Fin.ext (by simp [ix1, ix2, ix3, column] <;> omega)
  | ⟨2, _⟩ => exact Fin.ext (by simp [ix1, ix2, ix3, column] <;> omega)

theorem backward_tile (b : Fin 2) (r : Fin 16640) (e : Fin 512) :
    val_main_v60 (F := Ideal) A.x A.md A.mc A.g A.w (ix3 b r e) = A.proj 8 b r e := by
  rw [val_main_v60_apply, val_main_v57_apply, ← ref_proj]
  refine congrArg _ ?_
  funext a
  match a with
  | ⟨0, _⟩ => exact Fin.ext (by simp [ix1, ix2, ix3, column] <;> omega)
  | ⟨1, _⟩ => exact Fin.ext (by simp [ix1, ix2, ix3, column] <;> omega)
  | ⟨2, _⟩ => exact Fin.ext (by simp [ix1, ix2, ix3, column] <;> omega)

theorem key_forward (b : Fin 2) (r : Fin 16640) (e : Fin 512) :
    val_main_v105 (F := Ideal) A.x A.md A.mc A.g A.w A.lf (ix3 b r e) = key (A.lf (ix1 e)) (A.proj 7 b r e) := by
  rw [val_main_v105_apply, val_main_v104_apply, val_main_v103_apply, val_main_v95_apply, val_main_v94_apply, val_main_cst_12_apply, val_main_v102_apply, val_main_v101_apply, val_main_cst_14_apply, val_main_v100_apply, val_main_v99_apply, val_main_cst_13_apply, val_main_v98_apply, val_main_v97_apply, val_main_v96_apply, show idx_main_v103 (idx_main_v104 (ix3 b r e)) = ix1 e from eq_ix1 _,
    forward_tile, Ideal.ofBits_def, one_eq]
  rfl

theorem forget_forward (b : Fin 2) (r : Fin 16640) (e : Fin 512) :
    val_main_v106 (F := Ideal) A.x A.md A.mc A.g A.w A.lf (ix3 b r e) = forget (A.lf (ix1 e)) (A.proj 7 b r e) := by
  rw [val_main_v106_apply, val_main_v93_apply, val_main_v92_apply, val_main_v91_apply, val_main_v90_apply, val_main_v89_apply, val_main_v88_apply, val_main_v81_apply, val_main_v80_apply, val_main_cst_9_apply, val_main_v87_apply, val_main_v86_apply, val_main_cst_11_apply, val_main_v85_apply, val_main_v84_apply, val_main_cst_10_apply, val_main_v83_apply, val_main_v82_apply, show idx_main_v91 (idx_main_v92 (ix3 b r e)) = ix1 e from eq_ix1 _, show idx_main_v88 (idx_main_v89 (ix3 b r e)) = ix1 e from eq_ix1 _,
    forward_tile, Ideal.ofBits_def, one_eq]
  rfl

theorem key_backward (b : Fin 2) (r : Fin 16640) (e : Fin 512) :
    val_main_v132 (F := Ideal) A.x A.md A.mc A.g A.w A.lb (ix3 b r e) = key (A.lb (ix1 e)) (A.proj 8 b r e) := by
  rw [val_main_v132_apply, val_main_v131_apply, val_main_v130_apply, val_main_v122_apply, val_main_v121_apply, val_main_cst_18_apply, val_main_v129_apply, val_main_v128_apply, val_main_cst_20_apply, val_main_v127_apply, val_main_v126_apply, val_main_cst_19_apply, val_main_v125_apply, val_main_v124_apply, val_main_v123_apply, show idx_main_v130 (idx_main_v131 (ix3 b r e)) = ix1 e from eq_ix1 _,
    backward_tile, Ideal.ofBits_def, one_eq]
  rfl

theorem forget_backward (b : Fin 2) (r : Fin 16640) (e : Fin 512) :
    val_main_v133 (F := Ideal) A.x A.md A.mc A.g A.w A.lb (ix3 b r e) = forget (A.lb (ix1 e)) (A.proj 8 b r e) := by
  rw [val_main_v133_apply, val_main_v120_apply, val_main_v119_apply, val_main_v118_apply, val_main_v117_apply, val_main_v116_apply, val_main_v115_apply, val_main_v108_apply, val_main_v107_apply, val_main_cst_15_apply, val_main_v114_apply, val_main_v113_apply, val_main_cst_17_apply, val_main_v112_apply, val_main_v111_apply, val_main_cst_16_apply, val_main_v110_apply, val_main_v109_apply, show idx_main_v118 (idx_main_v119 (ix3 b r e)) = ix1 e from eq_ix1 _, show idx_main_v115 (idx_main_v116 (ix3 b r e)) = ix1 e from eq_ix1 _,
    backward_tile, Ideal.ofBits_def, one_eq]
  rfl

/-- The two directions stacked. -/
theorem join_sides (x y : S2x1x16640x512.Idx → EReal) (h) (b : Fin 2) (s : Fin 2) (r : Fin 16640) (e : Fin 512) :
    concatenate S2x2x16640x512 1 [⟨S2x1x16640x512, x⟩, ⟨S2x1x16640x512, y⟩] h (ix4 b s r e)
      = if h : s.val < 1 then x (ix4 b ⟨s.val, h⟩ r e) else y (ix4 b ⟨s.val - 1, by omega⟩ r e) := by
  pointwise
  rfl

theorem ref_keys : val_main_v137 (F := Ideal) A.x A.md A.mc A.g A.w A.lf A.lb = A.keys := by
  funext i
  obtain ⟨b, s, r, e, rfl⟩ : ∃ (b : Fin 2) (s : Fin 2) (r : Fin 16640) (e : Fin 512), i = ix4 b s r e := ⟨_, _, _, _, eq_ix4 i⟩
  rw [val_main_v137_apply, val_main_v136]
  change concatenate _ _ _ _ (ix4 b s r e) = _
  refine (join_sides _ _ _ b s r e).trans ?_
  show _ = if s.val = 0 then key (A.lf (ix1 e)) (A.proj 7 b r e) else key (A.lb (ix1 e)) (A.proj 8 b r e)
  by_cases h : s.val < 1
  · rw [dif_pos h, if_pos (by omega), val_main_v134_apply, show idx_main_v134 (ix4 b (⟨s.val, h⟩ : Fin 1) r e) = ix3 b r e from eq_ix3 _, key_forward]
  · rw [dif_neg h, if_neg (by omega), val_main_v135_apply, show idx_main_v135 (ix4 b (⟨s.val - 1, by omega⟩ : Fin 1) r e) = ix3 b r e from eq_ix3 _, key_backward]

theorem ref_logs : val_main_v140 (F := Ideal) A.x A.md A.mc A.g A.w A.lf A.lb = A.logs := by
  funext i
  obtain ⟨b, s, r, e, rfl⟩ : ∃ (b : Fin 2) (s : Fin 2) (r : Fin 16640) (e : Fin 512), i = ix4 b s r e := ⟨_, _, _, _, eq_ix4 i⟩
  rw [val_main_v140]
  refine (join_sides _ _ _ b s r e).trans ?_
  show _ = if s.val = 0 then forget (A.lf (ix1 e)) (A.proj 7 b r e) else forget (A.lb (ix1 e)) (A.proj 8 b r e)
  by_cases h : s.val < 1
  · rw [dif_pos h, if_pos (by omega), val_main_v138_apply, show idx_main_v138 (ix4 b (⟨s.val, h⟩ : Fin 1) r e) = ix3 b r e from eq_ix3 _, forget_forward]
  · rw [dif_neg h, if_neg (by omega), val_main_v139_apply, show idx_main_v139 (ix4 b (⟨s.val - 1, by omega⟩ : Fin 1) r e) = ix3 b r e from eq_ix3 _, forget_backward]

end Cert.InRefProof

end
-- ==== Proof.InClaims.lean ====
/- The claims about the input projection. -/
module

public import proofs.«01_k».proof.Defs
public import proofs.«01_k».proof.Proof.Gen.In
public import proofs.«01_k».proof.Proof.Gen.InIdeal.Launch
public import proofs.«01_k».proof.Proof.Gen.InIdeal.Skeleton
public import proofs.«01_k».proof.Proof.Gen.InIdeal.Frame
public import proofs.«01_k».proof.Proof.Gen.InRefIdeal.Run
public import proofs.«01_k».proof.Proof.Gen.InRefIdeal.Read
public import proofs.«01_k».proof.Proof.InSame
public import proofs.«01_k».proof.Proof.InValue
public import proofs.«01_k».proof.Proof.InRef
public import Idealize.ShloMosaic.Lib.Quiescent

@[expose] public section

set_option maxRecDepth 16384

noncomputable section

namespace Cert.InProof

open Idealize.ShloMosaic Idealize.ShloMosaic.TcCoe Idealize.SL.Sem

attribute [local instance] Cert.In.Gen.facts Cert.InIdeal.Gen.facts Cert.InRefIdeal.Gen.facts

theorem quiescent_ideal : Cert.quiescent_InIdeal := fun m ρ _ =>
  (θ_run Cert.InIdeal.defs _ _).mono (fun _ h => ⟨fun c => kept m h.1 c, h.2⟩) (run_quiescent m ρ)

theorem quiescent_kernel : Cert.quiescent_In := fun m ρ _ =>
  run_same _ _ ((θ_run Cert.InIdeal.defs _ _).mono (fun _ h => ⟨fun c => kept m h.1 c, h.2⟩) (run_quiescent m ρ))

theorem quiescent_reference : Cert.quiescent_InRefIdeal := fun m ρ _ =>
  (θ_run Cert.InRefIdeal.defs _ _).mono (fun r h => ⟨fun c => (h c).2.2.2.2.2.2.2, sem_eq_zero_of_no_sems (by decide) r.2⟩)
    (Cert.InRefIdeal.Value.run (F := Ideal) m ρ)

/-- What a run leaves in the array of a window whose blocks are not forgotten. -/
theorem left (m : (ℓ : Loc Cert.InIdeal.nD Cert.InIdeal.τ Cert.InIdeal.sig) → Buf (Elt Ideal) ℓ) {r} (h : Post m r)
    (c : Dev Cert.InIdeal.nD) (w : Fin 27) (hw : forgotten w = false) :
    r.2.mem ((Cert.InIdeal.cfg0.win w).arr.view.loc (c.tc : Thread Cert.InIdeal.nD Cert.InIdeal.τ)) = (dats m 0 c).arrAt w Cert.InIdeal.cfg0.N :=
  ((dats m 0 c).toRForget_arrAt_iff hw _ _).mp ((h c).1 w)

set_option maxHeartbeats 4000000 in
theorem algebraic : Cert.algebraic_InIdeal_InRefIdeal := by
  intro m ρ m' ρ' hpre hagree
  refine ⟨fun c => (dats m 0 c).arrAt 22 Cert.InIdeal.cfg0.N, fun c => (dats m 0 c).arrAt 25 Cert.InIdeal.cfg0.N,
    fun c => (dats m 0 c).arrAt 26 Cert.InIdeal.cfg0.N,
    fun c => (dats m 0 c).arrAt 18 Cert.InIdeal.cfg0.N, fun c => (dats m 0 c).arrAt 21 Cert.InIdeal.cfg0.N,
    fun c => (dats m 0 c).arrAt 23 Cert.InIdeal.cfg0.N, fun c => (dats m 0 c).arrAt 24 Cert.InIdeal.cfg0.N, ?_, ?_⟩
  · refine (θ_run Cert.InIdeal.defs _ _).mono (fun _ h c => ⟨?_, ?_, ?_, ?_, ?_, ?_, ?_, kept m h.1 c⟩) (run_quiescent m ρ)
    · exact left m h.1 c 22 (by decide)
    · exact left m h.1 c 25 (by decide)
    · exact left m h.1 c 26 (by decide)
    · exact left m h.1 c 18 (by decide)
    · exact left m h.1 c 21 (by decide)
    · exact left m h.1 c 23 (by decide)
    · exact left m h.1 c 24 (by decide)
  refine (θ_run Cert.InRefIdeal.defs _ _).mono
    (fun _ h c => ⟨(h c).1.trans ?_, (h c).2.1.trans ?_, (h c).2.2.1.trans ?_, (h c).2.2.2.1.trans ?_, (h c).2.2.2.2.1.trans ?_,
      (h c).2.2.2.2.2.1.trans ?_, (h c).2.2.2.2.2.2.1.trans ?_, (h c).2.2.2.2.2.2.2⟩) (Cert.InRefIdeal.Value.run (F := Ideal) m' ρ')
  all_goals obtain ⟨e0, e1, e2, e3, e4, -, -, -, -, -, -, -, -, e13, e14⟩ := hagree c
  · rw [Cert.InRefIdeal.Read.val_main_v64_eq m' c, e0, e1, e2, e3, e4]
    exact (Cert.InRefProof.ref_query (args m c)).trans (final22 m c).symm
  · rw [Cert.InRefIdeal.Read.val_main_v65_eq, e0, e1, e2, e3, e4]
    exact (Cert.InRefProof.ref_value (args m c)).trans (final25 m c).symm
  · rw [Cert.InRefIdeal.Read.val_main_v67_eq m' c, e0, e1, e2, e3, e4]
    exact (Cert.InRefProof.ref_gate (args m c)).trans (final26 m c).symm
  · rw [Cert.InRefIdeal.Read.val_main_v74_eq, e0, e1, e2, e3, e4]
    exact (Cert.InRefProof.ref_values2 (args m c)).trans (final18 m c).symm
  · rw [e0, e1, e2, e3, e4]
    exact (Cert.InRefIdeal.Read.val_main_v79_eq _ _ _ _ _).trans ((Cert.InRefProof.ref_values4 (args m c)).trans (final21 m c).symm)
  · rw [Cert.InRefIdeal.Read.val_main_v137_eq m' c, e0, e1, e2, e3, e4, e13, e14]
    exact (Cert.InRefProof.ref_keys (args m c)).trans (final23 m c).symm
  · rw [Cert.InRefIdeal.Read.val_main_v140_eq m' c, e0, e1, e2, e3, e4, e13, e14]
    exact (Cert.InRefProof.ref_logs (args m c)).trans (final24 m c).symm

end Cert.InProof

end
-- ==== Proof.lean ====
module

public import proofs.«01_k».proof.Defs
public import proofs.«01_k».proof.Proof.GqaClaims
public import proofs.«01_k».proof.Proof.DiffClaims
public import proofs.«01_k».proof.Proof.OutClaims
public import proofs.«01_k».proof.Proof.InClaims

@[expose] public section

noncomputable section

namespace Cert.Proof

theorem claim : Cert.Claim :=
  ⟨Cert.Gqa.Gen.facts, Cert.GqaIdeal.Gen.facts, Cert.GqaRefIdeal.Gen.facts, Cert.Diff.Gen.facts, Cert.DiffIdeal.Gen.facts,
    Cert.DiffRefIdeal.Gen.facts, Cert.Out.Gen.facts, Cert.OutIdeal.Gen.facts, Cert.OutRefIdeal.Gen.facts,
    Cert.In.Gen.facts, Cert.InIdeal.Gen.facts, Cert.InRefIdeal.Gen.facts,
    Cert.Pre_scores_finite.Gen.facts, Cert.Pre_all_finite.Gen.facts,
    GqaProof.quiescent_kernel, GqaProof.quiescent_ideal, GqaProof.quiescent_ideal_pre, GqaProof.quiescent_reference,
    GqaProof.quiescent_reference_pre, DiffProof.quiescent_kernel, DiffProof.quiescent_ideal, DiffProof.quiescent_ideal_pre,
    DiffProof.quiescent_reference, DiffProof.quiescent_reference_pre,
    OutProof.quiescent_kernel, OutProof.quiescent_ideal, OutProof.quiescent_reference,
    InProof.quiescent_kernel, InProof.quiescent_ideal, InProof.quiescent_reference,
    trivial, GqaProof.algebraic, trivial, DiffProof.algebraic, trivial, OutProof.algebraic, trivial, InProof.algebraic⟩

end Cert.Proof

end
